-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2_base" .f32 0x41549A78#32 (((Real.log 10000) * (Real.log 2)⁻¹ : ℝ) : EReal)
  ∧ IdealRules.named_const.Statement Cert.KernelIdeal.κ "inv_n" .f32 0x3AAAAAAB#32 ((1 / 768 : ℝ) : EReal)
  ∧ IdealRules.bf16_pair.Statement Cert.KernelIdeal.S1x1x8x2x128 Cert.KernelIdeal.S1x1x8x1x128
  ∧ IdealRules.bf16_pair.Statement Cert.KernelIdeal.S16x128 Cert.KernelIdeal.S8x128
  ∧ IdealRules.bf16_pair.PackStatement Cert.KernelIdeal.S8x128

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v3_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S20x2048x832 : Shape := ⟨3, ![20, 2048, 832]⟩
abbrev S768 : Shape := ⟨1, ![768]⟩
abbrev S20 : Shape := ⟨1, ![20]⟩
abbrev S20x2048x768 : Shape := ⟨3, ![20, 2048, 768]⟩
abbrev S_ : Shape := ⟨0, ![]⟩

class Facts : Prop where
  slices_S20x2048x832_S20x2048x768_0_0_0 : S20x2048x832.Slices ![0, 0, 0] S20x2048x768
  bitsLt_bf16_f32 : FTy.bits .bf16 < FTy.bits .f32
  bcast_S_S20x2048x768 : S_.BroadcastsInDim S20x2048x768 (![] : Fin 0 → Fin S20x2048x768.rank)
  reducesTo_S20x2048x768_S_d0_1_2 : S20x2048x768.ReducesTo [0, 1, 2] S_
  h_S_ : 0 < S_.numel
  bcast_S_S768 : S_.BroadcastsInDim S768 (![] : Fin 0 → Fin S768.rank)
  reducesTo_S768_S_d0 : S768.ReducesTo [0] S_

variable [Facts]

def fn_part1 {F : FTy → Type} [FloatOps F] (main_v3 : FVec F S768 .f32) (main_v12 : IVec S_ 1) (main_v14 : IVec S768 1) (main_v16 : IVec S768 1) (main_cst_4 : FVec F S_ .f32) : IVec S_ 1 :=
  let main_v17 : FVec F S768 .f32 := broadcastInDim S768 ![] bcast_S_S768 main_cst_4
  let main_v18 : IVec S768 1 := cmpf .ole main_v3 main_v17
  let main_v19 : IVec S768 1 := andi main_v16 main_v18
  let main_v20 : IVec S768 1 := ori main_v14 main_v19
  let main_c_5 : IVec S_ 1 := constantI S_ 1 1#1
  let main_v21 : IVec S_ 1 := (fun x v => Host.reduce IntOp.andi x v reducesTo_S768_S_d0 h_S_) main_v20 main_c_5
  let main_v22 : IVec S_ 1 := andi main_v12 main_v21
  main_v22

def fn {F : FTy → Type} [FloatOps F] (main_arg0 : FVec F S20x2048x832 .bf16) (main_arg1 : FVec F S768 .f32) (main_arg2 : IVec S20 32) : IVec S_ 1 :=
  let main_v0 : FVec F S20x2048x768 .bf16 := (extractStridedSlice S20x2048x768 ![0, 0, 0] · slices_S20x2048x832_S20x2048x768_0_0_0) main_arg0
  let main_v1 : FVec F S20x2048x768 .f32 := (extf .f32 · bitsLt_bf16_f32) main_v0
  let main_v2 : FVec F S20x2048x768 .f32 := Host.absf main_v1
  let main_v3 : FVec F S768 .f32 := Host.absf main_arg1
  let main_cst : FVec F S_ .f32 := constant S_ .f32 0x00000000#32
  let main_v4 : FVec F S20x2048x768 .f32 := broadcastInDim S20x2048x768 ![] bcast_S_S20x2048x768 main_cst
  let main_v5 : IVec S20x2048x768 1 := cmpf .oeq main_v2 main_v4
  let main_cst_0 : FVec F S_ .f32 := constant S_ .f32 0x30800000#32
  let main_v6 : FVec F S20x2048x768 .f32 := broadcastInDim S20x2048x768 ![] bcast_S_S20x2048x768 main_cst_0
  let main_v7 : IVec S20x2048x768 1 := cmpf .ole main_v6 main_v2
  let main_cst_1 : FVec F S_ .f32 := constant S_ .f32 0x4E800000#32
  let main_v8 : FVec F S20x2048x768 .f32 := broadcastInDim S20x2048x768 ![] bcast_S_S20x2048x768 main_cst_1
  let main_v9 : IVec S20x2048x768 1 := cmpf .ole main_v2 main_v8
  let main_v10 : IVec S20x2048x768 1 := andi main_v7 main_v9
  let main_v11 : IVec S20x2048x768 1 := ori main_v5 main_v10
  let main_c : IVec S_ 1 := constantI S_ 1 1#1
  let main_v12 : IVec S_ 1 := (fun x v => Host.reduce IntOp.andi x v reducesTo_S20x2048x768_S_d0_1_2 h_S_) main_v11 main_c
  let main_cst_2 : FVec F S_ .f32 := constant S_ .f32 0x00000000#32
  let main_v13 : FVec F S768 .f32 := broadcastInDim S768 ![] bcast_S_S768 main_cst_2
  let main_v14 : IVec S768 1 := cmpf .oeq main_v3 main_v13
  let main_cst_3 : FVec F S_ .f32 := constant S_ .f32 0x30800000#32
  let main_v15 : FVec F S768 .f32 := broadcastInDim S768 ![] bcast_S_S768 main_cst_3
  let main_v16 : IVec S768 1 := cmpf .ole main_v15 main_v3
  let main_cst_4 : FVec F S_ .f32 := constant S_ .f32 0x4E800000#32
  fn_part1 (F := F) main_v3 main_v12 main_v14 main_v16 main_cst_4
-- ==== Kernel.lean ====
abbrev S20x2048x832 : Shape := ⟨3, ![20, 2048, 832]⟩
abbrev S768 : Shape := ⟨1, ![768]⟩
abbrev S20 : Shape := ⟨1, ![20]⟩
abbrev S20x832x2048 : Shape := ⟨3, ![20, 832, 2048]⟩
abbrev S20x104x8x16x128 : Shape := ⟨5, ![20, 104, 8, 16, 128]⟩
abbrev S20x104x16x8x128 : Shape := ⟨5, ![20, 104, 16, 8, 128]⟩
abbrev S20x8x16x8x128 : Shape := ⟨5, ![20, 8, 16, 8, 128]⟩
abbrev S20x2048x768 : Shape := ⟨3, ![20, 2048, 768]⟩
abbrev S6x20x2048 : Shape := ⟨3, ![6, 20, 2048]⟩
abbrev S1x104x16x8x128 : Shape := ⟨5, ![1, 104, 16, 8, 128]⟩
abbrev S1x8x16x8x128 : Shape := ⟨5, ![1, 8, 16, 8, 128]⟩
abbrev S1x2048x768 : Shape := ⟨3, ![1, 2048, 768]⟩
abbrev S768x128 : Shape := ⟨2, ![768, 128]⟩
abbrev S96x2x8x128 : Shape := ⟨4, ![96, 2, 8, 128]⟩
abbrev S3x32x128 : Shape := ⟨3, ![3, 32, 128]⟩
abbrev S4x32x128 : Shape := ⟨3, ![4, 32, 128]⟩
abbrev S2x32x8x128 : Shape := ⟨4, ![2, 32, 8, 128]⟩
abbrev S1 : Shape := ⟨1, ![1]⟩
abbrev S8x128 : Shape := ⟨2, ![8, 128]⟩
abbrev S128 : Shape := ⟨1, ![128]⟩
abbrev S1x128 : Shape := ⟨2, ![1, 128]⟩
abbrev S128x128 : Shape := ⟨2, ![128, 128]⟩
abbrev S32x128 : Shape := ⟨2, ![32, 128]⟩
abbrev S1x32x128 : Shape := ⟨3, ![1, 32, 128]⟩
abbrev S1x1x128 : Shape := ⟨3, ![1, 1, 128]⟩
abbrev S1x1x8x128 : Shape := ⟨4, ![1, 1, 8, 128]⟩
abbrev S32 : Shape := ⟨1, ![32]⟩
abbrev S32x1 : Shape := ⟨2, ![32, 1]⟩
abbrev S1x1x2x8x128 : Shape := ⟨5, ![1, 1, 2, 8, 128]⟩
abbrev S2x8x128 : Shape := ⟨3, ![2, 8, 128]⟩
abbrev S16x128 : Shape := ⟨2, ![16, 128]⟩
abbrev S8x256 : Shape := ⟨2, ![8, 256]⟩
abbrev S1x256 : Shape := ⟨2, ![1, 256]⟩
abbrev S1x1x256 : Shape := ⟨3, ![1, 1, 256]⟩
abbrev S1x128x128 : Shape := ⟨3, ![1, 128, 128]⟩
abbrev S1x104x16x4x128 : Shape := ⟨5, ![1, 104, 16, 4, 128]⟩
abbrev S1x1x8x1x128 : Shape := ⟨5, ![1, 1, 8, 1, 128]⟩
abbrev S1x1x8x2x128 : Shape := ⟨5, ![1, 1, 8, 2, 128]⟩
abbrev S1x8x16x4x128 : Shape := ⟨5, ![1, 8, 16, 4, 128]⟩

abbrev nBuf : Space → Nat
  | .hbm => 8
  | .vmem => 14
  | .smem => 1
  | _ => 0

abbrev bufTy : (tb : Table) → Fin (tcTables nBuf tb) → BufTy
  | .hbm, ⟨0, _⟩ => ⟨S20x2048x832, .bf16⟩
  | .hbm, ⟨1, _⟩ => ⟨S768, .f32⟩
  | .hbm, ⟨2, _⟩ => ⟨S20x832x2048, .bf16⟩
  | .hbm, ⟨3, _⟩ => ⟨S20x104x8x16x128, .bf16⟩
  | .hbm, ⟨4, _⟩ => ⟨S20x104x16x8x128, .bf16⟩
  | .hbm, ⟨5, _⟩ => ⟨S20x8x16x8x128, .bf16⟩
  | .hbm, ⟨6, _⟩ => ⟨S20x2048x768, .fp8e4m3⟩
  | .hbm, ⟨7, _⟩ => ⟨S6x20x2048, .f32⟩
  | .local _ .vmem, ⟨0, _⟩ => ⟨S1x104x16x8x128, .bf16⟩
  | .local _ .vmem, ⟨1, _⟩ => ⟨S1x104x16x8x128, .bf16⟩
  | .local _ .vmem, ⟨2, _⟩ => ⟨S768, .f32⟩
  | .local _ .vmem, ⟨3, _⟩ => ⟨S1x8x16x8x128, .bf16⟩
  | .local _ .vmem, ⟨4, _⟩ => ⟨S1x8x16x8x128, .bf16⟩
  | .local _ .vmem, ⟨5, _⟩ => ⟨S1x2048x768, .fp8e4m3⟩
  | .local _ .vmem, ⟨6, _⟩ => ⟨S1x2048x768, .fp8e4m3⟩
  | .local _ .vmem, ⟨7, _⟩ => ⟨S6x20x2048, .f32⟩
  | .local _ .vmem, ⟨8, _⟩ => ⟨S768x128, .f32⟩
  | .local _ .vmem, ⟨9, _⟩ => ⟨S96x2x8x128, .f32⟩
  | .local _ .vmem, ⟨10, _⟩ => ⟨S3x32x128, .f32⟩
  | .local _ .vmem, ⟨11, _⟩ => ⟨S4x32x128, .f32⟩
  | .local _ .vmem, ⟨12, _⟩ => ⟨S2x32x8x128, .f32⟩
  | .local _ .vmem, ⟨13, _⟩ => ⟨S4x32x128, .f32⟩
  | .local _ .smem, ⟨0, _⟩ => ⟨S20, .i32⟩
  | _, _ => ⟨S20x2048x832, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [BitOps F]

abbrev grid0 : Pipeline.Grid := ⟨1, ![20], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_0 : BitVec 32 := 0#32
  let v9 : BitVec 1 := Scalar.cmpi .ne v8 c0_i32_0
  v9

@[reducible] def k0_t1_loop : Scf.Loop 32 :=
  let c0_i32_81 : BitVec 32 := 0#32
  let c32_i32 : BitVec 32 := 32#32
  let v298 : BitVec 32 := Scalar.addi c0_i32_81 c32_i32
  let c1_i32_82 : BitVec 32 := 1#32
  ⟨c0_i32_81, v298, c1_i32_82⟩
def k0_off2 (k0_t1 : Fin k0_t1_loop.trips) : Fin 3 → Nat :=
  let c0_84 : Index := 0#32
  let c0_i32_81 : BitVec 32 := 0#32
  let c1_i32_82 : BitVec 32 := 1#32
  let arg13 : BitVec 32 := Scf.iv c0_i32_81 c1_i32_82 k0_t1
  let v300 : Index := Scalar.indexCast arg13
  let c0_85 : Index := 0#32
  ![0, v300.toNat, 0]
def k0_off3 (k0_t1 : Fin k0_t1_loop.trips) : Fin 3 → Nat :=
  let c1_86 : Index := 1#32
  let c0_i32_81 : BitVec 32 := 0#32
  let c1_i32_82 : BitVec 32 := 1#32
  let arg13 : BitVec 32 := Scf.iv c0_i32_81 c1_i32_82 k0_t1
  let v303 : Index := Scalar.indexCast arg13
  let c0_87 : Index := 0#32
  ![1, v303.toNat, 0]
def k0_off4 (k0_t1 : Fin k0_t1_loop.trips) : Fin 3 → Nat :=
  let c2_88 : Index := 2#32
  let c0_i32_81 : BitVec 32 := 0#32
  let c1_i32_82 : BitVec 32 := 1#32
  let arg13 : BitVec 32 := Scf.iv c0_i32_81 c1_i32_82 k0_t1
  let v306 : Index := Scalar.indexCast arg13
  let c0_89 : Index := 0#32
  ![2, v306.toNat, 0]
def k0_off5 (k0_t1 : Fin k0_t1_loop.trips) : Fin 4 → Nat :=
  let c0_90 : Index := 0#32
  let c0_i32_81 : BitVec 32 := 0#32
  let c1_i32_82 : BitVec 32 := 1#32
  let arg13 : BitVec 32 := Scf.iv c0_i32_81 c1_i32_82 k0_t1
  let v325 : Index := Scalar.indexCast arg13
  let c0_91 : Index := 0#32
  let c0_92 : Index := 0#32
  ![0, v325.toNat, 0, 0]
def k0_off6 (k0_t1 : Fin k0_t1_loop.trips) : Fin 4 → Nat :=
  let c1_93 : Index := 1#32
  let c0_i32_81 : BitVec 32 := 0#32
  let c1_i32_82 : BitVec 32 := 1#32
  let arg13 : BitVec 32 := Scf.iv c0_i32_81 c1_i32_82 k0_t1
  let v329 : Index := Scalar.indexCast arg13
  let c0_94 : Index := 0#32
  let c0_95 : Index := 0#32
  ![1, v329.toNat, 0, 0]
@[reducible] def k0_t2_loop : Scf.Loop 32 :=
  let c0_i32_28 : BitVec 32 := 0#32
  let c8_i32 : BitVec 32 := 8#32
  let v63 : BitVec 32 := Scalar.addi c0_i32_28 c8_i32
  let c1_i32 : BitVec 32 := 1#32
  ⟨c0_i32_28, v63, c1_i32⟩
def k0_off7 (k0_t2 : Fin k0_t2_loop.trips) : Fin 5 → Nat :=
  let c0_33 : Index := 0#32
  let c0_34 : Index := 0#32
  let c0_i32_28 : BitVec 32 := 0#32
  let c1_i32 : BitVec 32 := 1#32
  let arg13 : BitVec 32 := Scf.iv c0_i32_28 c1_i32 k0_t2
  let c2_i32 : BitVec 32 := 2#32
  let v65 : BitVec 32 := Scalar.muli arg13 c2_i32
  let c0_i32_32 : BitVec 32 := 0#32
  let v66 : BitVec 32 := Scalar.addi v65 c0_i32_32
  let v67 : Index := Scalar.indexCast v66
  let c0_35 : Index := 0#32
  let c0_36 : Index := 0#32
  ![0, 0, v67.toNat, 0, 0]
def k0_off8 (k0_t2 : Fin k0_t2_loop.trips) : Fin 5 → Nat :=
  let c0_48 : Index := 0#32
  let c1_49 : Index := 1#32
  let c0_i32_28 : BitVec 32 := 0#32
  let c1_i32 : BitVec 32 := 1#32
  let arg13 : BitVec 32 := Scf.iv c0_i32_28 c1_i32 k0_t2
  let c2_i32_46 : BitVec 32 := 2#32
  let v87 : BitVec 32 := Scalar.muli arg13 c2_i32_46
  let c0_i32_47 : BitVec 32 := 0#32
  let v88 : BitVec 32 := Scalar.addi v87 c0_i32_47
  let v89 : Index := Scalar.indexCast v88
  let c0_50 : Index := 0#32
  let c0_51 : Index := 0#32
  ![0, 1, v89.toNat, 0, 0]
def k0_off9 (k0_t2 : Fin k0_t2_loop.trips) : Fin 5 → Nat :=
  let c0_63 : Index := 0#32
  let c2_64 : Index := 2#32
  let c0_i32_28 : BitVec 32 := 0#32
  let c1_i32 : BitVec 32 := 1#32
  let arg13 : BitVec 32 := Scf.iv c0_i32_28 c1_i32 k0_t2
  let c2_i32_61 : BitVec 32 := 2#32
  let v113 : BitVec 32 := Scalar.muli arg13 c2_i32_61
  let c0_i32_62 : BitVec 32 := 0#32
  let v114 : BitVec 32 := Scalar.addi v113 c0_i32_62
  let v115 : Index := Scalar.indexCast v114
  let c0_65 : Index := 0#32
  let c0_66 : Index := 0#32
  ![0, 2, v115.toNat, 0, 0]
def k0_off10 (k0_t2 : Fin k0_t2_loop.trips) : Fin 5 → Nat :=
  let c0_78 : Index := 0#32
  let c3_79 : Index := 3#32
  let c0_i32_28 : BitVec 32 := 0#32
  let c1_i32 : BitVec 32 := 1#32
  let arg13 : BitVec 32 := Scf.iv c0_i32_28 c1_i32 k0_t2
  let c2_i32_76 : BitVec 32 := 2#32
  let v139 : BitVec 32 := Scalar.muli arg13 c2_i32_76
  let c0_i32_77 : BitVec 32 := 0#32
  let v140 : BitVec 32 := Scalar.addi v139 c0_i32_77
  let v141 : Index := Scalar.indexCast v140
  let c0_80 : Index := 0#32
  let c0_81 : Index := 0#32
  ![0, 3, v141.toNat, 0, 0]
def k0_off11 (k0_t2 : Fin k0_t2_loop.trips) : Fin 5 → Nat :=
  let c0_93 : Index := 0#32
  let c4 : Index := 4#32
  let c0_i32_28 : BitVec 32 := 0#32
  let c1_i32 : BitVec 32 := 1#32
  let arg13 : BitVec 32 := Scf.iv c0_i32_28 c1_i32 k0_t2
  let c2_i32_91 : BitVec 32 := 2#32
  let v165 : BitVec 32 := Scalar.muli arg13 c2_i32_91
  let c0_i32_92 : BitVec 32 := 0#32
  let v166 : BitVec 32 := Scalar.addi v165 c0_i32_92
  let v167 : Index := Scalar.indexCast v166
  let c0_94 : Index := 0#32
  let c0_95 : Index := 0#32
  ![0, 4, v167.toNat, 0, 0]
def k0_off12 (k0_t2 : Fin k0_t2_loop.trips) : Fin 5 → Nat :=
  let c0_107 : Index := 0#32
  let c5 : Index := 5#32
  let c0_i32_28 : BitVec 32 := 0#32
  let c1_i32 : BitVec 32 := 1#32
  let arg13 : BitVec 32 := Scf.iv c0_i32_28 c1_i32 k0_t2
  let c2_i32_105 : BitVec 32 := 2#32
  let v191 : BitVec 32 := Scalar.muli arg13 c2_i32_105
  let c0_i32_106 : BitVec 32 := 0#32
  let v192 : BitVec 32 := Scalar.addi v191 c0_i32_106
  let v193 : Index := Scalar.indexCast v192
  let c0_108 : Index := 0#32
  let c0_109 : Index := 0#32
  ![0, 5, v193.toNat, 0, 0]
def k0_off13 (k0_t2 : Fin k0_t2_loop.trips) : Fin 5 → Nat :=
  let c0_121 : Index := 0#32
  let c6 : Index := 6#32
  let c0_i32_28 : BitVec 32 := 0#32
  let c1_i32 : BitVec 32 := 1#32
  let arg13 : BitVec 32 := Scf.iv c0_i32_28 c1_i32 k0_t2
  let c2_i32_119 : BitVec 32 := 2#32
  let v217 : BitVec 32 := Scalar.muli arg13 c2_i32_119
  let c0_i32_120 : BitVec 32 := 0#32
  let v218 : BitVec 32 := Scalar.addi v217 c0_i32_120
  let v219 : Index := Scalar.indexCast v218
  let c0_122 : Index := 0#32
  let c0_123 : Index := 0#32
  ![0, 6, v219.toNat, 0, 0]
def k0_off14 (k0_t2 : Fin k0_t2_loop.trips) : Fin 5 → Nat :=
  let c0_135 : Index := 0#32
  let c7 : Index := 7#32
  let c0_i32_28 : BitVec 32 := 0#32
  let c1_i32 : BitVec 32 := 1#32
  let arg13 : BitVec 32 := Scf.iv c0_i32_28 c1_i32 k0_t2
  let c2_i32_133 : BitVec 32 := 2#32
  let v243 : BitVec 32 := Scalar.muli arg13 c2_i32_133
  let c0_i32_134 : BitVec 32 := 0#32
  let v244 : BitVec 32 := Scalar.addi v243 c0_i32_134
  let v245 : Index := Scalar.indexCast v244
  let c0_136 : Index := 0#32
  let c0_137 : Index := 0#32
  ![0, 7, v245.toNat, 0, 0]
def k0_off15 (k0_t2 : Fin k0_t2_loop.trips) : Fin 5 → Nat :=
  let c0_149 : Index := 0#32
  let c8_150 : Index := 8#32
  let c0_i32_28 : BitVec 32 := 0#32
  let c1_i32 : BitVec 32 := 1#32
  let arg13 : BitVec 32 := Scf.iv c0_i32_28 c1_i32 k0_t2
  let c2_i32_147 : BitVec 32 := 2#32
  let v269 : BitVec 32 := Scalar.muli arg13 c2_i32_147
  let c0_i32_148 : BitVec 32 := 0#32
  let v270 : BitVec 32 := Scalar.addi v269 c0_i32_148
  let v271 : Index := Scalar.indexCast v270
  let c0_151 : Index := 0#32
  let c0_152 : Index := 0#32
  ![0, 8, v271.toNat, 0, 0]
def k0_off16 (k0_t2 : Fin k0_t2_loop.trips) : Fin 5 → Nat :=
  let c0_164 : Index := 0#32
  let c9 : Index := 9#32
  let c0_i32_28 : BitVec 32 := 0#32
  let c1_i32 : BitVec 32 := 1#32
  let arg13 : BitVec 32 := Scf.iv c0_i32_28 c1_i32 k0_t2
  let c2_i32_162 : BitVec 32 := 2#32
  let v295 : BitVec 32 := Scalar.muli arg13 c2_i32_162
  let c0_i32_163 : BitVec 32 := 0#32
  let v296 : BitVec 32 := Scalar.addi v295 c0_i32_163
  let v297 : Index := Scalar.indexCast v296
  let c0_165 : Index := 0#32
  let c0_166 : Index := 0#32
  ![0, 9, v297.toNat, 0, 0]
def k0_off17 (k0_t2 : Fin k0_t2_loop.trips) : Fin 5 → Nat :=
  let c0_178 : Index := 0#32
  let c10 : Index := 10#32
  let c0_i32_28 : BitVec 32 := 0#32
  let c1_i32 : BitVec 32 := 1#32
  let arg13 : BitVec 32 := Scf.iv c0_i32_28 c1_i32 k0_t2
  let c2_i32_176 : BitVec 32 := 2#32
  let v321 : BitVec 32 := Scalar.muli arg13 c2_i32_176
  let c0_i32_177 : BitVec 32 := 0#32
  let v322 : BitVec 32 := Scalar.addi v321 c0_i32_177
  let v323 : Index := Scalar.indexCast v322
  let c0_179 : Index := 0#32
  let c0_180 : Index := 0#32
  ![0, 10, v323.toNat, 0, 0]
def k0_off18 (k0_t2 : Fin k0_t2_loop.trips) : Fin 5 → Nat :=
  let c0_192 : Index := 0#32
  let c11 : Index := 11#32
  let c0_i32_28 : BitVec 32 := 0#32
  let c1_i32 : BitVec 32 := 1#32
  let arg13 : BitVec 32 := Scf.iv c0_i32_28 c1_i32 k0_t2
  let c2_i32_190 : BitVec 32 := 2#32
  let v347 : BitVec 32 := Scalar.muli arg13 c2_i32_190
  let c0_i32_191 : BitVec 32 := 0#32
  let v348 : BitVec 32 := Scalar.addi v347 c0_i32_191
  let v349 : Index := Scalar.indexCast v348
  let c0_193 : Index := 0#32
  let c0_194 : Index := 0#32
  ![0, 11, v349.toNat, 0, 0]
def k0_off19 (k0_t2 : Fin k0_t2_loop.trips) : Fin 5 → Nat :=
  let c0_206 : Index := 0#32
  let c12 : Index := 12#32
  let c0_i32_28 : BitVec 32 := 0#32
  let c1_i32 : BitVec 32 := 1#32
  let arg13 : BitVec 32 := Scf.iv c0_i32_28 c1_i32 k0_t2
  let c2_i32_204 : BitVec 32 := 2#32
  let v373 : BitVec 32 := Scalar.muli arg13 c2_i32_204
  let c0_i32_205 : BitVec 32 := 0#32
  let v374 : BitVec 32 := Scalar.addi v373 c0_i32_205
  let v375 : Index := Scalar.indexCast v374
  let c0_207 : Index := 0#32
  let c0_208 : Index := 0#32
  ![0, 12, v375.toNat, 0, 0]
def k0_off20 (k0_t2 : Fin k0_t2_loop.trips) : Fin 5 → Nat :=
  let c0_220 : Index := 0#32
  let c13 : Index := 13#32
  let c0_i32_28 : BitVec 32 := 0#32
  let c1_i32 : BitVec 32 := 1#32
  let arg13 : BitVec 32 := Scf.iv c0_i32_28 c1_i32 k0_t2
  let c2_i32_218 : BitVec 32 := 2#32
  let v399 : BitVec 32 := Scalar.muli arg13 c2_i32_218
  let c0_i32_219 : BitVec 32 := 0#32
  let v400 : BitVec 32 := Scalar.addi v399 c0_i32_219
  let v401 : Index := Scalar.indexCast v400
  let c0_221 : Index := 0#32
  let c0_222 : Index := 0#32
  ![0, 13, v401.toNat, 0, 0]
def k0_off21 (k0_t2 : Fin k0_t2_loop.trips) : Fin 5 → Nat :=
  let c0_234 : Index := 0#32
  let c14 : Index := 14#32
  let c0_i32_28 : BitVec 32 := 0#32
  let c1_i32 : BitVec 32 := 1#32
  let arg13 : BitVec 32 := Scf.iv c0_i32_28 c1_i32 k0_t2
  let c2_i32_232 : BitVec 32 := 2#32
  let v425 : BitVec 32 := Scalar.muli arg13 c2_i32_232
  let c0_i32_233 : BitVec 32 := 0#32
  let v426 : BitVec 32 := Scalar.addi v425 c0_i32_233
  let v427 : Index := Scalar.indexCast v426
  let c0_235 : Index := 0#32
  let c0_236 : Index := 0#32
  ![0, 14, v427.toNat, 0, 0]
def k0_off22 (k0_t2 : Fin k0_t2_loop.trips) : Fin 5 → Nat :=
  let c0_248 : Index := 0#32
  let c15 : Index := 15#32
  let c0_i32_28 : BitVec 32 := 0#32
  let c1_i32 : BitVec 32 := 1#32
  let arg13 : BitVec 32 := Scf.iv c0_i32_28 c1_i32 k0_t2
  let c2_i32_246 : BitVec 32 := 2#32
  let v451 : BitVec 32 := Scalar.muli arg13 c2_i32_246
  let c0_i32_247 : BitVec 32 := 0#32
  let v452 : BitVec 32 := Scalar.addi v451 c0_i32_247
  let v453 : Index := Scalar.indexCast v452
  let c0_249 : Index := 0#32
  let c0_250 : Index := 0#32
  ![0, 15, v453.toNat, 0, 0]
def k0_off23 (k0_t2 : Fin k0_t2_loop.trips) : Fin 5 → Nat :=
  let c0_262 : Index := 0#32
  let c16_263 : Index := 16#32
  let c0_i32_28 : BitVec 32 := 0#32
  let c1_i32 : BitVec 32 := 1#32
  let arg13 : BitVec 32 := Scf.iv c0_i32_28 c1_i32 k0_t2
  let c2_i32_260 : BitVec 32 := 2#32
  let v477 : BitVec 32 := Scalar.muli arg13 c2_i32_260
  let c0_i32_261 : BitVec 32 := 0#32
  let v478 : BitVec 32 := Scalar.addi v477 c0_i32_261
  let v479 : Index := Scalar.indexCast v478
  let c0_264 : Index := 0#32
  let c0_265 : Index := 0#32
  ![0, 16, v479.toNat, 0, 0]
def k0_off24 (k0_t2 : Fin k0_t2_loop.trips) : Fin 5 → Nat :=
  let c0_277 : Index := 0#32
  let c17 : Index := 17#32
  let c0_i32_28 : BitVec 32 := 0#32
  let c1_i32 : BitVec 32 := 1#32
  let arg13 : BitVec 32 := Scf.iv c0_i32_28 c1_i32 k0_t2
  let c2_i32_275 : BitVec 32 := 2#32
  let v501 : BitVec 32 := Scalar.muli arg13 c2_i32_275
  let c0_i32_276 : BitVec 32 := 0#32
  let v502 : BitVec 32 := Scalar.addi v501 c0_i32_276
  let v503 : Index := Scalar.indexCast v502
  let c0_278 : Index := 0#32
  let c0_279 : Index := 0#32
  ![0, 17, v503.toNat, 0, 0]
def k0_off25 (k0_t2 : Fin k0_t2_loop.trips) : Fin 5 → Nat :=
  let c0_291 : Index := 0#32
  let c18 : Index := 18#32
  let c0_i32_28 : BitVec 32 := 0#32
  let c1_i32 : BitVec 32 := 1#32
  let arg13 : BitVec 32 := Scf.iv c0_i32_28 c1_i32 k0_t2
  let c2_i32_289 : BitVec 32 := 2#32
  let v527 : BitVec 32 := Scalar.muli arg13 c2_i32_289
  let c0_i32_290 : BitVec 32 := 0#32
  let v528 : BitVec 32 := Scalar.addi v527 c0_i32_290
  let v529 : Index := Scalar.indexCast v528
  let c0_292 : Index := 0#32
  let c0_293 : Index := 0#32
  ![0, 18, v529.toNat, 0, 0]
def k0_off26 (k0_t2 : Fin k0_t2_loop.trips) : Fin 5 → Nat :=
  let c0_305 : Index := 0#32
  let c19 : Index := 19#32
  let c0_i32_28 : BitVec 32 := 0#32
  let c1_i32 : BitVec 32 := 1#32
  let arg13 : BitVec 32 := Scf.iv c0_i32_28 c1_i32 k0_t2
  let c2_i32_303 : BitVec 32 := 2#32
  let v553 : BitVec 32 := Scalar.muli arg13 c2_i32_303
  let c0_i32_304 : BitVec 32 := 0#32
  let v554 : BitVec 32 := Scalar.addi v553 c0_i32_304
  let v555 : Index := Scalar.indexCast v554
  let c0_306 : Index := 0#32
  let c0_307 : Index := 0#32
  ![0, 19, v555.toNat, 0, 0]
def k0_off27 (k0_t2 : Fin k0_t2_loop.trips) : Fin 5 → Nat :=
  let c0_319 : Index := 0#32
  let c20 : Index := 20#32
  let c0_i32_28 : BitVec 32 := 0#32
  let c1_i32 : BitVec 32 := 1#32
  let arg13 : BitVec 32 := Scf.iv c0_i32_28 c1_i32 k0_t2
  let c2_i32_317 : BitVec 32 := 2#32
  let v579 : BitVec 32 := Scalar.muli arg13 c2_i32_317
  let c0_i32_318 : BitVec 32 := 0#32
  let v580 : BitVec 32 := Scalar.addi v579 c0_i32_318
  let v581 : Index := Scalar.indexCast v580
  let c0_320 : Index := 0#32
  let c0_321 : Index := 0#32
  ![0, 20, v581.toNat, 0, 0]
def k0_off28 (k0_t2 : Fin k0_t2_loop.trips) : Fin 5 → Nat :=
  let c0_333 : Index := 0#32
  let c21 : Index := 21#32
  let c0_i32_28 : BitVec 32 := 0#32
  let c1_i32 : BitVec 32 := 1#32
  let arg13 : BitVec 32 := Scf.iv c0_i32_28 c1_i32 k0_t2
  let c2_i32_331 : BitVec 32 := 2#32
  let v605 : BitVec 32 := Scalar.muli arg13 c2_i32_331
  let c0_i32_332 : BitVec 32 := 0#32
  let v606 : BitVec 32 := Scalar.addi v605 c0_i32_332
  let v607 : Index := Scalar.indexCast v606
  let c0_334 : Index := 0#32
  let c0_335 : Index := 0#32
  ![0, 21, v607.toNat, 0, 0]
def k0_off29 (k0_t2 : Fin k0_t2_loop.trips) : Fin 5 → Nat :=
  let c0_347 : Index := 0#32
  let c22 : Index := 22#32
  let c0_i32_28 : BitVec 32 := 0#32
  let c1_i32 : BitVec 32 := 1#32
  let arg13 : BitVec 32 := Scf.iv c0_i32_28 c1_i32 k0_t2
  let c2_i32_345 : BitVec 32 := 2#32
  let v631 : BitVec 32 := Scalar.muli arg13 c2_i32_345
  let c0_i32_346 : BitVec 32 := 0#32
  let v632 : BitVec 32 := Scalar.addi v631 c0_i32_346
  let v633 : Index := Scalar.indexCast v632
  let c0_348 : Index := 0#32
  let c0_349 : Index := 0#32
  ![0, 22, v633.toNat, 0, 0]
def k0_off30 (k0_t2 : Fin k0_t2_loop.trips) : Fin 5 → Nat :=
  let c0_361 : Index := 0#32
  let c23 : Index := 23#32
  let c0_i32_28 : BitVec 32 := 0#32
  let c1_i32 : BitVec 32 := 1#32
  let arg13 : BitVec 32 := Scf.iv c0_i32_28 c1_i32 k0_t2
  let c2_i32_359 : BitVec 32 := 2#32
  let v657 : BitVec 32 := Scalar.muli arg13 c2_i32_359
  let c0_i32_360 : BitVec 32 := 0#32
  let v658 : BitVec 32 := Scalar.addi v657 c0_i32_360
  let v659 : Index := Scalar.indexCast v658
  let c0_362 : Index := 0#32
  let c0_363 : Index := 0#32
  ![0, 23, v659.toNat, 0, 0]
def k0_off31 (k0_t2 : Fin k0_t2_loop.trips) : Fin 5 → Nat :=
  let c0_375 : Index := 0#32
  let c24_376 : Index := 24#32
  let c0_i32_28 : BitVec 32 := 0#32
  let c1_i32 : BitVec 32 := 1#32
  let arg13 : BitVec 32 := Scf.iv c0_i32_28 c1_i32 k0_t2
  let c2_i32_373 : BitVec 32 := 2#32
  let v683 : BitVec 32 := Scalar.muli arg13 c2_i32_373
  let c0_i32_374 : BitVec 32 := 0#32
  let v684 : BitVec 32 := Scalar.addi v683 c0_i32_374
  let v685 : Index := Scalar.indexCast v684
  let c0_377 : Index := 0#32
  let c0_378 : Index := 0#32
  ![0, 24, v685.toNat, 0, 0]
def k0_off32 (k0_t2 : Fin k0_t2_loop.trips) : Fin 5 → Nat :=
  let c0_390 : Index := 0#32
  let c25 : Index := 25#32
  let c0_i32_28 : BitVec 32 := 0#32
  let c1_i32 : BitVec 32 := 1#32
  let arg13 : BitVec 32 := Scf.iv c0_i32_28 c1_i32 k0_t2
  let c2_i32_388 : BitVec 32 := 2#32
  let v709 : BitVec 32 := Scalar.muli arg13 c2_i32_388
  let c0_i32_389 : BitVec 32 := 0#32
  let v710 : BitVec 32 := Scalar.addi v709 c0_i32_389
  let v711 : Index := Scalar.indexCast v710
  let c0_391 : Index := 0#32
  let c0_392 : Index := 0#32
  ![0, 25, v711.toNat, 0, 0]
def k0_off33 (k0_t2 : Fin k0_t2_loop.trips) : Fin 5 → Nat :=
  let c0_404 : Index := 0#32
  let c26 : Index := 26#32
  let c0_i32_28 : BitVec 32 := 0#32
  let c1_i32 : BitVec 32 := 1#32
  let arg13 : BitVec 32 := Scf.iv c0_i32_28 c1_i32 k0_t2
  let c2_i32_402 : BitVec 32 := 2#32
  let v735 : BitVec 32 := Scalar.muli arg13 c2_i32_402
  let c0_i32_403 : BitVec 32 := 0#32
  let v736 : BitVec 32 := Scalar.addi v735 c0_i32_403
  let v737 : Index := Scalar.indexCast v736
  let c0_405 : Index := 0#32
  let c0_406 : Index := 0#32
  ![0, 26, v737.toNat, 0, 0]
def k0_off34 (k0_t2 : Fin k0_t2_loop.trips) : Fin 5 → Nat :=
  let c0_418 : Index := 0#32
  let c27 : Index := 27#32
  let c0_i32_28 : BitVec 32 := 0#32
  let c1_i32 : BitVec 32 := 1#32
  let arg13 : BitVec 32 := Scf.iv c0_i32_28 c1_i32 k0_t2
  let c2_i32_416 : BitVec 32 := 2#32
  let v761 : BitVec 32 := Scalar.muli arg13 c2_i32_416
  let c0_i32_417 : BitVec 32 := 0#32
  let v762 : BitVec 32 := Scalar.addi v761 c0_i32_417
  let v763 : Index := Scalar.indexCast v762
  let c0_419 : Index := 0#32
  let c0_420 : Index := 0#32
  ![0, 27, v763.toNat, 0, 0]
def k0_off35 (k0_t2 : Fin k0_t2_loop.trips) : Fin 5 → Nat :=
  let c0_432 : Index := 0#32
  let c28 : Index := 28#32
  let c0_i32_28 : BitVec 32 := 0#32
  let c1_i32 : BitVec 32 := 1#32
  let arg13 : BitVec 32 := Scf.iv c0_i32_28 c1_i32 k0_t2
  let c2_i32_430 : BitVec 32 := 2#32
  let v787 : BitVec 32 := Scalar.muli arg13 c2_i32_430
  let c0_i32_431 : BitVec 32 := 0#32
  let v788 : BitVec 32 := Scalar.addi v787 c0_i32_431
  let v789 : Index := Scalar.indexCast v788
  let c0_433 : Index := 0#32
  let c0_434 : Index := 0#32
  ![0, 28, v789.toNat, 0, 0]
def k0_off36 (k0_t2 : Fin k0_t2_loop.trips) : Fin 5 → Nat :=
  let c0_446 : Index := 0#32
  let c29 : Index := 29#32
  let c0_i32_28 : BitVec 32 := 0#32
  let c1_i32 : BitVec 32 := 1#32
  let arg13 : BitVec 32 := Scf.iv c0_i32_28 c1_i32 k0_t2
  let c2_i32_444 : BitVec 32 := 2#32
  let v813 : BitVec 32 := Scalar.muli arg13 c2_i32_444
  let c0_i32_445 : BitVec 32 := 0#32
  let v814 : BitVec 32 := Scalar.addi v813 c0_i32_445
  let v815 : Index := Scalar.indexCast v814
  let c0_447 : Index := 0#32
  let c0_448 : Index := 0#32
  ![0, 29, v815.toNat, 0, 0]
def k0_off37 (k0_t2 : Fin k0_t2_loop.trips) : Fin 5 → Nat :=
  let c0_460 : Index := 0#32
  let c30 : Index := 30#32
  let c0_i32_28 : BitVec 32 := 0#32
  let c1_i32 : BitVec 32 := 1#32
  let arg13 : BitVec 32 := Scf.iv c0_i32_28 c1_i32 k0_t2
  let c2_i32_458 : BitVec 32 := 2#32
  let v839 : BitVec 32 := Scalar.muli arg13 c2_i32_458
  let c0_i32_459 : BitVec 32 := 0#32
  let v840 : BitVec 32 := Scalar.addi v839 c0_i32_459
  let v841 : Index := Scalar.indexCast v840
  let c0_461 : Index := 0#32
  let c0_462 : Index := 0#32
  ![0, 30, v841.toNat, 0, 0]
def k0_off38 (k0_t2 : Fin k0_t2_loop.trips) : Fin 5 → Nat :=
  let c0_474 : Index := 0#32
  let c31 : Index := 31#32
  let c0_i32_28 : BitVec 32 := 0#32
  let c1_i32 : BitVec 32 := 1#32
  let arg13 : BitVec 32 := Scf.iv c0_i32_28 c1_i32 k0_t2
  let c2_i32_472 : BitVec 32 := 2#32
  let v865 : BitVec 32 := Scalar.muli arg13 c2_i32_472
  let c0_i32_473 : BitVec 32 := 0#32
  let v866 : BitVec 32 := Scalar.addi v865 c0_i32_473
  let v867 : Index := Scalar.indexCast v866
  let c0_475 : Index := 0#32
  let c0_476 : Index := 0#32
  ![0, 31, v867.toNat, 0, 0]
def k0_off39 (k0_t2 : Fin k0_t2_loop.trips) : Fin 5 → Nat :=
  let c0_488 : Index := 0#32
  let c32_489 : Index := 32#32
  let c0_i32_28 : BitVec 32 := 0#32
  let c1_i32 : BitVec 32 := 1#32
  let arg13 : BitVec 32 := Scf.iv c0_i32_28 c1_i32 k0_t2
  let c2_i32_486 : BitVec 32 := 2#32
  let v891 : BitVec 32 := Scalar.muli arg13 c2_i32_486
  let c0_i32_487 : BitVec 32 := 0#32
  let v892 : BitVec 32 := Scalar.addi v891 c0_i32_487
  let v893 : Index := Scalar.indexCast v892
  let c0_490 : Index := 0#32
  let c0_491 : Index := 0#32
  ![0, 32, v893.toNat, 0, 0]
def k0_off40 (k0_t2 : Fin k0_t2_loop.trips) : Fin 5 → Nat :=
  let c0_503 : Index := 0#32
  let c33 : Index := 33#32
  let c0_i32_28 : BitVec 32 := 0#32
  let c1_i32 : BitVec 32 := 1#32
  let arg13 : BitVec 32 := Scf.iv c0_i32_28 c1_i32 k0_t2
  let c2_i32_501 : BitVec 32 := 2#32
  let v915 : BitVec 32 := Scalar.muli arg13 c2_i32_501
  let c0_i32_502 : BitVec 32 := 0#32
  let v916 : BitVec 32 := Scalar.addi v915 c0_i32_502
  let v917 : Index := Scalar.indexCast v916
  let c0_504 : Index := 0#32
  let c0_505 : Index := 0#32
  ![0, 33, v917.toNat, 0, 0]
def k0_off41 (k0_t2 : Fin k0_t2_loop.trips) : Fin 5 → Nat :=
  let c0_517 : Index := 0#32
  let c34 : Index := 34#32
  let c0_i32_28 : BitVec 32 := 0#32
  let c1_i32 : BitVec 32 := 1#32
  let arg13 : BitVec 32 := Scf.iv c0_i32_28 c1_i32 k0_t2
  let c2_i32_515 : BitVec 32 := 2#32
  let v941 : BitVec 32 := Scalar.muli arg13 c2_i32_515
  let c0_i32_516 : BitVec 32 := 0#32
  let v942 : BitVec 32 := Scalar.addi v941 c0_i32_516
  let v943 : Index := Scalar.indexCast v942
  let c0_518 : Index := 0#32
  let c0_519 : Index := 0#32
  ![0, 34, v943.toNat, 0, 0]
def k0_off42 (k0_t2 : Fin k0_t2_loop.trips) : Fin 5 → Nat :=
  let c0_531 : Index := 0#32
  let c35 : Index := 35#32
  let c0_i32_28 : BitVec 32 := 0#32
  let c1_i32 : BitVec 32 := 1#32
  let arg13 : BitVec 32 := Scf.iv c0_i32_28 c1_i32 k0_t2
  let c2_i32_529 : BitVec 32 := 2#32
  let v967 : BitVec 32 := Scalar.muli arg13 c2_i32_529
  let c0_i32_530 : BitVec 32 := 0#32
  let v968 : BitVec 32 := Scalar.addi v967 c0_i32_530
  let v969 : Index := Scalar.indexCast v968
  let c0_532 : Index := 0#32
  let c0_533 : Index := 0#32
  ![0, 35, v969.toNat, 0, 0]
def k0_off43 (k0_t2 : Fin k0_t2_loop.trips) : Fin 5 → Nat :=
  let c0_545 : Index := 0#32
  let c36 : Index := 36#32
  let c0_i32_28 : BitVec 32 := 0#32
  let c1_i32 : BitVec 32 := 1#32
  let arg13 : BitVec 32 := Scf.iv c0_i32_28 c1_i32 k0_t2
  let c2_i32_543 : BitVec 32 := 2#32
  let v993 : BitVec 32 := Scalar.muli arg13 c2_i32_543
  let c0_i32_544 : BitVec 32 := 0#32
  let v994 : BitVec 32 := Scalar.addi v993 c0_i32_544
  let v995 : Index := Scalar.indexCast v994
  let c0_546 : Index := 0#32
  let c0_547 : Index := 0#32
  ![0, 36, v995.toNat, 0, 0]
def k0_off44 (k0_t2 : Fin k0_t2_loop.trips) : Fin 5 → Nat :=
  let c0_559 : Index := 0#32
  let c37 : Index := 37#32
  let c0_i32_28 : BitVec 32 := 0#32
  let c1_i32 : BitVec 32 := 1#32
  let arg13 : BitVec 32 := Scf.iv c0_i32_28 c1_i32 k0_t2
  let c2_i32_557 : BitVec 32 := 2#32
  let v1019 : BitVec 32 := Scalar.muli arg13 c2_i32_557
  let c0_i32_558 : BitVec 32 := 0#32
  let v1020 : BitVec 32 := Scalar.addi v1019 c0_i32_558
  let v1021 : Index := Scalar.indexCast v1020
  let c0_560 : Index := 0#32
  let c0_561 : Index := 0#32
  ![0, 37, v1021.toNat, 0, 0]
def k0_off45 (k0_t2 : Fin k0_t2_loop.trips) : Fin 5 → Nat :=
  let c0_573 : Index := 0#32
  let c38 : Index := 38#32
  let c0_i32_28 : BitVec 32 := 0#32
  let c1_i32 : BitVec 32 := 1#32
  let arg13 : BitVec 32 := Scf.iv c0_i32_28 c1_i32 k0_t2
  let c2_i32_571 : BitVec 32 := 2#32
  let v1045 : BitVec 32 := Scalar.muli arg13 c2_i32_571
  let c0_i32_572 : BitVec 32 := 0#32
  let v1046 : BitVec 32 := Scalar.addi v1045 c0_i32_572
  let v1047 : Index := Scalar.indexCast v1046
  let c0_574 : Index := 0#32
  let c0_575 : Index := 0#32
  ![0, 38, v1047.toNat, 0, 0]
def k0_off46 (k0_t2 : Fin k0_t2_loop.trips) : Fin 5 → Nat :=
  let c0_587 : Index := 0#32
  let c39 : Index := 39#32
  let c0_i32_28 : BitVec 32 := 0#32
  let c1_i32 : BitVec 32 := 1#32
  let arg13 : BitVec 32 := Scf.iv c0_i32_28 c1_i32 k0_t2
  let c2_i32_585 : BitVec 32 := 2#32
  let v1071 : BitVec 32 := Scalar.muli arg13 c2_i32_585
  let c0_i32_586 : BitVec 32 := 0#32
  let v1072 : BitVec 32 := Scalar.addi v1071 c0_i32_586
  let v1073 : Index := Scalar.indexCast v1072
  let c0_588 : Index := 0#32
  let c0_589 : Index := 0#32
  ![0, 39, v1073.toNat, 0, 0]
def k0_off47 (k0_t2 : Fin k0_t2_loop.trips) : Fin 5 → Nat :=
  let c0_601 : Index := 0#32
  let c40_602 : Index := 40#32
  let c0_i32_28 : BitVec 32 := 0#32
  let c1_i32 : BitVec 32 := 1#32
  let arg13 : BitVec 32 := Scf.iv c0_i32_28 c1_i32 k0_t2
  let c2_i32_599 : BitVec 32 := 2#32
  let v1097 : BitVec 32 := Scalar.muli arg13 c2_i32_599
  let c0_i32_600 : BitVec 32 := 0#32
  let v1098 : BitVec 32 := Scalar.addi v1097 c0_i32_600
  let v1099 : Index := Scalar.indexCast v1098
  let c0_603 : Index := 0#32
  let c0_604 : Index := 0#32
  ![0, 40, v1099.toNat, 0, 0]
def k0_off48 (k0_t2 : Fin k0_t2_loop.trips) : Fin 5 → Nat :=
  let c0_616 : Index := 0#32
  let c41 : Index := 41#32
  let c0_i32_28 : BitVec 32 := 0#32
  let c1_i32 : BitVec 32 := 1#32
  let arg13 : BitVec 32 := Scf.iv c0_i32_28 c1_i32 k0_t2
  let c2_i32_614 : BitVec 32 := 2#32
  let v1123 : BitVec 32 := Scalar.muli arg13 c2_i32_614
  let c0_i32_615 : BitVec 32 := 0#32
  let v1124 : BitVec 32 := Scalar.addi v1123 c0_i32_615
  let v1125 : Index := Scalar.indexCast v1124
  let c0_617 : Index := 0#32
  let c0_618 : Index := 0#32
  ![0, 41, v1125.toNat, 0, 0]
def k0_off49 (k0_t2 : Fin k0_t2_loop.trips) : Fin 5 → Nat :=
  let c0_630 : Index := 0#32
  let c42 : Index := 42#32
  let c0_i32_28 : BitVec 32 := 0#32
  let c1_i32 : BitVec 32 := 1#32
  let arg13 : BitVec 32 := Scf.iv c0_i32_28 c1_i32 k0_t2
  let c2_i32_628 : BitVec 32 := 2#32
  let v1149 : BitVec 32 := Scalar.muli arg13 c2_i32_628
  let c0_i32_629 : BitVec 32 := 0#32
  let v1150 : BitVec 32 := Scalar.addi v1149 c0_i32_629
  let v1151 : Index := Scalar.indexCast v1150
  let c0_631 : Index := 0#32
  let c0_632 : Index := 0#32
  ![0, 42, v1151.toNat, 0, 0]
def k0_off50 (k0_t2 : Fin k0_t2_loop.trips) : Fin 5 → Nat :=
  let c0_644 : Index := 0#32
  let c43 : Index := 43#32
  let c0_i32_28 : BitVec 32 := 0#32
  let c1_i32 : BitVec 32 := 1#32
  let arg13 : BitVec 32 := Scf.iv c0_i32_28 c1_i32 k0_t2
  let c2_i32_642 : BitVec 32 := 2#32
  let v1175 : BitVec 32 := Scalar.muli arg13 c2_i32_642
  let c0_i32_643 : BitVec 32 := 0#32
  let v1176 : BitVec 32 := Scalar.addi v1175 c0_i32_643
  let v1177 : Index := Scalar.indexCast v1176
  let c0_645 : Index := 0#32
  let c0_646 : Index := 0#32
  ![0, 43, v1177.toNat, 0, 0]
def k0_off51 (k0_t2 : Fin k0_t2_loop.trips) : Fin 5 → Nat :=
  let c0_658 : Index := 0#32
  let c44 : Index := 44#32
  let c0_i32_28 : BitVec 32 := 0#32
  let c1_i32 : BitVec 32 := 1#32
  let arg13 : BitVec 32 := Scf.iv c0_i32_28 c1_i32 k0_t2
  let c2_i32_656 : BitVec 32 := 2#32
  let v1201 : BitVec 32 := Scalar.muli arg13 c2_i32_656
  let c0_i32_657 : BitVec 32 := 0#32
  let v1202 : BitVec 32 := Scalar.addi v1201 c0_i32_657
  let v1203 : Index := Scalar.indexCast v1202
  let c0_659 : Index := 0#32
  let c0_660 : Index := 0#32
  ![0, 44, v1203.toNat, 0, 0]
def k0_off52 (k0_t2 : Fin k0_t2_loop.trips) : Fin 5 → Nat :=
  let c0_672 : Index := 0#32
  let c45 : Index := 45#32
  let c0_i32_28 : BitVec 32 := 0#32
  let c1_i32 : BitVec 32 := 1#32
  let arg13 : BitVec 32 := Scf.iv c0_i32_28 c1_i32 k0_t2
  let c2_i32_670 : BitVec 32 := 2#32
  let v1227 : BitVec 32 := Scalar.muli arg13 c2_i32_670
  let c0_i32_671 : BitVec 32 := 0#32
  let v1228 : BitVec 32 := Scalar.addi v1227 c0_i32_671
  let v1229 : Index := Scalar.indexCast v1228
  let c0_673 : Index := 0#32
  let c0_674 : Index := 0#32
  ![0, 45, v1229.toNat, 0, 0]
def k0_off53 (k0_t2 : Fin k0_t2_loop.trips) : Fin 5 → Nat :=
  let c0_686 : Index := 0#32
  let c46 : Index := 46#32
  let c0_i32_28 : BitVec 32 := 0#32
  let c1_i32 : BitVec 32 := 1#32
  let arg13 : BitVec 32 := Scf.iv c0_i32_28 c1_i32 k0_t2
  let c2_i32_684 : BitVec 32 := 2#32
  let v1253 : BitVec 32 := Scalar.muli arg13 c2_i32_684
  let c0_i32_685 : BitVec 32 := 0#32
  let v1254 : BitVec 32 := Scalar.addi v1253 c0_i32_685
  let v1255 : Index := Scalar.indexCast v1254
  let c0_687 : Index := 0#32
  let c0_688 : Index := 0#32
  ![0, 46, v1255.toNat, 0, 0]
def k0_off54 (k0_t2 : Fin k0_t2_loop.trips) : Fin 5 → Nat :=
  let c0_700 : Index := 0#32
  let c47 : Index := 47#32
  let c0_i32_28 : BitVec 32 := 0#32
  let c1_i32 : BitVec 32 := 1#32
  let arg13 : BitVec 32 := Scf.iv c0_i32_28 c1_i32 k0_t2
  let c2_i32_698 : BitVec 32 := 2#32
  let v1279 : BitVec 32 := Scalar.muli arg13 c2_i32_698
  let c0_i32_699 : BitVec 32 := 0#32
  let v1280 : BitVec 32 := Scalar.addi v1279 c0_i32_699
  let v1281 : Index := Scalar.indexCast v1280
  let c0_701 : Index := 0#32
  let c0_702 : Index := 0#32
  ![0, 47, v1281.toNat, 0, 0]
def k0_off55 (k0_t2 : Fin k0_t2_loop.trips) : Fin 5 → Nat :=
  let c0_714 : Index := 0#32
  let c48_715 : Index := 48#32
  let c0_i32_28 : BitVec 32 := 0#32
  let c1_i32 : BitVec 32 := 1#32
  let arg13 : BitVec 32 := Scf.iv c0_i32_28 c1_i32 k0_t2
  let c2_i32_712 : BitVec 32 := 2#32
  let v1305 : BitVec 32 := Scalar.muli arg13 c2_i32_712
  let c0_i32_713 : BitVec 32 := 0#32
  let v1306 : BitVec 32 := Scalar.addi v1305 c0_i32_713
  let v1307 : Index := Scalar.indexCast v1306
  let c0_716 : Index := 0#32
  let c0_717 : Index := 0#32
  ![0, 48, v1307.toNat, 0, 0]
def k0_off56 (k0_t2 : Fin k0_t2_loop.trips) : Fin 5 → Nat :=
  let c0_729 : Index := 0#32
  let c49 : Index := 49#32
  let c0_i32_28 : BitVec 32 := 0#32
  let c1_i32 : BitVec 32 := 1#32
  let arg13 : BitVec 32 := Scf.iv c0_i32_28 c1_i32 k0_t2
  let c2_i32_727 : BitVec 32 := 2#32
  let v1329 : BitVec 32 := Scalar.muli arg13 c2_i32_727
  let c0_i32_728 : BitVec 32 := 0#32
  let v1330 : BitVec 32 := Scalar.addi v1329 c0_i32_728
  let v1331 : Index := Scalar.indexCast v1330
  let c0_730 : Index := 0#32
  let c0_731 : Index := 0#32
  ![0, 49, v1331.toNat, 0, 0]
def k0_off57 (k0_t2 : Fin k0_t2_loop.trips) : Fin 5 → Nat :=
  let c0_743 : Index := 0#32
  let c50 : Index := 50#32
  let c0_i32_28 : BitVec 32 := 0#32
  let c1_i32 : BitVec 32 := 1#32
  let arg13 : BitVec 32 := Scf.iv c0_i32_28 c1_i32 k0_t2
  let c2_i32_741 : BitVec 32 := 2#32
  let v1355 : BitVec 32 := Scalar.muli arg13 c2_i32_741
  let c0_i32_742 : BitVec 32 := 0#32
  let v1356 : BitVec 32 := Scalar.addi v1355 c0_i32_742
  let v1357 : Index := Scalar.indexCast v1356
  let c0_744 : Index := 0#32
  let c0_745 : Index := 0#32
  ![0, 50, v1357.toNat, 0, 0]
def k0_off58 (k0_t2 : Fin k0_t2_loop.trips) : Fin 5 → Nat :=
  let c0_757 : Index := 0#32
  let c51 : Index := 51#32
  let c0_i32_28 : BitVec 32 := 0#32
  let c1_i32 : BitVec 32 := 1#32
  let arg13 : BitVec 32 := Scf.iv c0_i32_28 c1_i32 k0_t2
  let c2_i32_755 : BitVec 32 := 2#32
  let v1381 : BitVec 32 := Scalar.muli arg13 c2_i32_755
  let c0_i32_756 : BitVec 32 := 0#32
  let v1382 : BitVec 32 := Scalar.addi v1381 c0_i32_756
  let v1383 : Index := Scalar.indexCast v1382
  let c0_758 : Index := 0#32
  let c0_759 : Index := 0#32
  ![0, 51, v1383.toNat, 0, 0]
def k0_off59 (k0_t2 : Fin k0_t2_loop.trips) : Fin 5 → Nat :=
  let c0_771 : Index := 0#32
  let c52 : Index := 52#32
  let c0_i32_28 : BitVec 32 := 0#32
  let c1_i32 : BitVec 32 := 1#32
  let arg13 : BitVec 32 := Scf.iv c0_i32_28 c1_i32 k0_t2
  let c2_i32_769 : BitVec 32 := 2#32
  let v1407 : BitVec 32 := Scalar.muli arg13 c2_i32_769
  let c0_i32_770 : BitVec 32 := 0#32
  let v1408 : BitVec 32 := Scalar.addi v1407 c0_i32_770
  let v1409 : Index := Scalar.indexCast v1408
  let c0_772 : Index := 0#32
  let c0_773 : Index := 0#32
  ![0, 52, v1409.toNat, 0, 0]
def k0_off60 (k0_t2 : Fin k0_t2_loop.trips) : Fin 5 → Nat :=
  let c0_785 : Index := 0#32
  let c53 : Index := 53#32
  let c0_i32_28 : BitVec 32 := 0#32
  let c1_i32 : BitVec 32 := 1#32
  let arg13 : BitVec 32 := Scf.iv c0_i32_28 c1_i32 k0_t2
  let c2_i32_783 : BitVec 32 := 2#32
  let v1433 : BitVec 32 := Scalar.muli arg13 c2_i32_783
  let c0_i32_784 : BitVec 32 := 0#32
  let v1434 : BitVec 32 := Scalar.addi v1433 c0_i32_784
  let v1435 : Index := Scalar.indexCast v1434
  let c0_786 : Index := 0#32
  let c0_787 : Index := 0#32
  ![0, 53, v1435.toNat, 0, 0]
def k0_off61 (k0_t2 : Fin k0_t2_loop.trips) : Fin 5 → Nat :=
  let c0_799 : Index := 0#32
  let c54 : Index := 54#32
  let c0_i32_28 : BitVec 32 := 0#32
  let c1_i32 : BitVec 32 := 1#32
  let arg13 : BitVec 32 := Scf.iv c0_i32_28 c1_i32 k0_t2
  let c2_i32_797 : BitVec 32 := 2#32
  let v1459 : BitVec 32 := Scalar.muli arg13 c2_i32_797
  let c0_i32_798 : BitVec 32 := 0#32
  let v1460 : BitVec 32 := Scalar.addi v1459 c0_i32_798
  let v1461 : Index := Scalar.indexCast v1460
  let c0_800 : Index := 0#32
  let c0_801 : Index := 0#32
  ![0, 54, v1461.toNat, 0, 0]
def k0_off62 (k0_t2 : Fin k0_t2_loop.trips) : Fin 5 → Nat :=
  let c0_813 : Index := 0#32
  let c55 : Index := 55#32
  let c0_i32_28 : BitVec 32 := 0#32
  let c1_i32 : BitVec 32 := 1#32
  let arg13 : BitVec 32 := Scf.iv c0_i32_28 c1_i32 k0_t2
  let c2_i32_811 : BitVec 32 := 2#32
  let v1485 : BitVec 32 := Scalar.muli arg13 c2_i32_811
  let c0_i32_812 : BitVec 32 := 0#32
  let v1486 : BitVec 32 := Scalar.addi v1485 c0_i32_812
  let v1487 : Index := Scalar.indexCast v1486
  let c0_814 : Index := 0#32
  let c0_815 : Index := 0#32
  ![0, 55, v1487.toNat, 0, 0]
def k0_off63 (k0_t2 : Fin k0_t2_loop.trips) : Fin 5 → Nat :=
  let c0_827 : Index := 0#32
  let c56_828 : Index := 56#32
  let c0_i32_28 : BitVec 32 := 0#32
  let c1_i32 : BitVec 32 := 1#32
  let arg13 : BitVec 32 := Scf.iv c0_i32_28 c1_i32 k0_t2
  let c2_i32_825 : BitVec 32 := 2#32
  let v1511 : BitVec 32 := Scalar.muli arg13 c2_i32_825
  let c0_i32_826 : BitVec 32 := 0#32
  let v1512 : BitVec 32 := Scalar.addi v1511 c0_i32_826
  let v1513 : Index := Scalar.indexCast v1512
  let c0_829 : Index := 0#32
  let c0_830 : Index := 0#32
  ![0, 56, v1513.toNat, 0, 0]
def k0_off64 (k0_t2 : Fin k0_t2_loop.trips) : Fin 5 → Nat :=
  let c0_842 : Index := 0#32
  let c57 : Index := 57#32
  let c0_i32_28 : BitVec 32 := 0#32
  let c1_i32 : BitVec 32 := 1#32
  let arg13 : BitVec 32 := Scf.iv c0_i32_28 c1_i32 k0_t2
  let c2_i32_840 : BitVec 32 := 2#32
  let v1537 : BitVec 32 := Scalar.muli arg13 c2_i32_840
  let c0_i32_841 : BitVec 32 := 0#32
  let v1538 : BitVec 32 := Scalar.addi v1537 c0_i32_841
  let v1539 : Index := Scalar.indexCast v1538
  let c0_843 : Index := 0#32
  let c0_844 : Index := 0#32
  ![0, 57, v1539.toNat, 0, 0]
def k0_off65 (k0_t2 : Fin k0_t2_loop.trips) : Fin 5 → Nat :=
  let c0_856 : Index := 0#32
  let c58 : Index := 58#32
  let c0_i32_28 : BitVec 32 := 0#32
  let c1_i32 : BitVec 32 := 1#32
  let arg13 : BitVec 32 := Scf.iv c0_i32_28 c1_i32 k0_t2
  let c2_i32_854 : BitVec 32 := 2#32
  let v1563 : BitVec 32 := Scalar.muli arg13 c2_i32_854
  let c0_i32_855 : BitVec 32 := 0#32
  let v1564 : BitVec 32 := Scalar.addi v1563 c0_i32_855
  let v1565 : Index := Scalar.indexCast v1564
  let c0_857 : Index := 0#32
  let c0_858 : Index := 0#32
  ![0, 58, v1565.toNat, 0, 0]
def k0_off66 (k0_t2 : Fin k0_t2_loop.trips) : Fin 5 → Nat :=
  let c0_870 : Index := 0#32
  let c59 : Index := 59#32
  let c0_i32_28 : BitVec 32 := 0#32
  let c1_i32 : BitVec 32 := 1#32
  let arg13 : BitVec 32 := Scf.iv c0_i32_28 c1_i32 k0_t2
  let c2_i32_868 : BitVec 32 := 2#32
  let v1589 : BitVec 32 := Scalar.muli arg13 c2_i32_868
  let c0_i32_869 : BitVec 32 := 0#32
  let v1590 : BitVec 32 := Scalar.addi v1589 c0_i32_869
  let v1591 : Index := Scalar.indexCast v1590
  let c0_871 : Index := 0#32
  let c0_872 : Index := 0#32
  ![0, 59, v1591.toNat, 0, 0]
def k0_off67 (k0_t2 : Fin k0_t2_loop.trips) : Fin 5 → Nat :=
  let c0_884 : Index := 0#32
  let c60 : Index := 60#32
  let c0_i32_28 : BitVec 32 := 0#32
  let c1_i32 : BitVec 32 := 1#32
  let arg13 : BitVec 32 := Scf.iv c0_i32_28 c1_i32 k0_t2
  let c2_i32_882 : BitVec 32 := 2#32
  let v1615 : BitVec 32 := Scalar.muli arg13 c2_i32_882
  let c0_i32_883 : BitVec 32 := 0#32
  let v1616 : BitVec 32 := Scalar.addi v1615 c0_i32_883
  let v1617 : Index := Scalar.indexCast v1616
  let c0_885 : Index := 0#32
  let c0_886 : Index := 0#32
  ![0, 60, v1617.toNat, 0, 0]
def k0_off68 (k0_t2 : Fin k0_t2_loop.trips) : Fin 5 → Nat :=
  let c0_898 : Index := 0#32
  let c61 : Index := 61#32
  let c0_i32_28 : BitVec 32 := 0#32
  let c1_i32 : BitVec 32 := 1#32
  let arg13 : BitVec 32 := Scf.iv c0_i32_28 c1_i32 k0_t2
  let c2_i32_896 : BitVec 32 := 2#32
  let v1641 : BitVec 32 := Scalar.muli arg13 c2_i32_896
  let c0_i32_897 : BitVec 32 := 0#32
  let v1642 : BitVec 32 := Scalar.addi v1641 c0_i32_897
  let v1643 : Index := Scalar.indexCast v1642
  let c0_899 : Index := 0#32
  let c0_900 : Index := 0#32
  ![0, 61, v1643.toNat, 0, 0]
def k0_off69 (k0_t2 : Fin k0_t2_loop.trips) : Fin 5 → Nat :=
  let c0_912 : Index := 0#32
  let c62 : Index := 62#32
  let c0_i32_28 : BitVec 32 := 0#32
  let c1_i32 : BitVec 32 := 1#32
  let arg13 : BitVec 32 := Scf.iv c0_i32_28 c1_i32 k0_t2
  let c2_i32_910 : BitVec 32 := 2#32
  let v1667 : BitVec 32 := Scalar.muli arg13 c2_i32_910
  let c0_i32_911 : BitVec 32 := 0#32
  let v1668 : BitVec 32 := Scalar.addi v1667 c0_i32_911
  let v1669 : Index := Scalar.indexCast v1668
  let c0_913 : Index := 0#32
  let c0_914 : Index := 0#32
  ![0, 62, v1669.toNat, 0, 0]
def k0_off70 (k0_t2 : Fin k0_t2_loop.trips) : Fin 5 → Nat :=
  let c0_926 : Index := 0#32
  let c63 : Index := 63#32
  let c0_i32_28 : BitVec 32 := 0#32
  let c1_i32 : BitVec 32 := 1#32
  let arg13 : BitVec 32 := Scf.iv c0_i32_28 c1_i32 k0_t2
  let c2_i32_924 : BitVec 32 := 2#32
  let v1693 : BitVec 32 := Scalar.muli arg13 c2_i32_924
  let c0_i32_925 : BitVec 32 := 0#32
  let v1694 : BitVec 32 := Scalar.addi v1693 c0_i32_925
  let v1695 : Index := Scalar.indexCast v1694
  let c0_927 : Index := 0#32
  let c0_928 : Index := 0#32
  ![0, 63, v1695.toNat, 0, 0]
def k0_off71 (k0_t2 : Fin k0_t2_loop.trips) : Fin 5 → Nat :=
  let c0_940 : Index := 0#32
  let c64_941 : Index := 64#32
  let c0_i32_28 : BitVec 32 := 0#32
  let c1_i32 : BitVec 32 := 1#32
  let arg13 : BitVec 32 := Scf.iv c0_i32_28 c1_i32 k0_t2
  let c2_i32_938 : BitVec 32 := 2#32
  let v1719 : BitVec 32 := Scalar.muli arg13 c2_i32_938
  let c0_i32_939 : BitVec 32 := 0#32
  let v1720 : BitVec 32 := Scalar.addi v1719 c0_i32_939
  let v1721 : Index := Scalar.indexCast v1720
  let c0_942 : Index := 0#32
  let c0_943 : Index := 0#32
  ![0, 64, v1721.toNat, 0, 0]
def k0_off72 (k0_t2 : Fin k0_t2_loop.trips) : Fin 5 → Nat :=
  let c0_955 : Index := 0#32
  let c65 : Index := 65#32
  let c0_i32_28 : BitVec 32 := 0#32
  let c1_i32 : BitVec 32 := 1#32
  let arg13 : BitVec 32 := Scf.iv c0_i32_28 c1_i32 k0_t2
  let c2_i32_953 : BitVec 32 := 2#32
  let v1743 : BitVec 32 := Scalar.muli arg13 c2_i32_953
  let c0_i32_954 : BitVec 32 := 0#32
  let v1744 : BitVec 32 := Scalar.addi v1743 c0_i32_954
  let v1745 : Index := Scalar.indexCast v1744
  let c0_956 : Index := 0#32
  let c0_957 : Index := 0#32
  ![0, 65, v1745.toNat, 0, 0]
def k0_off73 (k0_t2 : Fin k0_t2_loop.trips) : Fin 5 → Nat :=
  let c0_969 : Index := 0#32
  let c66 : Index := 66#32
  let c0_i32_28 : BitVec 32 := 0#32
  let c1_i32 : BitVec 32 := 1#32
  let arg13 : BitVec 32 := Scf.iv c0_i32_28 c1_i32 k0_t2
  let c2_i32_967 : BitVec 32 := 2#32
  let v1769 : BitVec 32 := Scalar.muli arg13 c2_i32_967
  let c0_i32_968 : BitVec 32 := 0#32
  let v1770 : BitVec 32 := Scalar.addi v1769 c0_i32_968
  let v1771 : Index := Scalar.indexCast v1770
  let c0_970 : Index := 0#32
  let c0_971 : Index := 0#32
  ![0, 66, v1771.toNat, 0, 0]
def k0_off74 (k0_t2 : Fin k0_t2_loop.trips) : Fin 5 → Nat :=
  let c0_983 : Index := 0#32
  let c67 : Index := 67#32
  let c0_i32_28 : BitVec 32 := 0#32
  let c1_i32 : BitVec 32 := 1#32
  let arg13 : BitVec 32 := Scf.iv c0_i32_28 c1_i32 k0_t2
  let c2_i32_981 : BitVec 32 := 2#32
  let v1795 : BitVec 32 := Scalar.muli arg13 c2_i32_981
  let c0_i32_982 : BitVec 32 := 0#32
  let v1796 : BitVec 32 := Scalar.addi v1795 c0_i32_982
  let v1797 : Index := Scalar.indexCast v1796
  let c0_984 : Index := 0#32
  let c0_985 : Index := 0#32
  ![0, 67, v1797.toNat, 0, 0]
def k0_off75 (k0_t2 : Fin k0_t2_loop.trips) : Fin 5 → Nat :=
  let c0_997 : Index := 0#32
  let c68 : Index := 68#32
  let c0_i32_28 : BitVec 32 := 0#32
  let c1_i32 : BitVec 32 := 1#32
  let arg13 : BitVec 32 := Scf.iv c0_i32_28 c1_i32 k0_t2
  let c2_i32_995 : BitVec 32 := 2#32
  let v1821 : BitVec 32 := Scalar.muli arg13 c2_i32_995
  let c0_i32_996 : BitVec 32 := 0#32
  let v1822 : BitVec 32 := Scalar.addi v1821 c0_i32_996
  let v1823 : Index := Scalar.indexCast v1822
  let c0_998 : Index := 0#32
  let c0_999 : Index := 0#32
  ![0, 68, v1823.toNat, 0, 0]
def k0_off76 (k0_t2 : Fin k0_t2_loop.trips) : Fin 5 → Nat :=
  let c0_1011 : Index := 0#32
  let c69 : Index := 69#32
  let c0_i32_28 : BitVec 32 := 0#32
  let c1_i32 : BitVec 32 := 1#32
  let arg13 : BitVec 32 := Scf.iv c0_i32_28 c1_i32 k0_t2
  let c2_i32_1009 : BitVec 32 := 2#32
  let v1847 : BitVec 32 := Scalar.muli arg13 c2_i32_1009
  let c0_i32_1010 : BitVec 32 := 0#32
  let v1848 : BitVec 32 := Scalar.addi v1847 c0_i32_1010
  let v1849 : Index := Scalar.indexCast v1848
  let c0_1012 : Index := 0#32
  let c0_1013 : Index := 0#32
  ![0, 69, v1849.toNat, 0, 0]
def k0_off77 (k0_t2 : Fin k0_t2_loop.trips) : Fin 5 → Nat :=
  let c0_1025 : Index := 0#32
  let c70 : Index := 70#32
  let c0_i32_28 : BitVec 32 := 0#32
  let c1_i32 : BitVec 32 := 1#32
  let arg13 : BitVec 32 := Scf.iv c0_i32_28 c1_i32 k0_t2
  let c2_i32_1023 : BitVec 32 := 2#32
  let v1873 : BitVec 32 := Scalar.muli arg13 c2_i32_1023
  let c0_i32_1024 : BitVec 32 := 0#32
  let v1874 : BitVec 32 := Scalar.addi v1873 c0_i32_1024
  let v1875 : Index := Scalar.indexCast v1874
  let c0_1026 : Index := 0#32
  let c0_1027 : Index := 0#32
  ![0, 70, v1875.toNat, 0, 0]
def k0_off78 (k0_t2 : Fin k0_t2_loop.trips) : Fin 5 → Nat :=
  let c0_1039 : Index := 0#32
  let c71 : Index := 71#32
  let c0_i32_28 : BitVec 32 := 0#32
  let c1_i32 : BitVec 32 := 1#32
  let arg13 : BitVec 32 := Scf.iv c0_i32_28 c1_i32 k0_t2
  let c2_i32_1037 : BitVec 32 := 2#32
  let v1899 : BitVec 32 := Scalar.muli arg13 c2_i32_1037
  let c0_i32_1038 : BitVec 32 := 0#32
  let v1900 : BitVec 32 := Scalar.addi v1899 c0_i32_1038
  let v1901 : Index := Scalar.indexCast v1900
  let c0_1040 : Index := 0#32
  let c0_1041 : Index := 0#32
  ![0, 71, v1901.toNat, 0, 0]
def k0_off79 (k0_t2 : Fin k0_t2_loop.trips) : Fin 5 → Nat :=
  let c0_1053 : Index := 0#32
  let c72_1054 : Index := 72#32
  let c0_i32_28 : BitVec 32 := 0#32
  let c1_i32 : BitVec 32 := 1#32
  let arg13 : BitVec 32 := Scf.iv c0_i32_28 c1_i32 k0_t2
  let c2_i32_1051 : BitVec 32 := 2#32
  let v1925 : BitVec 32 := Scalar.muli arg13 c2_i32_1051
  let c0_i32_1052 : BitVec 32 := 0#32
  let v1926 : BitVec 32 := Scalar.addi v1925 c0_i32_1052
  let v1927 : Index := Scalar.indexCast v1926
  let c0_1055 : Index := 0#32
  let c0_1056 : Index := 0#32
  ![0, 72, v1927.toNat, 0, 0]
def k0_off80 (k0_t2 : Fin k0_t2_loop.trips) : Fin 5 → Nat :=
  let c0_1068 : Index := 0#32
  let c73 : Index := 73#32
  let c0_i32_28 : BitVec 32 := 0#32
  let c1_i32 : BitVec 32 := 1#32
  let arg13 : BitVec 32 := Scf.iv c0_i32_28 c1_i32 k0_t2
  let c2_i32_1066 : BitVec 32 := 2#32
  let v1951 : BitVec 32 := Scalar.muli arg13 c2_i32_1066
  let c0_i32_1067 : BitVec 32 := 0#32
  let v1952 : BitVec 32 := Scalar.addi v1951 c0_i32_1067
  let v1953 : Index := Scalar.indexCast v1952
  let c0_1069 : Index := 0#32
  let c0_1070 : Index := 0#32
  ![0, 73, v1953.toNat, 0, 0]
def k0_off81 (k0_t2 : Fin k0_t2_loop.trips) : Fin 5 → Nat :=
  let c0_1082 : Index := 0#32
  let c74 : Index := 74#32
  let c0_i32_28 : BitVec 32 := 0#32
  let c1_i32 : BitVec 32 := 1#32
  let arg13 : BitVec 32 := Scf.iv c0_i32_28 c1_i32 k0_t2
  let c2_i32_1080 : BitVec 32 := 2#32
  let v1977 : BitVec 32 := Scalar.muli arg13 c2_i32_1080
  let c0_i32_1081 : BitVec 32 := 0#32
  let v1978 : BitVec 32 := Scalar.addi v1977 c0_i32_1081
  let v1979 : Index := Scalar.indexCast v1978
  let c0_1083 : Index := 0#32
  let c0_1084 : Index := 0#32
  ![0, 74, v1979.toNat, 0, 0]
def k0_off82 (k0_t2 : Fin k0_t2_loop.trips) : Fin 5 → Nat :=
  let c0_1096 : Index := 0#32
  let c75 : Index := 75#32
  let c0_i32_28 : BitVec 32 := 0#32
  let c1_i32 : BitVec 32 := 1#32
  let arg13 : BitVec 32 := Scf.iv c0_i32_28 c1_i32 k0_t2
  let c2_i32_1094 : BitVec 32 := 2#32
  let v2003 : BitVec 32 := Scalar.muli arg13 c2_i32_1094
  let c0_i32_1095 : BitVec 32 := 0#32
  let v2004 : BitVec 32 := Scalar.addi v2003 c0_i32_1095
  let v2005 : Index := Scalar.indexCast v2004
  let c0_1097 : Index := 0#32
  let c0_1098 : Index := 0#32
  ![0, 75, v2005.toNat, 0, 0]
def k0_off83 (k0_t2 : Fin k0_t2_loop.trips) : Fin 5 → Nat :=
  let c0_1110 : Index := 0#32
  let c76 : Index := 76#32
  let c0_i32_28 : BitVec 32 := 0#32
  let c1_i32 : BitVec 32 := 1#32
  let arg13 : BitVec 32 := Scf.iv c0_i32_28 c1_i32 k0_t2
  let c2_i32_1108 : BitVec 32 := 2#32
  let v2029 : BitVec 32 := Scalar.muli arg13 c2_i32_1108
  let c0_i32_1109 : BitVec 32 := 0#32
  let v2030 : BitVec 32 := Scalar.addi v2029 c0_i32_1109
  let v2031 : Index := Scalar.indexCast v2030
  let c0_1111 : Index := 0#32
  let c0_1112 : Index := 0#32
  ![0, 76, v2031.toNat, 0, 0]
def k0_off84 (k0_t2 : Fin k0_t2_loop.trips) : Fin 5 → Nat :=
  let c0_1124 : Index := 0#32
  let c77 : Index := 77#32
  let c0_i32_28 : BitVec 32 := 0#32
  let c1_i32 : BitVec 32 := 1#32
  let arg13 : BitVec 32 := Scf.iv c0_i32_28 c1_i32 k0_t2
  let c2_i32_1122 : BitVec 32 := 2#32
  let v2055 : BitVec 32 := Scalar.muli arg13 c2_i32_1122
  let c0_i32_1123 : BitVec 32 := 0#32
  let v2056 : BitVec 32 := Scalar.addi v2055 c0_i32_1123
  let v2057 : Index := Scalar.indexCast v2056
  let c0_1125 : Index := 0#32
  let c0_1126 : Index := 0#32
  ![0, 77, v2057.toNat, 0, 0]
def k0_off85 (k0_t2 : Fin k0_t2_loop.trips) : Fin 5 → Nat :=
  let c0_1138 : Index := 0#32
  let c78 : Index := 78#32
  let c0_i32_28 : BitVec 32 := 0#32
  let c1_i32 : BitVec 32 := 1#32
  let arg13 : BitVec 32 := Scf.iv c0_i32_28 c1_i32 k0_t2
  let c2_i32_1136 : BitVec 32 := 2#32
  let v2081 : BitVec 32 := Scalar.muli arg13 c2_i32_1136
  let c0_i32_1137 : BitVec 32 := 0#32
  let v2082 : BitVec 32 := Scalar.addi v2081 c0_i32_1137
  let v2083 : Index := Scalar.indexCast v2082
  let c0_1139 : Index := 0#32
  let c0_1140 : Index := 0#32
  ![0, 78, v2083.toNat, 0, 0]
def k0_off86 (k0_t2 : Fin k0_t2_loop.trips) : Fin 5 → Nat :=
  let c0_1152 : Index := 0#32
  let c79 : Index := 79#32
  let c0_i32_28 : BitVec 32 := 0#32
  let c1_i32 : BitVec 32 := 1#32
  let arg13 : BitVec 32 := Scf.iv c0_i32_28 c1_i32 k0_t2
  let c2_i32_1150 : BitVec 32 := 2#32
  let v2107 : BitVec 32 := Scalar.muli arg13 c2_i32_1150
  let c0_i32_1151 : BitVec 32 := 0#32
  let v2108 : BitVec 32 := Scalar.addi v2107 c0_i32_1151
  let v2109 : Index := Scalar.indexCast v2108
  let c0_1153 : Index := 0#32
  let c0_1154 : Index := 0#32
  ![0, 79, v2109.toNat, 0, 0]
def k0_off87 (k0_t2 : Fin k0_t2_loop.trips) : Fin 5 → Nat :=
  let c0_1166 : Index := 0#32
  let c80_1167 : Index := 80#32
  let c0_i32_28 : BitVec 32 := 0#32
  let c1_i32 : BitVec 32 := 1#32
  let arg13 : BitVec 32 := Scf.iv c0_i32_28 c1_i32 k0_t2
  let c2_i32_1164 : BitVec 32 := 2#32
  let v2133 : BitVec 32 := Scalar.muli arg13 c2_i32_1164
  let c0_i32_1165 : BitVec 32 := 0#32
  let v2134 : BitVec 32 := Scalar.addi v2133 c0_i32_1165
  let v2135 : Index := Scalar.indexCast v2134
  let c0_1168 : Index := 0#32
  let c0_1169 : Index := 0#32
  ![0, 80, v2135.toNat, 0, 0]
def k0_off88 (k0_t2 : Fin k0_t2_loop.trips) : Fin 5 → Nat :=
  let c0_1181 : Index := 0#32
  let c81 : Index := 81#32
  let c0_i32_28 : BitVec 32 := 0#32
  let c1_i32 : BitVec 32 := 1#32
  let arg13 : BitVec 32 := Scf.iv c0_i32_28 c1_i32 k0_t2
  let c2_i32_1179 : BitVec 32 := 2#32
  let v2157 : BitVec 32 := Scalar.muli arg13 c2_i32_1179
  let c0_i32_1180 : BitVec 32 := 0#32
  let v2158 : BitVec 32 := Scalar.addi v2157 c0_i32_1180
  let v2159 : Index := Scalar.indexCast v2158
  let c0_1182 : Index := 0#32
  let c0_1183 : Index := 0#32
  ![0, 81, v2159.toNat, 0, 0]
def k0_off89 (k0_t2 : Fin k0_t2_loop.trips) : Fin 5 → Nat :=
  let c0_1195 : Index := 0#32
  let c82 : Index := 82#32
  let c0_i32_28 : BitVec 32 := 0#32
  let c1_i32 : BitVec 32 := 1#32
  let arg13 : BitVec 32 := Scf.iv c0_i32_28 c1_i32 k0_t2
  let c2_i32_1193 : BitVec 32 := 2#32
  let v2183 : BitVec 32 := Scalar.muli arg13 c2_i32_1193
  let c0_i32_1194 : BitVec 32 := 0#32
  let v2184 : BitVec 32 := Scalar.addi v2183 c0_i32_1194
  let v2185 : Index := Scalar.indexCast v2184
  let c0_1196 : Index := 0#32
  let c0_1197 : Index := 0#32
  ![0, 82, v2185.toNat, 0, 0]
def k0_off90 (k0_t2 : Fin k0_t2_loop.trips) : Fin 5 → Nat :=
  let c0_1209 : Index := 0#32
  let c83 : Index := 83#32
  let c0_i32_28 : BitVec 32 := 0#32
  let c1_i32 : BitVec 32 := 1#32
  let arg13 : BitVec 32 := Scf.iv c0_i32_28 c1_i32 k0_t2
  let c2_i32_1207 : BitVec 32 := 2#32
  let v2209 : BitVec 32 := Scalar.muli arg13 c2_i32_1207
  let c0_i32_1208 : BitVec 32 := 0#32
  let v2210 : BitVec 32 := Scalar.addi v2209 c0_i32_1208
  let v2211 : Index := Scalar.indexCast v2210
  let c0_1210 : Index := 0#32
  let c0_1211 : Index := 0#32
  ![0, 83, v2211.toNat, 0, 0]
def k0_off91 (k0_t2 : Fin k0_t2_loop.trips) : Fin 5 → Nat :=
  let c0_1223 : Index := 0#32
  let c84 : Index := 84#32
  let c0_i32_28 : BitVec 32 := 0#32
  let c1_i32 : BitVec 32 := 1#32
  let arg13 : BitVec 32 := Scf.iv c0_i32_28 c1_i32 k0_t2
  let c2_i32_1221 : BitVec 32 := 2#32
  let v2235 : BitVec 32 := Scalar.muli arg13 c2_i32_1221
  let c0_i32_1222 : BitVec 32 := 0#32
  let v2236 : BitVec 32 := Scalar.addi v2235 c0_i32_1222
  let v2237 : Index := Scalar.indexCast v2236
  let c0_1224 : Index := 0#32
  let c0_1225 : Index := 0#32
  ![0, 84, v2237.toNat, 0, 0]
def k0_off92 (k0_t2 : Fin k0_t2_loop.trips) : Fin 5 → Nat :=
  let c0_1237 : Index := 0#32
  let c85 : Index := 85#32
  let c0_i32_28 : BitVec 32 := 0#32
  let c1_i32 : BitVec 32 := 1#32
  let arg13 : BitVec 32 := Scf.iv c0_i32_28 c1_i32 k0_t2
  let c2_i32_1235 : BitVec 32 := 2#32
  let v2261 : BitVec 32 := Scalar.muli arg13 c2_i32_1235
  let c0_i32_1236 : BitVec 32 := 0#32
  let v2262 : BitVec 32 := Scalar.addi v2261 c0_i32_1236
  let v2263 : Index := Scalar.indexCast v2262
  let c0_1238 : Index := 0#32
  let c0_1239 : Index := 0#32
  ![0, 85, v2263.toNat, 0, 0]
def k0_off93 (k0_t2 : Fin k0_t2_loop.trips) : Fin 5 → Nat :=
  let c0_1251 : Index := 0#32
  let c86 : Index := 86#32
  let c0_i32_28 : BitVec 32 := 0#32
  let c1_i32 : BitVec 32 := 1#32
  let arg13 : BitVec 32 := Scf.iv c0_i32_28 c1_i32 k0_t2
  let c2_i32_1249 : BitVec 32 := 2#32
  let v2287 : BitVec 32 := Scalar.muli arg13 c2_i32_1249
  let c0_i32_1250 : BitVec 32 := 0#32
  let v2288 : BitVec 32 := Scalar.addi v2287 c0_i32_1250
  let v2289 : Index := Scalar.indexCast v2288
  let c0_1252 : Index := 0#32
  let c0_1253 : Index := 0#32
  ![0, 86, v2289.toNat, 0, 0]
def k0_off94 (k0_t2 : Fin k0_t2_loop.trips) : Fin 5 → Nat :=
  let c0_1265 : Index := 0#32
  let c87 : Index := 87#32
  let c0_i32_28 : BitVec 32 := 0#32
  let c1_i32 : BitVec 32 := 1#32
  let arg13 : BitVec 32 := Scf.iv c0_i32_28 c1_i32 k0_t2
  let c2_i32_1263 : BitVec 32 := 2#32
  let v2313 : BitVec 32 := Scalar.muli arg13 c2_i32_1263
  let c0_i32_1264 : BitVec 32 := 0#32
  let v2314 : BitVec 32 := Scalar.addi v2313 c0_i32_1264
  let v2315 : Index := Scalar.indexCast v2314
  let c0_1266 : Index := 0#32
  let c0_1267 : Index := 0#32
  ![0, 87, v2315.toNat, 0, 0]
def k0_off95 (k0_t2 : Fin k0_t2_loop.trips) : Fin 5 → Nat :=
  let c0_1279 : Index := 0#32
  let c88_1280 : Index := 88#32
  let c0_i32_28 : BitVec 32 := 0#32
  let c1_i32 : BitVec 32 := 1#32
  let arg13 : BitVec 32 := Scf.iv c0_i32_28 c1_i32 k0_t2
  let c2_i32_1277 : BitVec 32 := 2#32
  let v2339 : BitVec 32 := Scalar.muli arg13 c2_i32_1277
  let c0_i32_1278 : BitVec 32 := 0#32
  let v2340 : BitVec 32 := Scalar.addi v2339 c0_i32_1278
  let v2341 : Index := Scalar.indexCast v2340
  let c0_1281 : Index := 0#32
  let c0_1282 : Index := 0#32
  ![0, 88, v2341.toNat, 0, 0]
def k0_off96 (k0_t2 : Fin k0_t2_loop.trips) : Fin 5 → Nat :=
  let c0_1294 : Index := 0#32
  let c89 : Index := 89#32
  let c0_i32_28 : BitVec 32 := 0#32
  let c1_i32 : BitVec 32 := 1#32
  let arg13 : BitVec 32 := Scf.iv c0_i32_28 c1_i32 k0_t2
  let c2_i32_1292 : BitVec 32 := 2#32
  let v2365 : BitVec 32 := Scalar.muli arg13 c2_i32_1292
  let c0_i32_1293 : BitVec 32 := 0#32
  let v2366 : BitVec 32 := Scalar.addi v2365 c0_i32_1293
  let v2367 : Index := Scalar.indexCast v2366
  let c0_1295 : Index := 0#32
  let c0_1296 : Index := 0#32
  ![0, 89, v2367.toNat, 0, 0]
def k0_off97 (k0_t2 : Fin k0_t2_loop.trips) : Fin 5 → Nat :=
  let c0_1308 : Index := 0#32
  let c90 : Index := 90#32
  let c0_i32_28 : BitVec 32 := 0#32
  let c1_i32 : BitVec 32 := 1#32
  let arg13 : BitVec 32 := Scf.iv c0_i32_28 c1_i32 k0_t2
  let c2_i32_1306 : BitVec 32 := 2#32
  let v2391 : BitVec 32 := Scalar.muli arg13 c2_i32_1306
  let c0_i32_1307 : BitVec 32 := 0#32
  let v2392 : BitVec 32 := Scalar.addi v2391 c0_i32_1307
  let v2393 : Index := Scalar.indexCast v2392
  let c0_1309 : Index := 0#32
  let c0_1310 : Index := 0#32
  ![0, 90, v2393.toNat, 0, 0]
def k0_off98 (k0_t2 : Fin k0_t2_loop.trips) : Fin 5 → Nat :=
  let c0_1322 : Index := 0#32
  let c91 : Index := 91#32
  let c0_i32_28 : BitVec 32 := 0#32
  let c1_i32 : BitVec 32 := 1#32
  let arg13 : BitVec 32 := Scf.iv c0_i32_28 c1_i32 k0_t2
  let c2_i32_1320 : BitVec 32 := 2#32
  let v2417 : BitVec 32 := Scalar.muli arg13 c2_i32_1320
  let c0_i32_1321 : BitVec 32 := 0#32
  let v2418 : BitVec 32 := Scalar.addi v2417 c0_i32_1321
  let v2419 : Index := Scalar.indexCast v2418
  let c0_1323 : Index := 0#32
  let c0_1324 : Index := 0#32
  ![0, 91, v2419.toNat, 0, 0]
def k0_off99 (k0_t2 : Fin k0_t2_loop.trips) : Fin 5 → Nat :=
  let c0_1336 : Index := 0#32
  let c92 : Index := 92#32
  let c0_i32_28 : BitVec 32 := 0#32
  let c1_i32 : BitVec 32 := 1#32
  let arg13 : BitVec 32 := Scf.iv c0_i32_28 c1_i32 k0_t2
  let c2_i32_1334 : BitVec 32 := 2#32
  let v2443 : BitVec 32 := Scalar.muli arg13 c2_i32_1334
  let c0_i32_1335 : BitVec 32 := 0#32
  let v2444 : BitVec 32 := Scalar.addi v2443 c0_i32_1335
  let v2445 : Index := Scalar.indexCast v2444
  let c0_1337 : Index := 0#32
  let c0_1338 : Index := 0#32
  ![0, 92, v2445.toNat, 0, 0]
def k0_off100 (k0_t2 : Fin k0_t2_loop.trips) : Fin 5 → Nat :=
  let c0_1350 : Index := 0#32
  let c93 : Index := 93#32
  let c0_i32_28 : BitVec 32 := 0#32
  let c1_i32 : BitVec 32 := 1#32
  let arg13 : BitVec 32 := Scf.iv c0_i32_28 c1_i32 k0_t2
  let c2_i32_1348 : BitVec 32 := 2#32
  let v2469 : BitVec 32 := Scalar.muli arg13 c2_i32_1348
  let c0_i32_1349 : BitVec 32 := 0#32
  let v2470 : BitVec 32 := Scalar.addi v2469 c0_i32_1349
  let v2471 : Index := Scalar.indexCast v2470
  let c0_1351 : Index := 0#32
  let c0_1352 : Index := 0#32
  ![0, 93, v2471.toNat, 0, 0]
def k0_off101 (k0_t2 : Fin k0_t2_loop.trips) : Fin 5 → Nat :=
  let c0_1364 : Index := 0#32
  let c94 : Index := 94#32
  let c0_i32_28 : BitVec 32 := 0#32
  let c1_i32 : BitVec 32 := 1#32
  let arg13 : BitVec 32 := Scf.iv c0_i32_28 c1_i32 k0_t2
  let c2_i32_1362 : BitVec 32 := 2#32
  let v2495 : BitVec 32 := Scalar.muli arg13 c2_i32_1362
  let c0_i32_1363 : BitVec 32 := 0#32
  let v2496 : BitVec 32 := Scalar.addi v2495 c0_i32_1363
  let v2497 : Index := Scalar.indexCast v2496
  let c0_1365 : Index := 0#32
  let c0_1366 : Index := 0#32
  ![0, 94, v2497.toNat, 0, 0]
def k0_off102 (k0_t2 : Fin k0_t2_loop.trips) : Fin 5 → Nat :=
  let c0_1378 : Index := 0#32
  let c95 : Index := 95#32
  let c0_i32_28 : BitVec 32 := 0#32
  let c1_i32 : BitVec 32 := 1#32
  let arg13 : BitVec 32 := Scf.iv c0_i32_28 c1_i32 k0_t2
  let c2_i32_1376 : BitVec 32 := 2#32
  let v2521 : BitVec 32 := Scalar.muli arg13 c2_i32_1376
  let c0_i32_1377 : BitVec 32 := 0#32
  let v2522 : BitVec 32 := Scalar.addi v2521 c0_i32_1377
  let v2523 : Index := Scalar.indexCast v2522
  let c0_1379 : Index := 0#32
  let c0_1380 : Index := 0#32
  ![0, 95, v2523.toNat, 0, 0]
def k0_off103 (i : grid0.Coords) (k0_t2 : Fin k0_t2_loop.trips) : Fin 3 → Nat :=
  let c0_1539 : Index := 0#32
  let arg0 : BitVec 32 := BitVec.ofNat 32 (i 0).val
  let v2973 : Index := Scalar.indexCast arg0
  let c0_i32_28 : BitVec 32 := 0#32
  let c1_i32 : BitVec 32 := 1#32
  let arg13 : BitVec 32 := Scf.iv c0_i32_28 c1_i32 k0_t2
  let c256_i32 : BitVec 32 := 256#32
  let v2972 : BitVec 32 := Scalar.muli arg13 c256_i32
  let v2974 : Index := Scalar.indexCast v2972
  ![0, v2973.toNat, v2974.toNat]
def k0_off104 (k0_t2 : Fin k0_t2_loop.trips) (c0_i32_1613 : BitVec 32) : Fin 3 → Nat :=
  let c0_1615 : Index := 0#32
  let c0_i32_28 : BitVec 32 := 0#32
  let c1_i32 : BitVec 32 := 1#32
  let arg13 : BitVec 32 := Scf.iv c0_i32_28 c1_i32 k0_t2
  let c2_i32_1612 : BitVec 32 := 2#32
  let v3055 : BitVec 32 := Scalar.muli arg13 c2_i32_1612
  let v3056 : BitVec 32 := Scalar.addi v3055 c0_i32_1613
  let c128_i32_1614 : BitVec 32 := 128#32
  let v3057 : BitVec 32 := Scalar.muli v3056 c128_i32_1614
  let v3058 : Index := Scalar.indexCast v3057
  let c0_1616 : Index := 0#32
  ![0, v3058.toNat, 0]
def k0_off105 (i : grid0.Coords) (k0_t2 : Fin k0_t2_loop.trips) : Fin 3 → Nat :=
  let c1_1695 : Index := 1#32
  let arg0 : BitVec 32 := BitVec.ofNat 32 (i 0).val
  let v3148 : Index := Scalar.indexCast arg0
  let c0_i32_28 : BitVec 32 := 0#32
  let c1_i32 : BitVec 32 := 1#32
  let arg13 : BitVec 32 := Scf.iv c0_i32_28 c1_i32 k0_t2
  let c256_i32_1694 : BitVec 32 := 256#32
  let v3147 : BitVec 32 := Scalar.muli arg13 c256_i32_1694
  let v3149 : Index := Scalar.indexCast v3147
  ![1, v3148.toNat, v3149.toNat]
def k0_off106 (k0_t2 : Fin k0_t2_loop.trips) (c0_i32_1769 : BitVec 32) : Fin 3 → Nat :=
  let c0_1771 : Index := 0#32
  let c0_i32_28 : BitVec 32 := 0#32
  let c1_i32 : BitVec 32 := 1#32
  let arg13 : BitVec 32 := Scf.iv c0_i32_28 c1_i32 k0_t2
  let c2_i32_1768 : BitVec 32 := 2#32
  let v3230 : BitVec 32 := Scalar.muli arg13 c2_i32_1768
  let v3231 : BitVec 32 := Scalar.addi v3230 c0_i32_1769
  let c128_i32_1770 : BitVec 32 := 128#32
  let v3232 : BitVec 32 := Scalar.muli v3231 c128_i32_1770
  let v3233 : Index := Scalar.indexCast v3232
  let c128_1772 : Index := 128#32
  ![0, v3233.toNat, 128]
def k0_off107 (i : grid0.Coords) (k0_t2 : Fin k0_t2_loop.trips) : Fin 3 → Nat :=
  let c2_1851 : Index := 2#32
  let arg0 : BitVec 32 := BitVec.ofNat 32 (i 0).val
  let v3323 : Index := Scalar.indexCast arg0
  let c0_i32_28 : BitVec 32 := 0#32
  let c1_i32 : BitVec 32 := 1#32
  let arg13 : BitVec 32 := Scf.iv c0_i32_28 c1_i32 k0_t2
  let c256_i32_1850 : BitVec 32 := 256#32
  let v3322 : BitVec 32 := Scalar.muli arg13 c256_i32_1850
  let v3324 : Index := Scalar.indexCast v3322
  ![2, v3323.toNat, v3324.toNat]
def k0_off108 (k0_t2 : Fin k0_t2_loop.trips) (c0_i32_1925 : BitVec 32) : Fin 3 → Nat :=
  let c0_1927 : Index := 0#32
  let c0_i32_28 : BitVec 32 := 0#32
  let c1_i32 : BitVec 32 := 1#32
  let arg13 : BitVec 32 := Scf.iv c0_i32_28 c1_i32 k0_t2
  let c2_i32_1924 : BitVec 32 := 2#32
  let v3405 : BitVec 32 := Scalar.muli arg13 c2_i32_1924
  let v3406 : BitVec 32 := Scalar.addi v3405 c0_i32_1925
  let c128_i32_1926 : BitVec 32 := 128#32
  let v3407 : BitVec 32 := Scalar.muli v3406 c128_i32_1926
  let v3408 : Index := Scalar.indexCast v3407
  let c256_1928 : Index := 256#32
  ![0, v3408.toNat, 256]
def k0_off109 (i : grid0.Coords) (k0_t2 : Fin k0_t2_loop.trips) : Fin 3 → Nat :=
  let c3_2007 : Index := 3#32
  let arg0 : BitVec 32 := BitVec.ofNat 32 (i 0).val
  let v3498 : Index := Scalar.indexCast arg0
  let c0_i32_28 : BitVec 32 := 0#32
  let c1_i32 : BitVec 32 := 1#32
  let arg13 : BitVec 32 := Scf.iv c0_i32_28 c1_i32 k0_t2
  let c256_i32_2006 : BitVec 32 := 256#32
  let v3497 : BitVec 32 := Scalar.muli arg13 c256_i32_2006
  let v3499 : Index := Scalar.indexCast v3497
  ![3, v3498.toNat, v3499.toNat]
def k0_off110 (k0_t2 : Fin k0_t2_loop.trips) (c0_i32_2081 : BitVec 32) : Fin 3 → Nat :=
  let c0_2083 : Index := 0#32
  let c0_i32_28 : BitVec 32 := 0#32
  let c1_i32 : BitVec 32 := 1#32
  let arg13 : BitVec 32 := Scf.iv c0_i32_28 c1_i32 k0_t2
  let c2_i32_2080 : BitVec 32 := 2#32
  let v3580 : BitVec 32 := Scalar.muli arg13 c2_i32_2080
  let v3581 : BitVec 32 := Scalar.addi v3580 c0_i32_2081
  let c128_i32_2082 : BitVec 32 := 128#32
  let v3582 : BitVec 32 := Scalar.muli v3581 c128_i32_2082
  let v3583 : Index := Scalar.indexCast v3582
  let c384_2084 : Index := 384#32
  ![0, v3583.toNat, 384]
def k0_off111 (i : grid0.Coords) (k0_t2 : Fin k0_t2_loop.trips) : Fin 3 → Nat :=
  let c4_2163 : Index := 4#32
  let arg0 : BitVec 32 := BitVec.ofNat 32 (i 0).val
  let v3673 : Index := Scalar.indexCast arg0
  let c0_i32_28 : BitVec 32 := 0#32
  let c1_i32 : BitVec 32 := 1#32
  let arg13 : BitVec 32 := Scf.iv c0_i32_28 c1_i32 k0_t2
  let c256_i32_2162 : BitVec 32 := 256#32
  let v3672 : BitVec 32 := Scalar.muli arg13 c256_i32_2162
  let v3674 : Index := Scalar.indexCast v3672
  ![4, v3673.toNat, v3674.toNat]
def k0_off112 (k0_t2 : Fin k0_t2_loop.trips) (c0_i32_2237 : BitVec 32) : Fin 3 → Nat :=
  let c0_2239 : Index := 0#32
  let c0_i32_28 : BitVec 32 := 0#32
  let c1_i32 : BitVec 32 := 1#32
  let arg13 : BitVec 32 := Scf.iv c0_i32_28 c1_i32 k0_t2
  let c2_i32_2236 : BitVec 32 := 2#32
  let v3755 : BitVec 32 := Scalar.muli arg13 c2_i32_2236
  let v3756 : BitVec 32 := Scalar.addi v3755 c0_i32_2237
  let c128_i32_2238 : BitVec 32 := 128#32
  let v3757 : BitVec 32 := Scalar.muli v3756 c128_i32_2238
  let v3758 : Index := Scalar.indexCast v3757
  let c512_2240 : Index := 512#32
  ![0, v3758.toNat, 512]
def k0_off113 (i : grid0.Coords) (k0_t2 : Fin k0_t2_loop.trips) : Fin 3 → Nat :=
  let c5_2319 : Index := 5#32
  let arg0 : BitVec 32 := BitVec.ofNat 32 (i 0).val
  let v3848 : Index := Scalar.indexCast arg0
  let c0_i32_28 : BitVec 32 := 0#32
  let c1_i32 : BitVec 32 := 1#32
  let arg13 : BitVec 32 := Scf.iv c0_i32_28 c1_i32 k0_t2
  let c256_i32_2318 : BitVec 32 := 256#32
  let v3847 : BitVec 32 := Scalar.muli arg13 c256_i32_2318
  let v3849 : Index := Scalar.indexCast v3847
  ![5, v3848.toNat, v3849.toNat]
def k0_off114 (k0_t2 : Fin k0_t2_loop.trips) (c0_i32_2393 : BitVec 32) : Fin 3 → Nat :=
  let c0_2395 : Index := 0#32
  let c0_i32_28 : BitVec 32 := 0#32
  let c1_i32 : BitVec 32 := 1#32
  let arg13 : BitVec 32 := Scf.iv c0_i32_28 c1_i32 k0_t2
  let c2_i32_2392 : BitVec 32 := 2#32
  let v3930 : BitVec 32 := Scalar.muli arg13 c2_i32_2392
  let v3931 : BitVec 32 := Scalar.addi v3930 c0_i32_2393
  let c128_i32_2394 : BitVec 32 := 128#32
  let v3932 : BitVec 32 := Scalar.muli v3931 c128_i32_2394
  let v3933 : Index := Scalar.indexCast v3932
  let c640_2396 : Index := 640#32
  ![0, v3933.toNat, 640]
def k0_off115 (k0_t2 : Fin k0_t2_loop.trips) (c0_i32_2475 : BitVec 32) : Fin 3 → Nat :=
  let c0_2476 : Index := 0#32
  let c0_i32_28 : BitVec 32 := 0#32
  let c1_i32 : BitVec 32 := 1#32
  let arg13 : BitVec 32 := Scf.iv c0_i32_28 c1_i32 k0_t2
  let c4_i32_2474 : BitVec 32 := 4#32
  let v4021 : BitVec 32 := Scalar.muli arg13 c4_i32_2474
  let v4022 : BitVec 32 := Scalar.addi v4021 c0_i32_2475
  let v4023 : Index := Scalar.indexCast v4022
  let c0_2477 : Index := 0#32
  ![0, v4023.toNat, 0]
def k0_off116 (k0_t2 : Fin k0_t2_loop.trips) (c0_i32_2475 : BitVec 32) : Fin 3 → Nat :=
  let c1_2478 : Index := 1#32
  let c0_i32_28 : BitVec 32 := 0#32
  let c1_i32 : BitVec 32 := 1#32
  let arg13 : BitVec 32 := Scf.iv c0_i32_28 c1_i32 k0_t2
  let c4_i32_2474 : BitVec 32 := 4#32
  let v4021 : BitVec 32 := Scalar.muli arg13 c4_i32_2474
  let v4022 : BitVec 32 := Scalar.addi v4021 c0_i32_2475
  let v4026 : Index := Scalar.indexCast v4022
  let c0_2479 : Index := 0#32
  ![1, v4026.toNat, 0]
def k0_off117 (k0_t2 : Fin k0_t2_loop.trips) (c0_i32_2475 : BitVec 32) : Fin 3 → Nat :=
  let c2_2480 : Index := 2#32
  let c0_i32_28 : BitVec 32 := 0#32
  let c1_i32 : BitVec 32 := 1#32
  let arg13 : BitVec 32 := Scf.iv c0_i32_28 c1_i32 k0_t2
  let c4_i32_2474 : BitVec 32 := 4#32
  let v4021 : BitVec 32 := Scalar.muli arg13 c4_i32_2474
  let v4022 : BitVec 32 := Scalar.addi v4021 c0_i32_2475
  let v4029 : Index := Scalar.indexCast v4022
  let c0_2481 : Index := 0#32
  ![2, v4029.toNat, 0]
def k0_off118 (k0_t2 : Fin k0_t2_loop.trips) (c0_i32_2475 : BitVec 32) : Fin 3 → Nat :=
  let c0_2482 : Index := 0#32
  let c0_i32_28 : BitVec 32 := 0#32
  let c1_i32 : BitVec 32 := 1#32
  let arg13 : BitVec 32 := Scf.iv c0_i32_28 c1_i32 k0_t2
  let c4_i32_2474 : BitVec 32 := 4#32
  let v4021 : BitVec 32 := Scalar.muli arg13 c4_i32_2474
  let v4022 : BitVec 32 := Scalar.addi v4021 c0_i32_2475
  let v4032 : Index := Scalar.indexCast v4022
  let c0_2483 : Index := 0#32
  ![0, v4032.toNat, 0]
def k0_off119 (k0_t2 : Fin k0_t2_loop.trips) (c0_i32_2475 : BitVec 32) : Fin 3 → Nat :=
  let c1_2484 : Index := 1#32
  let c0_i32_28 : BitVec 32 := 0#32
  let c1_i32 : BitVec 32 := 1#32
  let arg13 : BitVec 32 := Scf.iv c0_i32_28 c1_i32 k0_t2
  let c4_i32_2474 : BitVec 32 := 4#32
  let v4021 : BitVec 32 := Scalar.muli arg13 c4_i32_2474
  let v4022 : BitVec 32 := Scalar.addi v4021 c0_i32_2475
  let v4035 : Index := Scalar.indexCast v4022
  let c0_2485 : Index := 0#32
  ![1, v4035.toNat, 0]
def k0_off120 (k0_t2 : Fin k0_t2_loop.trips) (c0_i32_2475 : BitVec 32) : Fin 4 → Nat :=
  let c0_2486 : Index := 0#32
  let c0_i32_28 : BitVec 32 := 0#32
  let c1_i32 : BitVec 32 := 1#32
  let arg13 : BitVec 32 := Scf.iv c0_i32_28 c1_i32 k0_t2
  let c4_i32_2474 : BitVec 32 := 4#32
  let v4021 : BitVec 32 := Scalar.muli arg13 c4_i32_2474
  let v4022 : BitVec 32 := Scalar.addi v4021 c0_i32_2475
  let v4038 : Index := Scalar.indexCast v4022
  let c0_2487 : Index := 0#32
  let c0_2488 : Index := 0#32
  ![0, v4038.toNat, 0, 0]
def k0_off121 (k0_t2 : Fin k0_t2_loop.trips) (c0_i32_2475 : BitVec 32) : Fin 4 → Nat :=
  let c1_2489 : Index := 1#32
  let c0_i32_28 : BitVec 32 := 0#32
  let c1_i32 : BitVec 32 := 1#32
  let arg13 : BitVec 32 := Scf.iv c0_i32_28 c1_i32 k0_t2
  let c4_i32_2474 : BitVec 32 := 4#32
  let v4021 : BitVec 32 := Scalar.muli arg13 c4_i32_2474
  let v4022 : BitVec 32 := Scalar.addi v4021 c0_i32_2475
  let v4041 : Index := Scalar.indexCast v4022
  let c0_2490 : Index := 0#32
  let c0_2491 : Index := 0#32
  ![1, v4041.toNat, 0, 0]
def k0_off122 (k0_t2 : Fin k0_t2_loop.trips) : Fin 5 → Nat :=
  let c0_2495 : Index := 0#32
  let c96_i32 : BitVec 32 := 96#32
  let c0_i32_28 : BitVec 32 := 0#32
  let c1_i32 : BitVec 32 := 1#32
  let arg13 : BitVec 32 := Scf.iv c0_i32_28 c1_i32 k0_t2
  let c1_i32_2493 : BitVec 32 := 1#32
  let v4070 : BitVec 32 := Scalar.muli arg13 c1_i32_2493
  let c0_i32_2494 : BitVec 32 := 0#32
  let v4071 : BitVec 32 := Scalar.addi v4070 c0_i32_2494
  let v4072 : BitVec 32 := Scalar.addi c96_i32 v4071
  let v4074 : Index := Scalar.indexCast v4072
  let c0_2496 : Index := 0#32
  let c0_2498 : Index := 0#32
  ![0, v4074.toNat, 0, 0, 0]
def k0_off123 (k0_t2 : Fin k0_t2_loop.trips) : Fin 5 → Nat :=
  let c0_2500 : Index := 0#32
  let c0_i32_28 : BitVec 32 := 0#32
  let c1_i32 : BitVec 32 := 1#32
  let arg13 : BitVec 32 := Scf.iv c0_i32_28 c1_i32 k0_t2
  let c1_i32_2493 : BitVec 32 := 1#32
  let v4070 : BitVec 32 := Scalar.muli arg13 c1_i32_2493
  let c0_i32_2494 : BitVec 32 := 0#32
  let v4071 : BitVec 32 := Scalar.addi v4070 c0_i32_2494
  let v4091 : Index := Scalar.indexCast v4071
  let c0_2501 : Index := 0#32
  let c0_2503 : Index := 0#32
  ![0, v4091.toNat, 0, 0, 0]
def k0_off124 (k0_t2 : Fin k0_t2_loop.trips) (c0_i32_2505 : BitVec 32) : Fin 3 → Nat :=
  let c2_2512 : Index := 2#32
  let c0_i32_28 : BitVec 32 := 0#32
  let c1_i32 : BitVec 32 := 1#32
  let arg13 : BitVec 32 := Scf.iv c0_i32_28 c1_i32 k0_t2
  let c4_i32_2504 : BitVec 32 := 4#32
  let v4095 : BitVec 32 := Scalar.muli arg13 c4_i32_2504
  let v4096 : BitVec 32 := Scalar.addi v4095 c0_i32_2505
  let v4106 : Index := Scalar.indexCast v4096
  let c0_2513 : Index := 0#32
  ![2, v4106.toNat, 0]
def k0_off125 (k0_t2 : Fin k0_t2_loop.trips) (c0_i32_2505 : BitVec 32) : Fin 3 → Nat :=
  let c3_2514 : Index := 3#32
  let c0_i32_28 : BitVec 32 := 0#32
  let c1_i32 : BitVec 32 := 1#32
  let arg13 : BitVec 32 := Scf.iv c0_i32_28 c1_i32 k0_t2
  let c4_i32_2504 : BitVec 32 := 4#32
  let v4095 : BitVec 32 := Scalar.muli arg13 c4_i32_2504
  let v4096 : BitVec 32 := Scalar.addi v4095 c0_i32_2505
  let v4109 : Index := Scalar.indexCast v4096
  let c0_2515 : Index := 0#32
  ![3, v4109.toNat, 0]
def k0_off126 (k0_t2 : Fin k0_t2_loop.trips) : Fin 5 → Nat :=
  let c0_2525 : Index := 0#32
  let c96_i32_2524 : BitVec 32 := 96#32
  let c0_i32_28 : BitVec 32 := 0#32
  let c1_i32 : BitVec 32 := 1#32
  let arg13 : BitVec 32 := Scf.iv c0_i32_28 c1_i32 k0_t2
  let c1_i32_2522 : BitVec 32 := 1#32
  let v4144 : BitVec 32 := Scalar.muli arg13 c1_i32_2522
  let c0_i32_2523 : BitVec 32 := 0#32
  let v4145 : BitVec 32 := Scalar.addi v4144 c0_i32_2523
  let v4146 : BitVec 32 := Scalar.addi c96_i32_2524 v4145
  let v4148 : Index := Scalar.indexCast v4146
  let c8_2526 : Index := 8#32
  let c0_2528 : Index := 0#32
  ![0, v4148.toNat, 8, 0, 0]
def k0_off127 (k0_t2 : Fin k0_t2_loop.trips) : Fin 5 → Nat :=
  let c0_2531 : Index := 0#32
  let c0_i32_28 : BitVec 32 := 0#32
  let c1_i32 : BitVec 32 := 1#32
  let arg13 : BitVec 32 := Scf.iv c0_i32_28 c1_i32 k0_t2
  let c1_i32_2522 : BitVec 32 := 1#32
  let v4144 : BitVec 32 := Scalar.muli arg13 c1_i32_2522
  let c0_i32_2523 : BitVec 32 := 0#32
  let v4145 : BitVec 32 := Scalar.addi v4144 c0_i32_2523
  let v4165 : Index := Scalar.indexCast v4145
  let c8_2532 : Index := 8#32
  let c0_2534 : Index := 0#32
  ![0, v4165.toNat, 8, 0, 0]
def k0_off128 (k0_t2 : Fin k0_t2_loop.trips) : Fin 5 → Nat :=
  let c0_2557 : Index := 0#32
  let c96_i32_2556 : BitVec 32 := 96#32
  let c0_i32_28 : BitVec 32 := 0#32
  let c1_i32 : BitVec 32 := 1#32
  let arg13 : BitVec 32 := Scf.iv c0_i32_28 c1_i32 k0_t2
  let c1_i32_2554 : BitVec 32 := 1#32
  let v4218 : BitVec 32 := Scalar.muli arg13 c1_i32_2554
  let c0_i32_2555 : BitVec 32 := 0#32
  let v4219 : BitVec 32 := Scalar.addi v4218 c0_i32_2555
  let v4220 : BitVec 32 := Scalar.addi c96_i32_2556 v4219
  let v4222 : Index := Scalar.indexCast v4220
  let c0_2558 : Index := 0#32
  let c0_2560 : Index := 0#32
  ![0, v4222.toNat, 0, 2, 0]
def k0_off129 (k0_t2 : Fin k0_t2_loop.trips) : Fin 5 → Nat :=
  let c0_2563 : Index := 0#32
  let c0_i32_28 : BitVec 32 := 0#32
  let c1_i32 : BitVec 32 := 1#32
  let arg13 : BitVec 32 := Scf.iv c0_i32_28 c1_i32 k0_t2
  let c1_i32_2554 : BitVec 32 := 1#32
  let v4218 : BitVec 32 := Scalar.muli arg13 c1_i32_2554
  let c0_i32_2555 : BitVec 32 := 0#32
  let v4219 : BitVec 32 := Scalar.addi v4218 c0_i32_2555
  let v4239 : Index := Scalar.indexCast v4219
  let c0_2564 : Index := 0#32
  let c0_2566 : Index := 0#32
  ![0, v4239.toNat, 0, 2, 0]
def k0_off130 (k0_t2 : Fin k0_t2_loop.trips) : Fin 5 → Nat :=
  let c0_2589 : Index := 0#32
  let c96_i32_2588 : BitVec 32 := 96#32
  let c0_i32_28 : BitVec 32 := 0#32
  let c1_i32 : BitVec 32 := 1#32
  let arg13 : BitVec 32 := Scf.iv c0_i32_28 c1_i32 k0_t2
  let c1_i32_2586 : BitVec 32 := 1#32
  let v4292 : BitVec 32 := Scalar.muli arg13 c1_i32_2586
  let c0_i32_2587 : BitVec 32 := 0#32
  let v4293 : BitVec 32 := Scalar.addi v4292 c0_i32_2587
  let v4294 : BitVec 32 := Scalar.addi c96_i32_2588 v4293
  let v4296 : Index := Scalar.indexCast v4294
  let c8_2590 : Index := 8#32
  let c0_2592 : Index := 0#32
  ![0, v4296.toNat, 8, 2, 0]
def k0_off131 (k0_t2 : Fin k0_t2_loop.trips) : Fin 5 → Nat :=
  let c0_2595 : Index := 0#32
  let c0_i32_28 : BitVec 32 := 0#32
  let c1_i32 : BitVec 32 := 1#32
  let arg13 : BitVec 32 := Scf.iv c0_i32_28 c1_i32 k0_t2
  let c1_i32_2586 : BitVec 32 := 1#32
  let v4292 : BitVec 32 := Scalar.muli arg13 c1_i32_2586
  let c0_i32_2587 : BitVec 32 := 0#32
  let v4293 : BitVec 32 := Scalar.addi v4292 c0_i32_2587
  let v4313 : Index := Scalar.indexCast v4293
  let c8_2596 : Index := 8#32
  let c0_2598 : Index := 0#32
  ![0, v4313.toNat, 8, 2, 0]
def k0_off132 (k0_t2 : Fin k0_t2_loop.trips) : Fin 5 → Nat :=
  let c0_2621 : Index := 0#32
  let c96_i32_2620 : BitVec 32 := 96#32
  let c0_i32_28 : BitVec 32 := 0#32
  let c1_i32 : BitVec 32 := 1#32
  let arg13 : BitVec 32 := Scf.iv c0_i32_28 c1_i32 k0_t2
  let c1_i32_2618 : BitVec 32 := 1#32
  let v4366 : BitVec 32 := Scalar.muli arg13 c1_i32_2618
  let c0_i32_2619 : BitVec 32 := 0#32
  let v4367 : BitVec 32 := Scalar.addi v4366 c0_i32_2619
  let v4368 : BitVec 32 := Scalar.addi c96_i32_2620 v4367
  let v4370 : Index := Scalar.indexCast v4368
  let c0_2622 : Index := 0#32
  let c0_2624 : Index := 0#32
  ![0, v4370.toNat, 0, 4, 0]
def k0_off133 (k0_t2 : Fin k0_t2_loop.trips) : Fin 5 → Nat :=
  let c0_2627 : Index := 0#32
  let c0_i32_28 : BitVec 32 := 0#32
  let c1_i32 : BitVec 32 := 1#32
  let arg13 : BitVec 32 := Scf.iv c0_i32_28 c1_i32 k0_t2
  let c1_i32_2618 : BitVec 32 := 1#32
  let v4366 : BitVec 32 := Scalar.muli arg13 c1_i32_2618
  let c0_i32_2619 : BitVec 32 := 0#32
  let v4367 : BitVec 32 := Scalar.addi v4366 c0_i32_2619
  let v4387 : Index := Scalar.indexCast v4367
  let c0_2628 : Index := 0#32
  let c0_2630 : Index := 0#32
  ![0, v4387.toNat, 0, 4, 0]
def k0_off134 (k0_t2 : Fin k0_t2_loop.trips) : Fin 5 → Nat :=
  let c0_2653 : Index := 0#32
  let c96_i32_2652 : BitVec 32 := 96#32
  let c0_i32_28 : BitVec 32 := 0#32
  let c1_i32 : BitVec 32 := 1#32
  let arg13 : BitVec 32 := Scf.iv c0_i32_28 c1_i32 k0_t2
  let c1_i32_2650 : BitVec 32 := 1#32
  let v4440 : BitVec 32 := Scalar.muli arg13 c1_i32_2650
  let c0_i32_2651 : BitVec 32 := 0#32
  let v4441 : BitVec 32 := Scalar.addi v4440 c0_i32_2651
  let v4442 : BitVec 32 := Scalar.addi c96_i32_2652 v4441
  let v4444 : Index := Scalar.indexCast v4442
  let c8_2654 : Index := 8#32
  let c0_2656 : Index := 0#32
  ![0, v4444.toNat, 8, 4, 0]
def k0_off135 (k0_t2 : Fin k0_t2_loop.trips) : Fin 5 → Nat :=
  let c0_2659 : Index := 0#32
  let c0_i32_28 : BitVec 32 := 0#32
  let c1_i32 : BitVec 32 := 1#32
  let arg13 : BitVec 32 := Scf.iv c0_i32_28 c1_i32 k0_t2
  let c1_i32_2650 : BitVec 32 := 1#32
  let v4440 : BitVec 32 := Scalar.muli arg13 c1_i32_2650
  let c0_i32_2651 : BitVec 32 := 0#32
  let v4441 : BitVec 32 := Scalar.addi v4440 c0_i32_2651
  let v4461 : Index := Scalar.indexCast v4441
  let c8_2660 : Index := 8#32
  let c0_2662 : Index := 0#32
  ![0, v4461.toNat, 8, 4, 0]
def k0_off136 (k0_t2 : Fin k0_t2_loop.trips) : Fin 5 → Nat :=
  let c0_2684 : Index := 0#32
  let c96_i32_2683 : BitVec 32 := 96#32
  let c0_i32_28 : BitVec 32 := 0#32
  let c1_i32 : BitVec 32 := 1#32
  let arg13 : BitVec 32 := Scf.iv c0_i32_28 c1_i32 k0_t2
  let c1_i32_2681 : BitVec 32 := 1#32
  let v4514 : BitVec 32 := Scalar.muli arg13 c1_i32_2681
  let c0_i32_2682 : BitVec 32 := 0#32
  let v4515 : BitVec 32 := Scalar.addi v4514 c0_i32_2682
  let v4516 : BitVec 32 := Scalar.addi c96_i32_2683 v4515
  let v4518 : Index := Scalar.indexCast v4516
  let c0_2685 : Index := 0#32
  let c0_2687 : Index := 0#32
  ![0, v4518.toNat, 0, 6, 0]
def k0_off137 (k0_t2 : Fin k0_t2_loop.trips) : Fin 5 → Nat :=
  let c0_2690 : Index := 0#32
  let c0_i32_28 : BitVec 32 := 0#32
  let c1_i32 : BitVec 32 := 1#32
  let arg13 : BitVec 32 := Scf.iv c0_i32_28 c1_i32 k0_t2
  let c1_i32_2681 : BitVec 32 := 1#32
  let v4514 : BitVec 32 := Scalar.muli arg13 c1_i32_2681
  let c0_i32_2682 : BitVec 32 := 0#32
  let v4515 : BitVec 32 := Scalar.addi v4514 c0_i32_2682
  let v4535 : Index := Scalar.indexCast v4515
  let c0_2691 : Index := 0#32
  let c0_2693 : Index := 0#32
  ![0, v4535.toNat, 0, 6, 0]
def k0_off138 (k0_t2 : Fin k0_t2_loop.trips) : Fin 5 → Nat :=
  let c0_2716 : Index := 0#32
  let c96_i32_2715 : BitVec 32 := 96#32
  let c0_i32_28 : BitVec 32 := 0#32
  let c1_i32 : BitVec 32 := 1#32
  let arg13 : BitVec 32 := Scf.iv c0_i32_28 c1_i32 k0_t2
  let c1_i32_2713 : BitVec 32 := 1#32
  let v4588 : BitVec 32 := Scalar.muli arg13 c1_i32_2713
  let c0_i32_2714 : BitVec 32 := 0#32
  let v4589 : BitVec 32 := Scalar.addi v4588 c0_i32_2714
  let v4590 : BitVec 32 := Scalar.addi c96_i32_2715 v4589
  let v4592 : Index := Scalar.indexCast v4590
  let c8_2717 : Index := 8#32
  let c0_2719 : Index := 0#32
  ![0, v4592.toNat, 8, 6, 0]
def k0_off139 (k0_t2 : Fin k0_t2_loop.trips) : Fin 5 → Nat :=
  let c0_2722 : Index := 0#32
  let c0_i32_28 : BitVec 32 := 0#32
  let c1_i32 : BitVec 32 := 1#32
  let arg13 : BitVec 32 := Scf.iv c0_i32_28 c1_i32 k0_t2
  let c1_i32_2713 : BitVec 32 := 1#32
  let v4588 : BitVec 32 := Scalar.muli arg13 c1_i32_2713
  let c0_i32_2714 : BitVec 32 := 0#32
  let v4589 : BitVec 32 := Scalar.addi v4588 c0_i32_2714
  let v4609 : Index := Scalar.indexCast v4589
  let c8_2723 : Index := 8#32
  let c0_2725 : Index := 0#32
  ![0, v4609.toNat, 8, 6, 0]
def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x104x16x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x16x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x768 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x20x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "inv_n" => some ((1 / 768 : ℝ) : EReal)
  | "log2_base" => some (((Real.log 10000) * (Real.log 2)⁻¹ : ℝ) : EReal)
  | _ => none
-- ==== ReferenceIdeal.lean ====
abbrev S20x2048x832 : Shape := ⟨3, ![20, 2048, 832]⟩
abbrev S768 : Shape := ⟨1, ![768]⟩
abbrev S20 : Shape := ⟨1, ![20]⟩
abbrev S20x2048x768 : Shape := ⟨3, ![20, 2048, 768]⟩
abbrev S_ : Shape := ⟨0, ![]⟩
abbrev S20x2048 : Shape := ⟨2, ![20, 2048]⟩
abbrev S20x2048x1 : Shape := ⟨3, ![20, 2048, 1]⟩
abbrev S1x1x768 : Shape := ⟨3, ![1, 1, 768]⟩
abbrev S20x2048x6x128 : Shape := ⟨4, ![20, 2048, 6, 128]⟩
abbrev S20x2048x6 : Shape := ⟨3, ![20, 2048, 6]⟩
abbrev S20x2048x6x1 : Shape := ⟨4, ![20, 2048, 6, 1]⟩
abbrev S6x20x2048 : Shape := ⟨3, ![6, 20, 2048]⟩

abbrev nBuf : Space → Nat
  | .hbm => 65
  | .vmem => 2
  | .smem => 0
  | _ => 0

abbrev bufTy : (tb : Table) → Fin (tcTables nBuf tb) → BufTy
  | .hbm, ⟨0, _⟩ => ⟨S20x2048x832, .bf16⟩
  | .hbm, ⟨1, _⟩ => ⟨S768, .f32⟩
  | .hbm, ⟨2, _⟩ => ⟨S20, .i32⟩
  | .hbm, ⟨3, _⟩ => ⟨S20x2048x768, .bf16⟩
  | .hbm, ⟨4, _⟩ => ⟨S20x2048x768, .f32⟩
  | .hbm, ⟨5, _⟩ => ⟨S20x2048x768, .f32⟩
  | .hbm, ⟨6, _⟩ => ⟨S_, .f32⟩
  | .hbm, ⟨7, _⟩ => ⟨S20x2048, .f32⟩
  | .hbm, ⟨8, _⟩ => ⟨S20x2048x1, .f32⟩
  | .hbm, ⟨9, _⟩ => ⟨S_, .f32⟩
  | .hbm, ⟨10, _⟩ => ⟨S20x2048x1, .f32⟩
  | .hbm, ⟨11, _⟩ => ⟨S20x2048x1, .f32⟩
  | .hbm, ⟨12, _⟩ => ⟨S_, .f32⟩
  | .hbm, ⟨13, _⟩ => ⟨S20x2048x1, .f32⟩
  | .hbm, ⟨14, _⟩ => ⟨S20x2048x1, .f32⟩
  | .hbm, ⟨15, _⟩ => ⟨S20x2048x1, .f32⟩
  | .hbm, ⟨16, _⟩ => ⟨S20x2048x768, .f32⟩
  | .hbm, ⟨17, _⟩ => ⟨S20x2048x768, .f32⟩
  | .hbm, ⟨18, _⟩ => ⟨S1x1x768, .f32⟩
  | .hbm, ⟨19, _⟩ => ⟨S20x2048x768, .f32⟩
  | .hbm, ⟨20, _⟩ => ⟨S20x2048x768, .f32⟩
  | .hbm, ⟨21, _⟩ => ⟨S20x2048x6x128, .f32⟩
  | .hbm, ⟨22, _⟩ => ⟨S20x2048x6x128, .f32⟩
  | .hbm, ⟨23, _⟩ => ⟨S_, .f32⟩
  | .hbm, ⟨24, _⟩ => ⟨S20x2048x6, .f32⟩
  | .hbm, ⟨25, _⟩ => ⟨S_, .f32⟩
  | .hbm, ⟨26, _⟩ => ⟨S20x2048x6, .f32⟩
  | .hbm, ⟨27, _⟩ => ⟨S20x2048x6, .f32⟩
  | .hbm, ⟨28, _⟩ => ⟨S20x2048x6, .f32⟩
  | .hbm, ⟨29, _⟩ => ⟨S_, .f32⟩
  | .hbm, ⟨30, _⟩ => ⟨S_, .f32⟩
  | .hbm, ⟨31, _⟩ => ⟨S20x2048x6, .f32⟩
  | .hbm, ⟨32, _⟩ => ⟨S20x2048x6, .f32⟩
  | .hbm, ⟨33, _⟩ => ⟨S20x2048x6, .f32⟩
  | .hbm, ⟨34, _⟩ => ⟨S_, .f32⟩
  | .hbm, ⟨35, _⟩ => ⟨S20x2048x6, .f32⟩
  | .hbm, ⟨36, _⟩ => ⟨S20x2048x6, .f32⟩
  | .hbm, ⟨37, _⟩ => ⟨S_, .f32⟩
  | .hbm, ⟨38, _⟩ => ⟨S20x2048x6, .f32⟩
  | .hbm, ⟨39, _⟩ => ⟨S20x2048x6, .i1⟩
  | .hbm, ⟨40, _⟩ => ⟨S_, .f32⟩
  | .hbm, ⟨41, _⟩ => ⟨S_, .f32⟩
  | .hbm, ⟨42, _⟩ => ⟨S20x2048x6, .f32⟩
  | .hbm, ⟨43, _⟩ => ⟨S20x2048x6, .f32⟩
  | .hbm, ⟨44, _⟩ => ⟨S_, .f32⟩
  | .hbm, ⟨45, _⟩ => ⟨S20x2048x6, .f32⟩
  | .hbm, ⟨46, _⟩ => ⟨S20x2048x6, .f32⟩
  | .hbm, ⟨47, _⟩ => ⟨S20x2048x6, .f32⟩
  | .hbm, ⟨48, _⟩ => ⟨S_, .f32⟩
  | .hbm, ⟨49, _⟩ => ⟨S20x2048x6, .f32⟩
  | .hbm, ⟨50, _⟩ => ⟨S20x2048x6, .f32⟩
  | .hbm, ⟨51, _⟩ => ⟨S20x2048x6x1, .f32⟩
  | .hbm, ⟨52, _⟩ => ⟨S20x2048x6x128, .f32⟩
  | .hbm, ⟨53, _⟩ => ⟨S20x2048x6x128, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S20x2048x6x128, .f32⟩
  | .hbm, ⟨58, _⟩ => ⟨S20x2048x6x128, .f32⟩
  | .hbm, ⟨59, _⟩ => ⟨S_, .f32⟩
  | .hbm, ⟨60, _⟩ => ⟨S20x2048x6x128, .f32⟩
  | .hbm, ⟨61, _⟩ => ⟨S20x2048x6x128, .f32⟩
  | .hbm, ⟨62, _⟩ => ⟨S20x2048x768, .f32⟩
  | .hbm, ⟨63, _⟩ => ⟨S20x2048x768, .fp8e4m3⟩
  | .hbm, ⟨64, _⟩ => ⟨S6x20x2048, .f32⟩
  | .local _ .vmem, ⟨0, _⟩ => ⟨S20x2048x768, .f32⟩
  | .local _ .vmem, ⟨1, _⟩ => ⟨S20x2048x768, .fp8e4m3⟩
  | _, _ => ⟨S20x2048x832, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_call0_v0 : Ref sig .tc := ⟨.hbm, 41, rfl⟩
abbrev main_call0_v1 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_cst_11 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S20x2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x2048x768 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelPoints.lean ====
/- The schedule of the kernel's windows on its grid, at the bit-exact instance's program: when each is fetched and written back. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [BitOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%2)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%arg1)) is fetched at the first point only, at any contents of the tables (its index map reads none). -/
theorem fetch0_1 (a : (pcfg0 (F := F)).Adm) : ∀ t : Fin (cfg0 a).N, ((cfg0 a).win 1).fetch t = true ↔ t.val % 20 = 0 :=
  (fun t => Pipeline.Window.fetchOf_const cc0_transform_1 (fun _ _ => rfl) (n := 20) (by decide) t : ∀ t : Fin grid0.N, Pipeline.Window.fetchOf grid0 false cc0_transform_1 t = true ↔ t.val % 20 = 0)
/-- Window 2 (result 0 (%3#0)) is written back at every point, at any contents of the tables (its index map reads none). -/
theorem flush0_2 (a : (pcfg0 (F := F)).Adm) : ∀ t : Fin (cfg0 a).N, ((cfg0 a).win 2).flush t = true :=
  (fun t => (Pipeline.Window.flushOf_reads cc0_transform_2 reads0_2 hreads0_2 0 (by decide) (by decide) (Pipeline.Window.sep_of_coord cc0_transform_2 0 0 (fun _ => rfl) (by decide)) (P := 1) (m := 0) (by decide) rfl t).mpr (Nat.mod_one _) : ∀ t : Fin grid0.N, Pipeline.Window.flushOf grid0 true cc0_transform_2 t = true)
/-- Window 3 (result 1 (%3#1)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 0 (by decide) (by decide) (Pipeline.Window.sep_of_coord cc0_transform_3 0 0 (fun _ => rfl) (by decide)) (P := 1) (m := 0) (by decide) rfl t).mpr (Nat.mod_one _) : ∀ t : Fin grid0.N, Pipeline.Window.flushOf grid0 true cc0_transform_3 t = true)
/-- Window 4 (result 2 (%3#2)) is written back at the last point only, at any contents of the tables (its index map reads none). -/
theorem flush0_4 (a : (pcfg0 (F := F)).Adm) : ∀ t : Fin (cfg0 a).N, ((cfg0 a).win 4).flush t = true ↔ t.val % 20 = 19 :=
  (fun t => Pipeline.Window.flushOf_const cc0_transform_4 (fun _ _ => rfl) (n := 20) (by decide) rfl t : ∀ t : Fin grid0.N, Pipeline.Window.flushOf grid0 true cc0_transform_4 t = true ↔ t.val % 20 = 19)

/-- The current staging memref of each window at point `t`: which of its buffers it is on. -/
abbrev st0_0 (a : (pcfg0 (F := F)).Adm) (t : Fin (cfg0 a).N) := ((cfg0 a).win 0).stage ((cfg0 a).slots t 0)
/-- The staging buffer of window 1 at a point. -/
abbrev st0_1 (a : (pcfg0 (F := F)).Adm) (t : Fin (cfg0 a).N) := ((cfg0 a).win 1).stage ((cfg0 a).slots t 1)
/-- The staging buffer of window 2 at a point. -/
abbrev st0_2 (a : (pcfg0 (F := F)).Adm) (t : Fin (cfg0 a).N) := ((cfg0 a).win 2).stage ((cfg0 a).slots t 2)
/-- The staging buffer of window 3 at a point. -/
abbrev st0_3 (a : (pcfg0 (F := F)).Adm) (t : Fin (cfg0 a).N) := ((cfg0 a).win 3).stage ((cfg0 a).slots t 3)
/-- The staging buffer of window 4 at a point. -/
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_mla_store (grid0.coords t) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

end Cert.Kernel.Gen

end
-- ==== Proof.KernelRuns.lean ====
/- What the two cases of the kernel's body share, for the frame of the printed kernel: the arrays the region finds, the windows' blocks,
   the branch condition, the staging and scratch memrefs. -/
module

public import proofs.«01_k».proof.Proof.Gen.Kernel.Launch
public import proofs.«01_k».proof.Proof.Gen.Kernel.Skeleton
public import proofs.«01_k».proof.Proof.Gen.Kernel.Loops
public import proofs.«01_k».proof.Proof.KernelPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The host lines before the call make no new buffer. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
/-- The pipeline's configuration at the prefetched table. -/
abbrev cfgM (hO : Ok m) : Pipeline.Cfg sig Λ₀ := cfg0 (adm m hO)

/-- Each table as the body is handed it: its whole buffer as a memref, and that memref's wholeness. -/
abbrev tbM0_0 : Memref sig .tc .smem S20 .i32 := Memref.whole main_arg2
/-- The table's view is the whole buffer. -/
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
/-- Ownership of a table at given contents. -/
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (by decide : main_arg0 ∈ Pipeline.restRefs sig spec0)).trans (V_main_arg0 m c),
      (Pipeline.RDat.FramePost.arr_in h c 1 rfl).trans ((hA c 1).trans (V_main_arg1 m c)),
      ((h c).2 main_arg2 (by decide : main_arg2 ∈ Pipeline.restRefs sig spec0)).trans (V_main_arg2 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin grid0.N, cond0_0 (grid0.coords t) ↔ t.val % 20 = 0 :=
  (fun t => by
    have ht : t.val < 20 := Nat.lt_of_lt_of_eq t.isLt N_0
    have e0 : (grid0.coords t 0).val = t.val / 1 % 20 := Pipeline.Grid.coords_val t 0 (by decide) rfl
    simp only [cond0_0, k0_cond1, e0]
    word_cmp
   : ∀ t : Fin grid0.N, cond0_0 (grid0.coords t) ↔ t.val % 20 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x104x16x8x128 .bf16 := spec0_0.stage ((cfgM m hO).slots t 0)
/-- The staging buffer of window 0 is whole. -/
abbrev hs0_0 (hO : Ok m) (t : Fin (cfgM m hO).N) : (ms0_0 m hO t).IsWhole := hstage0_0 (((cfgM m hO).slots t 0).cast nbuf0_0)
/-- The staging buffer of window 1 at a point. -/
abbrev ms0_1 (hO : Ok m) (t : Fin (cfgM m hO).N) : Memref sig .tc .vmem S768 .f32 := spec0_1.stage ((cfgM m hO).slots t 1)
/-- The staging buffer of window 1 is whole. -/
abbrev hs0_1 (hO : Ok m) (t : Fin (cfgM m hO).N) : (ms0_1 m hO t).IsWhole := hstage0_1 (((cfgM m hO).slots t 1).cast nbuf0_1)
/-- The staging buffer of window 2 at a point. -/
abbrev ms0_2 (hO : Ok m) (t : Fin (cfgM m hO).N) : Memref sig .tc .vmem S1x8x16x8x128 .bf16 := spec0_2.stage ((cfgM m hO).slots t 2)
/-- The staging buffer of window 2 is whole. -/
abbrev hs0_2 (hO : Ok m) (t : Fin (cfgM m hO).N) : (ms0_2 m hO t).IsWhole := hstage0_2 (((cfgM m hO).slots t 2).cast nbuf0_2)
/-- The staging buffer of window 3 at a point. -/
abbrev ms0_3 (hO : Ok m) (t : Fin (cfgM m hO).N) : Memref sig .tc .vmem S1x2048x768 .fp8e4m3 := spec0_3.stage ((cfgM m hO).slots t 3)
/-- The staging buffer of window 3 is whole. -/
abbrev hs0_3 (hO : Ok m) (t : Fin (cfgM m hO).N) : (ms0_3 m hO t).IsWhole := hstage0_3 (((cfgM m hO).slots t 3).cast nbuf0_3)
/-- The staging buffer of window 4 at a point. -/
abbrev ms0_4 (hO : Ok m) (t : Fin (cfgM m hO).N) : Memref sig .tc .vmem S6x20x2048 .f32 := spec0_4.stage ((cfgM m hO).slots t 4)
/-- The staging buffer of window 4 is whole. -/
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S768x128 .f32 := Memref.whole cc0_scratch0
/-- Scratch buffer 1. -/
abbrev scM0_1 : Memref sig .tc .vmem S96x2x8x128 .f32 := Memref.whole cc0_scratch1
/-- Scratch buffer 2. -/
abbrev scM0_2 : Memref sig .tc .vmem S3x32x128 .f32 := Memref.whole cc0_scratch2
/-- Scratch buffer 3. -/
abbrev scM0_3 : Memref sig .tc .vmem S4x32x128 .f32 := Memref.whole cc0_scratch3
/-- Scratch buffer 4. -/
abbrev scM0_4 : Memref sig .tc .vmem S2x32x8x128 .f32 := Memref.whole cc0_scratch4
/-- Scratch buffer 5. -/
abbrev scM0_5 : Memref sig .tc .vmem S4x32x128 .f32 := Memref.whole cc0_scratch5
/-- The scratch `arg7` the kernel carries between points, as a view: what it holds is stated through it. -/
abbrev VS0_0 : View sig .tc .vmem S768x128 .f32 := scM0_0.view
/-- The scratch `arg9` the kernel carries between points, as a view: what it holds is stated through it. -/
abbrev VS0_2 : View sig .tc .vmem S3x32x128 .f32 := scM0_2.view
/-- The scratch `arg10` the kernel carries between points, as a view: what it holds is stated through it. -/
abbrev VS0_3 : View sig .tc .vmem S4x32x128 .f32 := scM0_3.view
/-- The scratch `arg11` the kernel carries between points, as a view: what it holds is stated through it. -/
abbrev VS0_4 : View sig .tc .vmem S2x32x8x128 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Gen

end
-- ==== Proof.KernelRunA.lean ====
/- The body of the printed kernel at the first grid point: it runs, and what its scratch holds afterwards is named by the stores. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (2, 3, 4) at anything, handed back at some contents nothing names. -/
noncomputable def kernelRun0_A (c : Dev nD) (i : grid0.Coords) (arg2 : Memref sig .tc .vmem S1x104x16x8x128 .bf16) (harg2 : arg2.IsWhole) (arg3 : Memref sig .tc .vmem S768 .f32) (harg3 : arg3.IsWhole) (arg4 : Memref sig .tc .vmem S1x8x16x8x128 .bf16) (harg4 : arg4.IsWhole) (arg5 : Memref sig .tc .vmem S1x2048x768 .fp8e4m3) (harg5 : arg5.IsWhole) (arg6 : Memref sig .tc .vmem S6x20x2048 .f32) (harg6 : arg6.IsWhole) (arg7 : Memref sig .tc .vmem S768x128 .f32) (harg7 : arg7.IsWhole) (arg8 : Memref sig .tc .vmem S96x2x8x128 .f32) (harg8 : arg8.IsWhole) (arg9 : Memref sig .tc .vmem S3x32x128 .f32) (harg9 : arg9.IsWhole) (arg10 : Memref sig .tc .vmem S4x32x128 .f32) (harg10 : arg10.IsWhole) (arg11 : Memref sig .tc .vmem S2x32x8x128 .f32) (harg11 : arg11.IsWhole) (arg12 : Memref sig .tc .vmem S4x32x128 .f32) (harg12 : arg12.IsWhole) (hc0 : cond0_0 i)
    (x0 : Vec F S1x104x16x8x128 .bf16) (x1 : Vec F S768 .f32) (xt0 : TbBuf0 (F := F) c tbM0_0) :
    Σ' (LS0 : List (View.Piece (Elt F) S768x128 .f32)), Σ' (LS2 : List (View.Piece (Elt F) S3x32x128 .f32)), Σ' (LS3 : List (View.Piece (Elt F) S4x32x128 .f32)), { LS4 : List (View.Piece (Elt F) S2x32x8x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ f, arg7.view.loc (c : Thread nD τ) ↦[arg7.view.set]{fullShare} arg7.view.writes (Elt F) f LS0) ∗ (∃ d, owns (c : Thread nD τ) arg8 fullShare d) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ d, owns (c : Thread nD τ) arg12 fullShare d) ∗ tbPt0 c tbM0_0 xt0) -∗ K ⟨⟩))
          ⊢ wp frame (wpE (defs₀ (F := F)) Variants.none c none) E (cc0_mla_store i tbM0_0 htbM0_0 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_mla_store_eq_skeleton]; unfold cc0_mla_store_skel
    simp only [k0_part135_eq_skeleton, k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, HT0, Hk⟩
    obtain rfl := harg2.eq_unread hf0; obtain rfl := harg3.eq_unread hf1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [HS0]; · iexists _; iexact HS0
    isplitl [HS1]
    · iexists _, _; isplitr; swap; · iexact HS1
      ipureintro; rfl
    isplitl [HS2]; · iexists _; iexact HS2
    isplitl [HS3]; · iexists _; iexact HS3
    isplitl [HS4]; · iexists _; iexact HS4
    isplitl [HS5]
    · iexists _, _; isplitr; swap; · iexact HS5
      ipureintro; rfl
    iexact HT0

end Cert.Kernel.Gen

end
-- ==== Proof.KernelRunB.lean ====
/- The body of the printed kernel at a later grid point: it runs, with the tables of the first point carried. -/
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE B (`scf.if` 0 not taken: points 1, 2, … 19: 19 of 20), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (2, 3, 4) at anything, handed back at some contents nothing names. -/
noncomputable def kernelRun0_B (c : Dev nD) (i : grid0.Coords) (arg2 : Memref sig .tc .vmem S1x104x16x8x128 .bf16) (harg2 : arg2.IsWhole) (arg3 : Memref sig .tc .vmem S768 .f32) (harg3 : arg3.IsWhole) (arg4 : Memref sig .tc .vmem S1x8x16x8x128 .bf16) (harg4 : arg4.IsWhole) (arg5 : Memref sig .tc .vmem S1x2048x768 .fp8e4m3) (harg5 : arg5.IsWhole) (arg6 : Memref sig .tc .vmem S6x20x2048 .f32) (harg6 : arg6.IsWhole) (arg7 : Memref sig .tc .vmem S768x128 .f32) (harg7 : arg7.IsWhole) (arg8 : Memref sig .tc .vmem S96x2x8x128 .f32) (harg8 : arg8.IsWhole) (arg9 : Memref sig .tc .vmem S3x32x128 .f32) (harg9 : arg9.IsWhole) (arg10 : Memref sig .tc .vmem S4x32x128 .f32) (harg10 : arg10.IsWhole) (arg11 : Memref sig .tc .vmem S2x32x8x128 .f32) (harg11 : arg11.IsWhole) (arg12 : Memref sig .tc .vmem S4x32x128 .f32) (harg12 : arg12.IsWhole) (hc0 : ¬cond0_0 i)
    (x0 : Vec F S1x104x16x8x128 .bf16) (x1 : Vec F S768 .f32) (xt0 : TbBuf0 (F := F) c tbM0_0) (xs0 : Vec F S768x128 .f32) (xs2 : Vec F S3x32x128 .f32) (xs3 : Vec F S4x32x128 .f32) (xs4 : Vec F S2x32x8x128 .f32) :
    Σ' (LS0 : List (View.Piece (Elt F) S768x128 .f32)), Σ' (LS2 : List (View.Piece (Elt F) S3x32x128 .f32)), Σ' (LS3 : List (View.Piece (Elt F) S4x32x128 .f32)), { LS4 : List (View.Piece (Elt F) S2x32x8x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ (∃ d, owns (c : Thread nD τ) arg8 fullShare d) ∗ owns (c : Thread nD τ) arg9 fullShare xs2 ∗ owns (c : Thread nD τ) arg10 fullShare xs3 ∗ owns (c : Thread nD τ) arg11 fullShare xs4 ∗ (∃ d, owns (c : Thread nD τ) arg12 fullShare d) ∗ tbPt0 c tbM0_0 xt0
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ (∃ d, owns (c : Thread nD τ) arg8 fullShare d) ∗ owns (c : Thread nD τ) arg9 fullShare xs2 ∗ owns (c : Thread nD τ) arg10 fullShare xs3 ∗ owns (c : Thread nD τ) arg11 fullShare xs4 ∗ (∃ d, owns (c : Thread nD τ) arg12 fullShare d) ∗ tbPt0 c tbM0_0 xt0) -∗ K ⟨⟩))
          ⊢ wp frame (wpE (defs₀ (F := F)) Variants.none c none) E (cc0_mla_store i tbM0_0 htbM0_0 arg2 harg2 arg3 harg3 arg4 harg4 arg5 harg5 arg6 harg6 arg7 harg7 arg8 harg8 arg9 harg9 arg10 harg10 arg11 harg11 arg12 harg12) K } := by
  refine ⟨[], [], [], [], fun E K => ?run⟩
  case run =>
    simp only [cc0_mla_store_eq_skeleton]; unfold cc0_mla_store_skel
    simp only [k0_part135_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%ds1, %fs1, -, HS1⟩, ⟨%fs2, %hfs2, HS2⟩, ⟨%fs3, %hfs3, HS3⟩, ⟨%fs4, %hfs4, HS4⟩, ⟨%ds5, %fs5, -, HS5⟩, HT0, Hk⟩
    obtain rfl := harg2.eq_unread hf0; obtain rfl := harg3.eq_unread hf1; obtain rfl := harg7.eq_unread hfs0; obtain rfl := harg9.eq_unread hfs2; obtain rfl := harg10.eq_unread hfs3; obtain rfl := harg11.eq_unread hfs4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [HS0]
    · iexists _; isplitr; · ipureintro; exact harg7.read_unread _
      iexact HS0
    isplitl [HS1]
    · iexists _, _; isplitr; swap; · iexact HS1
      ipureintro; rfl
    isplitl [HS2]
    · iexists _; isplitr; · ipureintro; exact harg9.read_unread _
      iexact HS2
    isplitl [HS3]
    · iexists _; isplitr; · ipureintro; exact harg10.read_unread _
      iexact HS3
    isplitl [HS4]
    · iexists _; isplitr; · ipureintro; exact harg11.read_unread _
      iexact HS4
    isplitl [HS5]
    · iexists _, _; isplitr; swap; · iexact HS5
      ipureintro; rfl
    iexact HT0

end Cert.Kernel.Gen

end
-- ==== Proof.KernelFrame.lean ====
/- The frame of the printed kernel: it terminates, nothing faults, the arguments end unchanged, every semaphore ends at zero. -/
module

public import proofs.«01_k».proof.Proof.KernelRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)
/-- Case A's pieces for scratch `arg7`, which the kernel carries between points, cover it: 6 pieces of `S128x128` tiling it (Lib/Ring.lean `Piece.tiledL`). -/
theorem scover0_A_0 (c : Dev nD) (i : grid0.Coords) (arg2 : Memref sig .tc .vmem S1x104x16x8x128 .bf16) (harg2 : arg2.IsWhole) (arg3 : Memref sig .tc .vmem S768 .f32) (harg3 : arg3.IsWhole) (arg4 : Memref sig .tc .vmem S1x8x16x8x128 .bf16) (harg4 : arg4.IsWhole) (arg5 : Memref sig .tc .vmem S1x2048x768 .fp8e4m3) (harg5 : arg5.IsWhole) (arg6 : Memref sig .tc .vmem S6x20x2048 .f32) (harg6 : arg6.IsWhole) (arg7 : Memref sig .tc .vmem S768x128 .f32) (harg7 : arg7.IsWhole) (arg8 : Memref sig .tc .vmem S96x2x8x128 .f32) (harg8 : arg8.IsWhole) (arg9 : Memref sig .tc .vmem S3x32x128 .f32) (harg9 : arg9.IsWhole) (arg10 : Memref sig .tc .vmem S4x32x128 .f32) (harg10 : arg10.IsWhole) (arg11 : Memref sig .tc .vmem S2x32x8x128 .f32) (harg11 : arg11.IsWhole) (arg12 : Memref sig .tc .vmem S4x32x128 .f32) (harg12 : arg12.IsWhole) (hc0 : cond0_0 i)
    (x0 : Vec F S1x104x16x8x128 .bf16) (x1 : Vec F S768 .f32) (xt0 : TbBuf0 (F := F) c tbM0_0) (y : S768x128.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 xt0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 xt0).1 S128x128.size (by sl_kernel_rfl) y

/-- What case A leaves in scratch `arg7`: its pieces read back over junk. -/
def sout0_A_0 (c : Dev nD) (i : grid0.Coords) (arg2 : Memref sig .tc .vmem S1x104x16x8x128 .bf16) (harg2 : arg2.IsWhole) (arg3 : Memref sig .tc .vmem S768 .f32) (harg3 : arg3.IsWhole) (arg4 : Memref sig .tc .vmem S1x8x16x8x128 .bf16) (harg4 : arg4.IsWhole) (arg5 : Memref sig .tc .vmem S1x2048x768 .fp8e4m3) (harg5 : arg5.IsWhole) (arg6 : Memref sig .tc .vmem S6x20x2048 .f32) (harg6 : arg6.IsWhole) (arg7 : Memref sig .tc .vmem S768x128 .f32) (harg7 : arg7.IsWhole) (arg8 : Memref sig .tc .vmem S96x2x8x128 .f32) (harg8 : arg8.IsWhole) (arg9 : Memref sig .tc .vmem S3x32x128 .f32) (harg9 : arg9.IsWhole) (arg10 : Memref sig .tc .vmem S4x32x128 .f32) (harg10 : arg10.IsWhole) (arg11 : Memref sig .tc .vmem S2x32x8x128 .f32) (harg11 : arg11.IsWhole) (arg12 : Memref sig .tc .vmem S4x32x128 .f32) (harg12 : arg12.IsWhole) (hc0 : cond0_0 i)
    (x0 : Vec F S1x104x16x8x128 .bf16) (x1 : Vec F S768 .f32) (xt0 : TbBuf0 (F := F) c tbM0_0) : Vec F S768x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 x0 x1 xt0).1)

/-- Case A's pieces for scratch `arg9`, which the kernel carries between points, cover it: 3 pieces of `S1x32x128` tiling it (Lib/Ring.lean `Piece.tiledL`). -/
theorem scover0_A_2 (c : Dev nD) (i : grid0.Coords) (arg2 : Memref sig .tc .vmem S1x104x16x8x128 .bf16) (harg2 : arg2.IsWhole) (arg3 : Memref sig .tc .vmem S768 .f32) (harg3 : arg3.IsWhole) (arg4 : Memref sig .tc .vmem S1x8x16x8x128 .bf16) (harg4 : arg4.IsWhole) (arg5 : Memref sig .tc .vmem S1x2048x768 .fp8e4m3) (harg5 : arg5.IsWhole) (arg6 : Memref sig .tc .vmem S6x20x2048 .f32) (harg6 : arg6.IsWhole) (arg7 : Memref sig .tc .vmem S768x128 .f32) (harg7 : arg7.IsWhole) (arg8 : Memref sig .tc .vmem S96x2x8x128 .f32) (harg8 : arg8.IsWhole) (arg9 : Memref sig .tc .vmem S3x32x128 .f32) (harg9 : arg9.IsWhole) (arg10 : Memref sig .tc .vmem S4x32x128 .f32) (harg10 : arg10.IsWhole) (arg11 : Memref sig .tc .vmem S2x32x8x128 .f32) (harg11 : arg11.IsWhole) (arg12 : Memref sig .tc .vmem S4x32x128 .f32) (harg12 : arg12.IsWhole) (hc0 : cond0_0 i)
    (x0 : Vec F S1x104x16x8x128 .bf16) (x1 : Vec F S768 .f32) (xt0 : TbBuf0 (F := F) c tbM0_0) (y : S3x32x128.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 xt0).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 xt0).2.1 S1x32x128.size (by sl_kernel_rfl) y

/-- What case A leaves in scratch `arg9`: its pieces read back over junk. -/
def sout0_A_2 (c : Dev nD) (i : grid0.Coords) (arg2 : Memref sig .tc .vmem S1x104x16x8x128 .bf16) (harg2 : arg2.IsWhole) (arg3 : Memref sig .tc .vmem S768 .f32) (harg3 : arg3.IsWhole) (arg4 : Memref sig .tc .vmem S1x8x16x8x128 .bf16) (harg4 : arg4.IsWhole) (arg5 : Memref sig .tc .vmem S1x2048x768 .fp8e4m3) (harg5 : arg5.IsWhole) (arg6 : Memref sig .tc .vmem S6x20x2048 .f32) (harg6 : arg6.IsWhole) (arg7 : Memref sig .tc .vmem S768x128 .f32) (harg7 : arg7.IsWhole) (arg8 : Memref sig .tc .vmem S96x2x8x128 .f32) (harg8 : arg8.IsWhole) (arg9 : Memref sig .tc .vmem S3x32x128 .f32) (harg9 : arg9.IsWhole) (arg10 : Memref sig .tc .vmem S4x32x128 .f32) (harg10 : arg10.IsWhole) (arg11 : Memref sig .tc .vmem S2x32x8x128 .f32) (harg11 : arg11.IsWhole) (arg12 : Memref sig .tc .vmem S4x32x128 .f32) (harg12 : arg12.IsWhole) (hc0 : cond0_0 i)
    (x0 : Vec F S1x104x16x8x128 .bf16) (x1 : Vec F S768 .f32) (xt0 : TbBuf0 (F := F) c tbM0_0) : Vec F S3x32x128 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 hc0 x0 x1 xt0).2.1)

/-- Case A's pieces for scratch `arg10`, which the kernel carries between points, cover it: 4 pieces of `S1x32x128` tiling it (Lib/Ring.lean `Piece.tiledL`). -/
theorem scover0_A_3 (c : Dev nD) (i : grid0.Coords) (arg2 : Memref sig .tc .vmem S1x104x16x8x128 .bf16) (harg2 : arg2.IsWhole) (arg3 : Memref sig .tc .vmem S768 .f32) (harg3 : arg3.IsWhole) (arg4 : Memref sig .tc .vmem S1x8x16x8x128 .bf16) (harg4 : arg4.IsWhole) (arg5 : Memref sig .tc .vmem S1x2048x768 .fp8e4m3) (harg5 : arg5.IsWhole) (arg6 : Memref sig .tc .vmem S6x20x2048 .f32) (harg6 : arg6.IsWhole) (arg7 : Memref sig .tc .vmem S768x128 .f32) (harg7 : arg7.IsWhole) (arg8 : Memref sig .tc .vmem S96x2x8x128 .f32) (harg8 : arg8.IsWhole) (arg9 : Memref sig .tc .vmem S3x32x128 .f32) (harg9 : arg9.IsWhole) (arg10 : Memref sig .tc .vmem S4x32x128 .f32) (harg10 : arg10.IsWhole) (arg11 : Memref sig .tc .vmem S2x32x8x128 .f32) (harg11 : arg11.IsWhole) (arg12 : Memref sig .tc .vmem S4x32x128 .f32) (harg12 : arg12.IsWhole) (hc0 : cond0_0 i)
    (x0 : Vec F S1x104x16x8x128 .bf16) (x1 : Vec F S768 .f32) (xt0 : TbBuf0 (F := F) c tbM0_0) (y : S4x32x128.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 xt0).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 xt0).2.2.1 S1x32x128.size (by sl_kernel_rfl) y

/-- What case A leaves in scratch `arg10`: its pieces read back over junk. -/
def sout0_A_3 (c : Dev nD) (i : grid0.Coords) (arg2 : Memref sig .tc .vmem S1x104x16x8x128 .bf16) (harg2 : arg2.IsWhole) (arg3 : Memref sig .tc .vmem S768 .f32) (harg3 : arg3.IsWhole) (arg4 : Memref sig .tc .vmem S1x8x16x8x128 .bf16) (harg4 : arg4.IsWhole) (arg5 : Memref sig .tc .vmem S1x2048x768 .fp8e4m3) (harg5 : arg5.IsWhole) (arg6 : Memref sig .tc .vmem S6x20x2048 .f32) (harg6 : arg6.IsWhole) (arg7 : Memref sig .tc .vmem S768x128 .f32) (harg7 : arg7.IsWhole) (arg8 : Memref sig .tc .vmem S96x2x8x128 .f32) (harg8 : arg8.IsWhole) (arg9 : Memref sig .tc .vmem S3x32x128 .f32) (harg9 : arg9.IsWhole) (arg10 : Memref sig .tc .vmem S4x32x128 .f32) (harg10 : arg10.IsWhole) (arg11 : Memref sig .tc .vmem S2x32x8x128 .f32) (harg11 : arg11.IsWhole) (arg12 : Memref sig .tc .vmem S4x32x128 .f32) (harg12 : arg12.IsWhole) (hc0 : cond0_0 i)
    (x0 : Vec F S1x104x16x8x128 .bf16) (x1 : Vec F S768 .f32) (xt0 : TbBuf0 (F := F) c tbM0_0) : Vec F S4x32x128 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 hc0 x0 x1 xt0).2.2.1)

/-- Case A's pieces for scratch `arg11`, which the kernel carries between points, cover it: 64 pieces of `S1x1x8x128` tiling it (Lib/Ring.lean `Piece.tiledL`). -/
theorem scover0_A_4 (c : Dev nD) (i : grid0.Coords) (arg2 : Memref sig .tc .vmem S1x104x16x8x128 .bf16) (harg2 : arg2.IsWhole) (arg3 : Memref sig .tc .vmem S768 .f32) (harg3 : arg3.IsWhole) (arg4 : Memref sig .tc .vmem S1x8x16x8x128 .bf16) (harg4 : arg4.IsWhole) (arg5 : Memref sig .tc .vmem S1x2048x768 .fp8e4m3) (harg5 : arg5.IsWhole) (arg6 : Memref sig .tc .vmem S6x20x2048 .f32) (harg6 : arg6.IsWhole) (arg7 : Memref sig .tc .vmem S768x128 .f32) (harg7 : arg7.IsWhole) (arg8 : Memref sig .tc .vmem S96x2x8x128 .f32) (harg8 : arg8.IsWhole) (arg9 : Memref sig .tc .vmem S3x32x128 .f32) (harg9 : arg9.IsWhole) (arg10 : Memref sig .tc .vmem S4x32x128 .f32) (harg10 : arg10.IsWhole) (arg11 : Memref sig .tc .vmem S2x32x8x128 .f32) (harg11 : arg11.IsWhole) (arg12 : Memref sig .tc .vmem S4x32x128 .f32) (harg12 : arg12.IsWhole) (hc0 : cond0_0 i)
    (x0 : Vec F S1x104x16x8x128 .bf16) (x1 : Vec F S768 .f32) (xt0 : TbBuf0 (F := F) c tbM0_0) (y : S2x32x8x128.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 xt0).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 xt0).2.2.2.1 S1x1x8x128.size (by sl_kernel_rfl) y

/-- What case A leaves in scratch `arg11`: its pieces read back over junk. -/
def sout0_A_4 (c : Dev nD) (i : grid0.Coords) (arg2 : Memref sig .tc .vmem S1x104x16x8x128 .bf16) (harg2 : arg2.IsWhole) (arg3 : Memref sig .tc .vmem S768 .f32) (harg3 : arg3.IsWhole) (arg4 : Memref sig .tc .vmem S1x8x16x8x128 .bf16) (harg4 : arg4.IsWhole) (arg5 : Memref sig .tc .vmem S1x2048x768 .fp8e4m3) (harg5 : arg5.IsWhole) (arg6 : Memref sig .tc .vmem S6x20x2048 .f32) (harg6 : arg6.IsWhole) (arg7 : Memref sig .tc .vmem S768x128 .f32) (harg7 : arg7.IsWhole) (arg8 : Memref sig .tc .vmem S96x2x8x128 .f32) (harg8 : arg8.IsWhole) (arg9 : Memref sig .tc .vmem S3x32x128 .f32) (harg9 : arg9.IsWhole) (arg10 : Memref sig .tc .vmem S4x32x128 .f32) (harg10 : arg10.IsWhole) (arg11 : Memref sig .tc .vmem S2x32x8x128 .f32) (harg11 : arg11.IsWhole) (arg12 : Memref sig .tc .vmem S4x32x128 .f32) (harg12 : arg12.IsWhole) (hc0 : cond0_0 i)
    (x0 : Vec F S1x104x16x8x128 .bf16) (x1 : Vec F S768 .f32) (xt0 : TbBuf0 (F := F) c tbM0_0) : Vec F S2x32x8x128 .f32 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 hc0 x0 x1 xt0).2.2.2.1)

/-- Case B stores nothing into scratch `arg7`: it holds what the point before left. -/
def sout0_B_0 (c : Dev nD) (i : grid0.Coords) (arg2 : Memref sig .tc .vmem S1x104x16x8x128 .bf16) (harg2 : arg2.IsWhole) (arg3 : Memref sig .tc .vmem S768 .f32) (harg3 : arg3.IsWhole) (arg4 : Memref sig .tc .vmem S1x8x16x8x128 .bf16) (harg4 : arg4.IsWhole) (arg5 : Memref sig .tc .vmem S1x2048x768 .fp8e4m3) (harg5 : arg5.IsWhole) (arg6 : Memref sig .tc .vmem S6x20x2048 .f32) (harg6 : arg6.IsWhole) (arg7 : Memref sig .tc .vmem S768x128 .f32) (harg7 : arg7.IsWhole) (arg8 : Memref sig .tc .vmem S96x2x8x128 .f32) (harg8 : arg8.IsWhole) (arg9 : Memref sig .tc .vmem S3x32x128 .f32) (harg9 : arg9.IsWhole) (arg10 : Memref sig .tc .vmem S4x32x128 .f32) (harg10 : arg10.IsWhole) (arg11 : Memref sig .tc .vmem S2x32x8x128 .f32) (harg11 : arg11.IsWhole) (arg12 : Memref sig .tc .vmem S4x32x128 .f32) (harg12 : arg12.IsWhole) (hc0 : ¬cond0_0 i)
    (x0 : Vec F S1x104x16x8x128 .bf16) (x1 : Vec F S768 .f32) (xt0 : TbBuf0 (F := F) c tbM0_0) (xs0 : Vec F S768x128 .f32) (xs2 : Vec F S3x32x128 .f32) (xs3 : Vec F S4x32x128 .f32) (xs4 : Vec F S2x32x8x128 .f32) : Vec F S768x128 .f32 := xs0

/-- Case B stores nothing into scratch `arg9`: it holds what the point before left. -/
def sout0_B_2 (c : Dev nD) (i : grid0.Coords) (arg2 : Memref sig .tc .vmem S1x104x16x8x128 .bf16) (harg2 : arg2.IsWhole) (arg3 : Memref sig .tc .vmem S768 .f32) (harg3 : arg3.IsWhole) (arg4 : Memref sig .tc .vmem S1x8x16x8x128 .bf16) (harg4 : arg4.IsWhole) (arg5 : Memref sig .tc .vmem S1x2048x768 .fp8e4m3) (harg5 : arg5.IsWhole) (arg6 : Memref sig .tc .vmem S6x20x2048 .f32) (harg6 : arg6.IsWhole) (arg7 : Memref sig .tc .vmem S768x128 .f32) (harg7 : arg7.IsWhole) (arg8 : Memref sig .tc .vmem S96x2x8x128 .f32) (harg8 : arg8.IsWhole) (arg9 : Memref sig .tc .vmem S3x32x128 .f32) (harg9 : arg9.IsWhole) (arg10 : Memref sig .tc .vmem S4x32x128 .f32) (harg10 : arg10.IsWhole) (arg11 : Memref sig .tc .vmem S2x32x8x128 .f32) (harg11 : arg11.IsWhole) (arg12 : Memref sig .tc .vmem S4x32x128 .f32) (harg12 : arg12.IsWhole) (hc0 : ¬cond0_0 i)
    (x0 : Vec F S1x104x16x8x128 .bf16) (x1 : Vec F S768 .f32) (xt0 : TbBuf0 (F := F) c tbM0_0) (xs0 : Vec F S768x128 .f32) (xs2 : Vec F S3x32x128 .f32) (xs3 : Vec F S4x32x128 .f32) (xs4 : Vec F S2x32x8x128 .f32) : Vec F S3x32x128 .f32 := xs2

/-- Case B stores nothing into scratch `arg10`: it holds what the point before left. -/
def sout0_B_3 (c : Dev nD) (i : grid0.Coords) (arg2 : Memref sig .tc .vmem S1x104x16x8x128 .bf16) (harg2 : arg2.IsWhole) (arg3 : Memref sig .tc .vmem S768 .f32) (harg3 : arg3.IsWhole) (arg4 : Memref sig .tc .vmem S1x8x16x8x128 .bf16) (harg4 : arg4.IsWhole) (arg5 : Memref sig .tc .vmem S1x2048x768 .fp8e4m3) (harg5 : arg5.IsWhole) (arg6 : Memref sig .tc .vmem S6x20x2048 .f32) (harg6 : arg6.IsWhole) (arg7 : Memref sig .tc .vmem S768x128 .f32) (harg7 : arg7.IsWhole) (arg8 : Memref sig .tc .vmem S96x2x8x128 .f32) (harg8 : arg8.IsWhole) (arg9 : Memref sig .tc .vmem S3x32x128 .f32) (harg9 : arg9.IsWhole) (arg10 : Memref sig .tc .vmem S4x32x128 .f32) (harg10 : arg10.IsWhole) (arg11 : Memref sig .tc .vmem S2x32x8x128 .f32) (harg11 : arg11.IsWhole) (arg12 : Memref sig .tc .vmem S4x32x128 .f32) (harg12 : arg12.IsWhole) (hc0 : ¬cond0_0 i)
    (x0 : Vec F S1x104x16x8x128 .bf16) (x1 : Vec F S768 .f32) (xt0 : TbBuf0 (F := F) c tbM0_0) (xs0 : Vec F S768x128 .f32) (xs2 : Vec F S3x32x128 .f32) (xs3 : Vec F S4x32x128 .f32) (xs4 : Vec F S2x32x8x128 .f32) : Vec F S4x32x128 .f32 := xs3

/-- Case B stores nothing into scratch `arg11`: it holds what the point before left. -/
def sout0_B_4 (c : Dev nD) (i : grid0.Coords) (arg2 : Memref sig .tc .vmem S1x104x16x8x128 .bf16) (harg2 : arg2.IsWhole) (arg3 : Memref sig .tc .vmem S768 .f32) (harg3 : arg3.IsWhole) (arg4 : Memref sig .tc .vmem S1x8x16x8x128 .bf16) (harg4 : arg4.IsWhole) (arg5 : Memref sig .tc .vmem S1x2048x768 .fp8e4m3) (harg5 : arg5.IsWhole) (arg6 : Memref sig .tc .vmem S6x20x2048 .f32) (harg6 : arg6.IsWhole) (arg7 : Memref sig .tc .vmem S768x128 .f32) (harg7 : arg7.IsWhole) (arg8 : Memref sig .tc .vmem S96x2x8x128 .f32) (harg8 : arg8.IsWhole) (arg9 : Memref sig .tc .vmem S3x32x128 .f32) (harg9 : arg9.IsWhole) (arg10 : Memref sig .tc .vmem S4x32x128 .f32) (harg10 : arg10.IsWhole) (arg11 : Memref sig .tc .vmem S2x32x8x128 .f32) (harg11 : arg11.IsWhole) (arg12 : Memref sig .tc .vmem S4x32x128 .f32) (harg12 : arg12.IsWhole) (hc0 : ¬cond0_0 i)
    (x0 : Vec F S1x104x16x8x128 .bf16) (x1 : Vec F S768 .f32) (xt0 : TbBuf0 (F := F) c tbM0_0) (xs0 : Vec F S768x128 .f32) (xs2 : Vec F S3x32x128 .f32) (xs3 : Vec F S4x32x128 .f32) (xs4 : Vec F S2x32x8x128 .f32) : Vec F S2x32x8x128 .f32 := xs4

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S768x128 .f32 × Vec F S3x32x128 .f32 × Vec F S4x32x128 .f32 × Vec F S2x32x8x128 .f32
  | 0, hn => (sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m hO c 0 ⟨0, hn⟩) (iblk m hO c 1 ⟨0, hn⟩) (tbl m 0), sout0_A_2 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m hO c 0 ⟨0, hn⟩) (iblk m hO c 1 ⟨0, hn⟩) (tbl m 0), sout0_A_3 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m hO c 0 ⟨0, hn⟩) (iblk m hO c 1 ⟨0, hn⟩) (tbl m 0), sout0_A_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m hO c 0 ⟨0, hn⟩) (iblk m hO c 1 ⟨0, hn⟩) (tbl m 0))
  | n + 1, hn =>
    if h0 : (n + 1) % 20 = 0 then
      (sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m hO c 0 ⟨n + 1, hn⟩) (iblk m hO c 1 ⟨n + 1, hn⟩) (tbl m 0), sout0_A_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m hO c 0 ⟨n + 1, hn⟩) (iblk m hO c 1 ⟨n + 1, hn⟩) (tbl m 0), sout0_A_3 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m hO c 0 ⟨n + 1, hn⟩) (iblk m hO c 1 ⟨n + 1, hn⟩) (tbl m 0), sout0_A_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m hO c 0 ⟨n + 1, hn⟩) (iblk m hO c 1 ⟨n + 1, hn⟩) (tbl m 0))
    else
      (sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m hO c 0 ⟨n + 1, hn⟩) (iblk m hO c 1 ⟨n + 1, hn⟩) (tbl m 0) (outsAt0 hO c n (Nat.lt_of_succ_lt hn)).1 (outsAt0 hO c n (Nat.lt_of_succ_lt hn)).2.1 (outsAt0 hO c n (Nat.lt_of_succ_lt hn)).2.2.1 (outsAt0 hO c n (Nat.lt_of_succ_lt hn)).2.2.2, sout0_B_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m hO c 0 ⟨n + 1, hn⟩) (iblk m hO c 1 ⟨n + 1, hn⟩) (tbl m 0) (outsAt0 hO c n (Nat.lt_of_succ_lt hn)).1 (outsAt0 hO c n (Nat.lt_of_succ_lt hn)).2.1 (outsAt0 hO c n (Nat.lt_of_succ_lt hn)).2.2.1 (outsAt0 hO c n (Nat.lt_of_succ_lt hn)).2.2.2, sout0_B_3 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m hO c 0 ⟨n + 1, hn⟩) (iblk m hO c 1 ⟨n + 1, hn⟩) (tbl m 0) (outsAt0 hO c n (Nat.lt_of_succ_lt hn)).1 (outsAt0 hO c n (Nat.lt_of_succ_lt hn)).2.1 (outsAt0 hO c n (Nat.lt_of_succ_lt hn)).2.2.1 (outsAt0 hO c n (Nat.lt_of_succ_lt hn)).2.2.2, sout0_B_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m hO c 0 ⟨n + 1, hn⟩) (iblk m hO c 1 ⟨n + 1, hn⟩) (tbl m 0) (outsAt0 hO c n (Nat.lt_of_succ_lt hn)).1 (outsAt0 hO c n (Nat.lt_of_succ_lt hn)).2.1 (outsAt0 hO c n (Nat.lt_of_succ_lt hn)).2.2.1 (outsAt0 hO c n (Nat.lt_of_succ_lt hn)).2.2.2)

/-- `outsAt0` at a point of case A: that case's contents. -/
theorem outsAt0_A (hO : Ok m) (c : Dev nD) (t : Fin (cfgM m hO).N) (h0 : t.val % 20 = 0) :
    outsAt0 m hO c t.val t.isLt = (sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m hO c 0 t) (iblk m hO c 1 t) (tbl m 0), sout0_A_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m hO c 0 t) (iblk m hO c 1 t) (tbl m 0), sout0_A_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m hO c 0 t) (iblk m hO c 1 t) (tbl m 0), sout0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m hO c 0 t) (iblk m hO c 1 t) (tbl m 0)) := by
  obtain ⟨n, hn⟩ := t
  cases n with
  | zero => exact rfl
  | succ n => exact (dif_pos h0).trans rfl

/-- `outsAt0` at a point of case B: that case's contents, over what the point before left. -/
theorem outsAt0_B (hO : Ok m) (c : Dev nD) (t : Fin (cfgM m hO).N) (h0 : ¬t.val % 20 = 0) :
    outsAt0 m hO c t.val t.isLt = (sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m hO c 0 t) (iblk m hO c 1 t) (tbl m 0) (outsAt0 m hO c (t.val - 1) (Nat.lt_of_le_of_lt (Nat.sub_le _ _) t.isLt)).1 (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2, sout0_B_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m hO c 0 t) (iblk m hO c 1 t) (tbl m 0) (outsAt0 m hO c (t.val - 1) (Nat.lt_of_le_of_lt (Nat.sub_le _ _) t.isLt)).1 (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2, sout0_B_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m hO c 0 t) (iblk m hO c 1 t) (tbl m 0) (outsAt0 m hO c (t.val - 1) (Nat.lt_of_le_of_lt (Nat.sub_le _ _) t.isLt)).1 (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2, sout0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m hO c 0 t) (iblk m hO c 1 t) (tbl m 0) (outsAt0 m hO c (t.val - 1) (Nat.lt_of_le_of_lt (Nat.sub_le _ _) t.isLt)).1 (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp (MT nD τ sig Unit (Elt F) ℕ (UR sig nD τ) ℕ)
  | 0, _ => iprop(Pipeline.ΦA spec0 c ∗ Pipeline.ΦT pre0 (tbl m) c)
  | n + 1, hn => iprop(iprop(iprop(owns (c : Thread nD τ) scM0_0 fullShare ((outsAt0 m hO c n hn).1) ∗ (∃ d, owns (c : Thread nD τ) scM0_1 fullShare d) ∗ owns (c : Thread nD τ) scM0_2 fullShare ((outsAt0 m hO c n hn).2.1) ∗ owns (c : Thread nD τ) scM0_3 fullShare ((outsAt0 m hO c n hn).2.2.1) ∗ owns (c : Thread nD τ) scM0_4 fullShare ((outsAt0 m hO c n hn).2.2.2) ∗ (∃ d, owns (c : Thread nD τ) scM0_5 fullShare d)) ∗ (∃ r, prngReg c r)) ∗ Pipeline.ΦT pre0 (tbl m) c)

/-- The invariant before the first point. -/
theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).1) ∗ (∃ d, owns (c : Thread nD τ) scM0_1 fullShare d) ∗ owns (c : Thread nD τ) scM0_2 fullShare ((outsAt0 m hO c n hn).2.1) ∗ owns (c : Thread nD τ) scM0_3 fullShare ((outsAt0 m hO c n hn).2.2.1) ∗ owns (c : Thread nD τ) scM0_4 fullShare ((outsAt0 m hO c n hn).2.2.2) ∗ (∃ d, owns (c : Thread nD τ) scM0_5 fullShare d)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).1) ∗ (∃ d, owns (c : Thread nD τ) scM0_1 fullShare d) ∗ owns (c : Thread nD τ) scM0_2 fullShare ((outsAt0 m hO c (n - 1) (by omega)).2.1) ∗ owns (c : Thread nD τ) scM0_3 fullShare ((outsAt0 m hO c (n - 1) (by omega)).2.2.1) ∗ owns (c : Thread nD τ) scM0_4 fullShare ((outsAt0 m hO c (n - 1) (by omega)).2.2.2) ∗ (∃ d, owns (c : Thread nD τ) scM0_5 fullShare d)) ∗ (∃ r, prngReg c r)) ∗ Pipeline.ΦT pre0 (tbl m) c) := by
  cases n with
  | zero => exact absurd rfl hz
  | succ n => rfl

/-! ## The pipeline's proof data -/

/-- The output windows this certificate FORGETS (2, 3, 4): nothing reads what the kernel leaves in them, so nothing
    of it is named (Lib/Pipeline/Dat.lean `Dat.toRForget`). -/
def forgets0 : Fin 5 → Bool := fun w => w.val == 2 || w.val == 3 || w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, h⟩ => Pipeline.Dat.unnamed (cfg := (cfgM m hO)) ⟨2, h⟩ t
    | ⟨3, h⟩ => Pipeline.Dat.unnamed (cfg := (cfgM m hO)) ⟨3, h⟩ t
    | ⟨4, h⟩ => Pipeline.Dat.unnamed (cfg := (cfgM m hO)) ⟨4, h⟩ t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
/-- The body leaves input buffer 1 at its block. -/
theorem after0_1 (hO : Ok m) (c : Dev nD) (t : Fin (cfgM m hO).N) : (dats m hO 0 c).after 1 t = iblk m hO c 1 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- The body finds input buffer 1 at its block. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-! ## The body obligation, at a generic point -/

/-- What the body is called with at point `t` (Lib/Pipeline.lean `BodyObligation`'s precondition, the windows one by one), -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare d)
    ∗ (∃ d, owns (c : Thread nD τ) (ms0_3 m hO t) fullShare d)
    ∗ (∃ d, owns (c : Thread nD τ) (ms0_4 m hO t) fullShare d))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ (∃ d, owns (c : Thread nD τ) (ms0_2 m hO t) fullShare d)
    ∗ (∃ d, owns (c : Thread nD τ) (ms0_3 m hO t) fullShare d)
    ∗ (∃ d, owns (c : Thread nD τ) (ms0_4 m hO t) fullShare d))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).owesAt () t.succ = (dats m hO 0 c).owesAt () t.castSucc from rfl,
    after0_0, after0_1]
  rw [show (dats m hO 0 c).Φ t.succ = PhiS m hO c (t.val + 1) t.isLt from rfl, PhiS_succ, PhiT0_eq]
  have hN : t.val < 20 := lt_of_lt_of_eq t.isLt (show (cfgM m hO).N = 20 from N_0)
  by_cases h0 : t.val % 20 = 0
  · by_cases hz : t.val = 0
    · rw [PhiS_castSucc m hO c t, PhiS_zero m hO c _ _ hz, PhiT0_eq, PhiA0_eq]
      rw [outsAt0_A m hO c t h0]
      unfold sout0_A_0 sout0_A_2 sout0_A_3 sout0_A_4; (try dsimp only)
      iintro ⟨⟨⟨⟨HS0, HS1, HS2, HS3, HS4, HS5⟩, Hg⟩, HT0⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ _ _ _ _ _ _ ((hcond0_0 t).mpr h0) (iblk m hO c 0 t) (iblk m hO c 1 t) (tbl m 0)).2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      isplitl [HS2]; · iexact HS2
      isplitl [HS3]; · iexact HS3
      isplitl [HS4]; · iexact HS4
      isplitl [HS5]; · iexact HS5
      isplitl [HT0]; · iexact HT0
      iintro ⟨H0, H1, H2, H3, H4, ⟨%es0, HS0⟩, HS1, ⟨%es2, HS2⟩, ⟨%es3, HS3⟩, ⟨%es4, HS4⟩, HS5, HT0⟩
      isplitl [HS0 HS1 HS2 HS3 HS4 HS5 Hg HT0]
      · isplitl [HS0 HS1 HS2 HS3 HS4 HS5 Hg]
        · isplitl [HS0 HS1 HS2 HS3 HS4 HS5]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            isplitl [HS1]
            · iexact HS1
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _)
            isplitl [HS4]
            · unfold owns; iexists _; isplitr
              swap; · iexact HS4
              ipureintro; exact View.read_writes_of_cover _ _ _ _ _ (scover0_A_4 c _ _ _ _ _ _ _ _ _ _ _ _ _ _ _ _ _ _ _ _ _ _ _ _ _ _ _)
            iexact HS5
          iexact Hg
        iexact HT0
      isplitl [Ho]; · iexact Ho
      isplitl [H0]; · iexact H0
      isplitl [H1]; · iexact H1
      isplitl [H2]; · iexact H2
      isplitl [H3]; · iexact H3
      iexact H4
    · exfalso; have hN : t.val < 20 := lt_of_lt_of_eq t.isLt (show (cfgM m hO).N = 20 from N_0); omega
  · by_cases hz : t.val = 0
    · exfalso; have hN : t.val < 20 := lt_of_lt_of_eq t.isLt (show (cfgM m hO).N = 20 from N_0); omega
    · rw [PhiS_castSucc m hO c t, PhiS_pos m hO c _ _ hz, PhiT0_eq]
      rw [outsAt0_B m hO c t h0]
      unfold sout0_B_0 sout0_B_2 sout0_B_3 sout0_B_4; (try dsimp only)
      iintro ⟨⟨⟨⟨HS0, HS1, HS2, HS3, HS4, HS5⟩, Hg⟩, HT0⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ _ _ _ _ _ _ _ _ (fun h => h0 ((hcond0_0 t).mp h)) (iblk m hO c 0 t) (iblk m hO c 1 t) (tbl m 0) _ _ _ _).2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      isplitl [HS2]; · iexact HS2
      isplitl [HS3]; · iexact HS3
      isplitl [HS4]; · iexact HS4
      isplitl [HS5]; · iexact HS5
      isplitl [HT0]; · iexact HT0
      iintro ⟨H0, H1, H2, H3, H4, HS0, HS1, HS2, HS3, HS4, HS5, HT0⟩
      isplitl [HS0 HS1 HS2 HS3 HS4 HS5 Hg HT0]
      · isplitl [HS0 HS1 HS2 HS3 HS4 HS5 Hg]
        · isplitl [HS0 HS1 HS2 HS3 HS4 HS5]
          · isplitl [HS0]
            · iexact HS0
            isplitl [HS1]
            · iexact HS1
            isplitl [HS2]
            · iexact HS2
            isplitl [HS3]
            · iexact HS3
            isplitl [HS4]
            · iexact HS4
            iexact HS5
          iexact Hg
        iexact HT0
      isplitl [Ho]; · iexact Ho
      isplitl [H0]; · iexact H0
      isplitl [H1]; · iexact H1
      isplitl [H2]; · iexact H2
      isplitl [H3]; · iexact H3
      iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2, HS3, HS4, HS5⟩, Hg⟩, -⟩
  isplitl [HS0 HS1 HS2 HS3 HS4 HS5]
  · isplitl [HS0]
    · iexists _; iexact HS0
    isplitl [HS1]
    · iexact HS1
    isplitl [HS2]
    · iexists _; iexact HS2
    isplitl [HS3]
    · iexists _; iexact HS3
    isplitl [HS4]
    · iexists _; iexact HS4
    iexact HS5
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 20 := N_0; omega)

/-! ## The run and the frame -/

-- `θ_run_frameP_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_track_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

/-- At the compiled mesh, for any values, from any memory with zero counters: every weakly fair execution of @main on the
    TensorCores terminates, and every final state has every INPUT array of the pipeline unchanged, nothing stated of the
    FORGOTTEN outputs (windows 2, 3, 4) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ hO (fun c => (dats m hO 0 c).toRForget forgets0) (A_eq m hO) (run_main m ρ hO)

/-- The frame: from zero counters every execution of the printed kernel terminates with the arguments unchanged and every
    semaphore at zero, for every admissible table. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hO) ((θ_run defs _ _).mono (fun _ h => h.2) (run_main_quiescent m ρ hO))

end Cert.Kernel.Gen

end
-- ==== Proof.Points.lean ====
/- The schedule of the kernel's windows on its grid, at the ideal program: when each is fetched and written back. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%2)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%arg1)) is fetched at the first point only, at any contents of the tables (its index map reads none). -/
theorem fetch0_1 (a : (pcfg0 (F := F)).Adm) : ∀ t : Fin (cfg0 a).N, ((cfg0 a).win 1).fetch t = true ↔ t.val % 20 = 0 :=
  (fun t => Pipeline.Window.fetchOf_const cc0_transform_1 (fun _ _ => rfl) (n := 20) (by decide) t : ∀ t : Fin grid0.N, Pipeline.Window.fetchOf grid0 false cc0_transform_1 t = true ↔ t.val % 20 = 0)
/-- Window 2 (result 0 (%3#0)) is written back at every point, at any contents of the tables (its index map reads none). -/
theorem flush0_2 (a : (pcfg0 (F := F)).Adm) : ∀ t : Fin (cfg0 a).N, ((cfg0 a).win 2).flush t = true :=
  (fun t => (Pipeline.Window.flushOf_reads cc0_transform_2 reads0_2 hreads0_2 0 (by decide) (by decide) (Pipeline.Window.sep_of_coord cc0_transform_2 0 0 (fun _ => rfl) (by decide)) (P := 1) (m := 0) (by decide) rfl t).mpr (Nat.mod_one _) : ∀ t : Fin grid0.N, Pipeline.Window.flushOf grid0 true cc0_transform_2 t = true)
/-- Window 3 (result 1 (%3#1)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 0 (by decide) (by decide) (Pipeline.Window.sep_of_coord cc0_transform_3 0 0 (fun _ => rfl) (by decide)) (P := 1) (m := 0) (by decide) rfl t).mpr (Nat.mod_one _) : ∀ t : Fin grid0.N, Pipeline.Window.flushOf grid0 true cc0_transform_3 t = true)
/-- Window 4 (result 2 (%3#2)) is written back at the last point only, at any contents of the tables (its index map reads none). -/
theorem flush0_4 (a : (pcfg0 (F := F)).Adm) : ∀ t : Fin (cfg0 a).N, ((cfg0 a).win 4).flush t = true ↔ t.val % 20 = 19 :=
  (fun t => Pipeline.Window.flushOf_const cc0_transform_4 (fun _ _ => rfl) (n := 20) (by decide) rfl t : ∀ t : Fin grid0.N, Pipeline.Window.flushOf grid0 true cc0_transform_4 t = true ↔ t.val % 20 = 19)

/-- The current staging memref of each window at point `t`: which of its buffers it is on. -/
abbrev st0_0 (a : (pcfg0 (F := F)).Adm) (t : Fin (cfg0 a).N) := ((cfg0 a).win 0).stage ((cfg0 a).slots t 0)
/-- The staging buffer of window 1 at a point. -/
abbrev st0_1 (a : (pcfg0 (F := F)).Adm) (t : Fin (cfg0 a).N) := ((cfg0 a).win 1).stage ((cfg0 a).slots t 1)
/-- The staging buffer of window 2 at a point. -/
abbrev st0_2 (a : (pcfg0 (F := F)).Adm) (t : Fin (cfg0 a).N) := ((cfg0 a).win 2).stage ((cfg0 a).slots t 2)
/-- The staging buffer of window 3 at a point. -/
abbrev st0_3 (a : (pcfg0 (F := F)).Adm) (t : Fin (cfg0 a).N) := ((cfg0 a).win 3).stage ((cfg0 a).slots t 3)
/-- The staging buffer of window 4 at a point. -/
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_mla_store (grid0.coords t) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

end Cert.KernelIdeal.Gen

end
-- ==== Proof.Runs.lean ====
/- What the two cases of the kernel's body share, for the ideal program: the arrays the region finds, the windows' blocks,
   the branch condition, the staging and scratch memrefs. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The host lines before the call make no new buffer. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
/-- The pipeline's configuration at the prefetched table. -/
abbrev cfgM (hO : Ok m) : Pipeline.Cfg sig Λ₀ := cfg0 (adm m hO)

/-- Each table as the body is handed it: its whole buffer as a memref, and that memref's wholeness. -/
abbrev tbM0_0 : Memref sig .tc .smem S20 .i32 := Memref.whole main_arg2
/-- The table's view is the whole buffer. -/
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
/-- Ownership of a table at given contents. -/
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (by decide : main_arg0 ∈ Pipeline.restRefs sig spec0)).trans (V_main_arg0 m c),
      (Pipeline.RDat.FramePost.arr_in h c 1 rfl).trans ((hA c 1).trans (V_main_arg1 m c)),
      ((h c).2 main_arg2 (by decide : main_arg2 ∈ Pipeline.restRefs sig spec0)).trans (V_main_arg2 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin grid0.N, cond0_0 (grid0.coords t) ↔ t.val % 20 = 0 :=
  (fun t => by
    have ht : t.val < 20 := Nat.lt_of_lt_of_eq t.isLt N_0
    have e0 : (grid0.coords t 0).val = t.val / 1 % 20 := Pipeline.Grid.coords_val t 0 (by decide) rfl
    simp only [cond0_0, k0_cond1, e0]
    word_cmp
   : ∀ t : Fin grid0.N, cond0_0 (grid0.coords t) ↔ t.val % 20 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x104x16x8x128 .bf16 := spec0_0.stage ((cfgM m hO).slots t 0)
/-- The staging buffer of window 0 is whole. -/
abbrev hs0_0 (hO : Ok m) (t : Fin (cfgM m hO).N) : (ms0_0 m hO t).IsWhole := hstage0_0 (((cfgM m hO).slots t 0).cast nbuf0_0)
/-- The staging buffer of window 1 at a point. -/
abbrev ms0_1 (hO : Ok m) (t : Fin (cfgM m hO).N) : Memref sig .tc .vmem S768 .f32 := spec0_1.stage ((cfgM m hO).slots t 1)
/-- The staging buffer of window 1 is whole. -/
abbrev hs0_1 (hO : Ok m) (t : Fin (cfgM m hO).N) : (ms0_1 m hO t).IsWhole := hstage0_1 (((cfgM m hO).slots t 1).cast nbuf0_1)
/-- The staging buffer of window 2 at a point. -/
abbrev ms0_2 (hO : Ok m) (t : Fin (cfgM m hO).N) : Memref sig .tc .vmem S1x8x16x8x128 .bf16 := spec0_2.stage ((cfgM m hO).slots t 2)
/-- The staging buffer of window 2 is whole. -/
abbrev hs0_2 (hO : Ok m) (t : Fin (cfgM m hO).N) : (ms0_2 m hO t).IsWhole := hstage0_2 (((cfgM m hO).slots t 2).cast nbuf0_2)
/-- The staging buffer of window 3 at a point. -/
abbrev ms0_3 (hO : Ok m) (t : Fin (cfgM m hO).N) : Memref sig .tc .vmem S1x2048x768 .fp8e4m3 := spec0_3.stage ((cfgM m hO).slots t 3)
/-- The staging buffer of window 3 is whole. -/
abbrev hs0_3 (hO : Ok m) (t : Fin (cfgM m hO).N) : (ms0_3 m hO t).IsWhole := hstage0_3 (((cfgM m hO).slots t 3).cast nbuf0_3)
/-- The staging buffer of window 4 at a point. -/
abbrev ms0_4 (hO : Ok m) (t : Fin (cfgM m hO).N) : Memref sig .tc .vmem S6x20x2048 .f32 := spec0_4.stage ((cfgM m hO).slots t 4)
/-- The staging buffer of window 4 is whole. -/
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S768x128 .f32 := Memref.whole cc0_scratch0
/-- Scratch buffer 1. -/
abbrev scM0_1 : Memref sig .tc .vmem S96x2x8x128 .f32 := Memref.whole cc0_scratch1
/-- Scratch buffer 2. -/
abbrev scM0_2 : Memref sig .tc .vmem S3x32x128 .f32 := Memref.whole cc0_scratch2
/-- Scratch buffer 3. -/
abbrev scM0_3 : Memref sig .tc .vmem S4x32x128 .f32 := Memref.whole cc0_scratch3
/-- Scratch buffer 4. -/
abbrev scM0_4 : Memref sig .tc .vmem S2x32x8x128 .f32 := Memref.whole cc0_scratch4
/-- Scratch buffer 5. -/
abbrev scM0_5 : Memref sig .tc .vmem S4x32x128 .f32 := Memref.whole cc0_scratch5
/-- The scratch `arg7` the kernel carries between points, as a view: what it holds is stated through it. -/
abbrev VS0_0 : View sig .tc .vmem S768x128 .f32 := scM0_0.view
/-- The scratch `arg9` the kernel carries between points, as a view: what it holds is stated through it. -/
abbrev VS0_2 : View sig .tc .vmem S3x32x128 .f32 := scM0_2.view
/-- The scratch `arg10` the kernel carries between points, as a view: what it holds is stated through it. -/
abbrev VS0_3 : View sig .tc .vmem S4x32x128 .f32 := scM0_3.view
/-- The scratch `arg11` the kernel carries between points, as a view: what it holds is stated through it. -/
abbrev VS0_4 : View sig .tc .vmem S2x32x8x128 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Gen

end
-- ==== Proof.Tiles.lean ====
/-
What the kernel computes for one tile of 128 positions, as functions of the 96 vectors `x n` of latents (8 lanes of the
latent by 128 positions each) and of the 96 vectors `g n` of the norm's weights, spelt with the kernel's own vector operations.
Nothing here mentions a buffer.
-/
module

public import proofs.«01_k».proof.Proof.Gen.KernelIdeal.Skeleton

@[expose] public section

set_option maxRecDepth 16384

noncomputable section

namespace Cert.KernelIdeal.Latent

open Idealize.ShloMosaic Cert.KernelIdeal.Gen

variable {F : FTy → Type} [FloatOps F] [Named F]

/-- One vector of weighted latents, before the norm's factor. -/
def prod (x g : ℕ → FVec F S8x128 .f32) (n : ℕ) : FVec F S8x128 .f32 := mulf (x n) (g n)

/-- The sum of squares over vectors `0 … n`. -/
def ssq (x : ℕ → FVec F S8x128 .f32) (n : ℕ) : FVec F S8x128 .f32 :=
  Nat.rec (motive := fun _ => FVec F S8x128 .f32) (mulf (x 0) (x 0)) (fun m acc => addf acc (mulf (x (m + 1)) (x (m + 1)))) n

/-- The largest magnitude over the first `n + 1` vectors of group `q`. -/
def gmax (x g : ℕ → FVec F S8x128 .f32) (q n : ℕ) : FVec F S8x128 .f32 :=
  Nat.rec (motive := fun _ => FVec F S8x128 .f32) (absf (prod x g (16 * q)))
    (fun m acc => maximumf acc (absf (prod x g (16 * q + (m + 1))))) n

/-- The norm's factor of every position. -/
def rn (x : ℕ → FVec F S8x128 .f32) : FVec F S1x128 .f32 := k0_pay994 (ssq x 95)

/-- The same, over the 8 rows. -/
def rnB (x : ℕ → FVec F S8x128 .f32) : FVec F S8x128 .f32 := broadcastTo S8x128 (rn x) (by decide)

/-- Whether bit `m` of the row index is clear. -/
def bitClear (m : BitVec 32) : IVec S8x128 1 :=
  cmpi .eq (andi (iota .tc S8x128 32 [0] iota_S8x128_d0_w32) (broadcast S8x128 m)) (broadcast S8x128 0#32)

/-- Two stacks of rows merged: rows with the bit clear keep the larger of `a` and `a` moved by `s`, the others of `b`. -/
def merge (m s : BitVec 32) (a b : FVec F S8x128 .f32) : FVec F S8x128 .f32 :=
  maximumf (select (bitClear m) a b) (dynamicRotate 0 s none (select (bitClear m) b a) rotates_S8x128_d0)

/-- The largest weighted magnitude of group `s` in row `s`. -/
def gm (x g : ℕ → FVec F S8x128 .f32) : FVec F S8x128 .f32 :=
  merge 4#32 4#32 (merge 2#32 6#32 (merge 1#32 7#32 (gmax x g 0 15) (gmax x g 1 15)) (merge 1#32 7#32 (gmax x g 2 15) (gmax x g 3 15)))
    (merge 2#32 6#32 (merge 1#32 7#32 (gmax x g 4 15) (gmax x g 5 15)) (merge 1#32 7#32 k0_pay995 k0_pay995))

/-- The largest normalised magnitude of group `s` in row `s`. -/
def amax (x g : ℕ → FVec F S8x128 .f32) : FVec F S8x128 .f32 := mulf (gm x g) (rnB x)

/-- A constant over the 8 by 128 rows. -/
def bc (b : BitVec 32) : FVec F S8x128 .f32 := broadcast S8x128 (FloatOps.ofBits .f32 b)

/-- One step up: the value divided by `2^k` where it is at least `2^k`. -/
def upY (c ci : BitVec 32) (y : FVec F S8x128 .f32) : FVec F S8x128 .f32 := select (cmpf .oge y (bc c)) (mulf y (bc ci)) y

/-- One step up: the exponent raised by `k` there. -/
def upN (c : BitVec 32) (k : BitVec 32) (y : FVec F S8x128 .f32) (n : IVec S8x128 32) : IVec S8x128 32 :=
  select (cmpf .oge y (bc c)) (addi n (broadcast S8x128 k)) n

/-- One step down: the value multiplied by `2^k` where it is below the bound. -/
def dnY (c ci : BitVec 32) (y : FVec F S8x128 .f32) : FVec F S8x128 .f32 := select (cmpf .olt y (bc c)) (mulf y (bc ci)) y

/-- One step down: the exponent lowered by `k` there. -/
def dnN (c : BitVec 32) (k : BitVec 32) (y : FVec F S8x128 .f32) (n : IVec S8x128 32) : IVec S8x128 32 :=
  select (cmpf .olt y (bc c)) (subi n (broadcast S8x128 k)) n

/-- The quotient whose exponent is sought. -/
def y0 (a : FVec F S8x128 .f32) : FVec F S8x128 .f32 := mulf a (bc 991054117#32)

/-- After the step up by 64. -/
def y1 (a : FVec F S8x128 .f32) : FVec F S8x128 .f32 := upY 1602224128#32 528482304#32 (y0 a)

/-- The exponent after the step up by 64. -/
def n1 (a : FVec F S8x128 .f32) : IVec S8x128 32 := upN 1602224128#32 64#32 (y0 a) (broadcast S8x128 0#32)

/-- After the step up by 32. -/
def y2 (a : FVec F S8x128 .f32) : FVec F S8x128 .f32 := upY 1333788672#32 796917760#32 (y1 a)

/-- The exponent after the step up by 32. -/
def n2 (a : FVec F S8x128 .f32) : IVec S8x128 32 := upN 1333788672#32 32#32 (y1 a) (n1 a)

/-- After the step up by 16. -/
def y3 (a : FVec F S8x128 .f32) : FVec F S8x128 .f32 := upY 1199570944#32 931135488#32 (y2 a)

/-- The exponent after the step up by 16. -/
def n3 (a : FVec F S8x128 .f32) : IVec S8x128 32 := upN 1199570944#32 16#32 (y2 a) (n2 a)

/-- After the step up by 8. -/
def y4 (a : FVec F S8x128 .f32) : FVec F S8x128 .f32 := upY 1132462080#32 998244352#32 (y3 a)

/-- The exponent after the step up by 8. -/
def n4 (a : FVec F S8x128 .f32) : IVec S8x128 32 := upN 1132462080#32 8#32 (y3 a) (n3 a)

/-- After the step up by 4. -/
def y5 (a : FVec F S8x128 .f32) : FVec F S8x128 .f32 := upY 1098907648#32 1031798784#32 (y4 a)

/-- The exponent after the step up by 4. -/
def n5 (a : FVec F S8x128 .f32) : IVec S8x128 32 := upN 1098907648#32 4#32 (y4 a) (n4 a)

/-- After the step up by 2. -/
def y6 (a : FVec F S8x128 .f32) : FVec F S8x128 .f32 := upY 1082130432#32 1048576000#32 (y5 a)

/-- The exponent after the step up by 2. -/
def n6 (a : FVec F S8x128 .f32) : IVec S8x128 32 := upN 1082130432#32 2#32 (y5 a) (n5 a)

/-- After the step up by 1. -/
def y7 (a : FVec F S8x128 .f32) : FVec F S8x128 .f32 := upY 1073741824#32 1056964608#32 (y6 a)

/-- The exponent after the step up by 1. -/
def n7 (a : FVec F S8x128 .f32) : IVec S8x128 32 := upN 1073741824#32 1#32 (y6 a) (n6 a)

/-- After the step down by 64. -/
def z1 (a : FVec F S8x128 .f32) : FVec F S8x128 .f32 := dnY 536870912#32 1602224128#32 (y7 a)

/-- The exponent after the step down by 64. -/
def m1 (a : FVec F S8x128 .f32) : IVec S8x128 32 := dnN 536870912#32 64#32 (y7 a) (n7 a)

/-- After the step down by 32. -/
def z2 (a : FVec F S8x128 .f32) : FVec F S8x128 .f32 := dnY 805306368#32 1333788672#32 (z1 a)

/-- The exponent after the step down by 32. -/
def m2 (a : FVec F S8x128 .f32) : IVec S8x128 32 := dnN 805306368#32 32#32 (z1 a) (m1 a)

/-- After the step down by 16. -/
def z3 (a : FVec F S8x128 .f32) : FVec F S8x128 .f32 := dnY 939524096#32 1199570944#32 (z2 a)

/-- The exponent after the step down by 16. -/
def m3 (a : FVec F S8x128 .f32) : IVec S8x128 32 := dnN 939524096#32 16#32 (z2 a) (m2 a)

/-- After the step down by 8. -/
def z4 (a : FVec F S8x128 .f32) : FVec F S8x128 .f32 := dnY 1006632960#32 1132462080#32 (z3 a)

/-- The exponent after the step down by 8. -/
def m4 (a : FVec F S8x128 .f32) : IVec S8x128 32 := dnN 1006632960#32 8#32 (z3 a) (m3 a)

/-- After the step down by 4. -/
def z5 (a : FVec F S8x128 .f32) : FVec F S8x128 .f32 := dnY 1040187392#32 1098907648#32 (z4 a)

/-- The exponent after the step down by 4. -/
def m5 (a : FVec F S8x128 .f32) : IVec S8x128 32 := dnN 1040187392#32 4#32 (z4 a) (m4 a)

/-- After the step down by 2. -/
def z6 (a : FVec F S8x128 .f32) : FVec F S8x128 .f32 := dnY 1056964608#32 1082130432#32 (z5 a)

/-- The exponent after the step down by 2. -/
def m6 (a : FVec F S8x128 .f32) : IVec S8x128 32 := dnN 1056964608#32 2#32 (z5 a) (m5 a)

/-- The exponent after the step down by 1. -/
def m7 (a : FVec F S8x128 .f32) : IVec S8x128 32 := dnN 1065353216#32 1#32 (z6 a) (m6 a)

/-- The scale's exponent: one more than that of the quotient, 0 where the quotient is no positive finite number or the group is 0. -/
def sexp (a : FVec F S8x128 .f32) : IVec S8x128 32 :=
  select (cmpf .oeq a (bc 0#32)) (broadcast S8x128 0#32)
    (select (andi (cmpf .ogt (y0 a) (bc 0#32)) (cmpf .ole (y0 a) (bc 2139095039#32)))
      (addi (m7 a) (broadcast S8x128 1#32)) (broadcast S8x128 0#32))

/-- The scale of group `s` in row `s`. -/
def scale (a : FVec F S8x128 .f32) : FVec F S8x128 .f32 :=
  bitcastToFloat .f32 (shli (addi (sexp a) (broadcast S8x128 127#32)) (broadcast S8x128 23#32))

/-- The reciprocal of the scale. -/
def invScale (a : FVec F S8x128 .f32) : FVec F S8x128 .f32 :=
  bitcastToFloat .f32 (shli (subi (broadcast S8x128 127#32) (sexp a)) (broadcast S8x128 23#32))

/-- What a weighted latent of group `s` is multiplied by, in row `s`. -/
def rr (x g : ℕ → FVec F S8x128 .f32) : FVec F S8x128 .f32 :=
  minimumf (mulf (invScale (amax x g)) (rnB x)) (bc 2139095039#32)

/-- Row `q` over the 8 rows. -/
def rowB (q : ℕ) (hq : S8x128.Slices ![q, 0] S1x128) (v : FVec F S8x128 .f32) : FVec F S8x128 .f32 :=
  broadcastTo S8x128 (shapeCast S1x128 (extractStridedSlice S1x128 ![q, 0] v hq) (by decide)) (by decide)

/-- Four vectors of weighted latents of group `q`, scaled, clipped and rounded to codes. -/
def code32 (p : ℕ → FVec F S8x128 .f32) (r : FVec F S8x128 .f32) (n : ℕ) : FVec F S32x128 .fp8e4m3 :=
  truncf .fp8e4m3 (minimumf (broadcast S32x128 (FloatOps.ofBits .f32 1138753536#32))
    (maximumf (broadcast S32x128 (FloatOps.ofBits .f32 3286237184#32))
      (concatenate S32x128 0 [⟨S8x128, mulf (p n) r⟩, ⟨S8x128, mulf (p (n + 1)) r⟩, ⟨S8x128, mulf (p (n + 2)) r⟩, ⟨S8x128, mulf (p (n + 3)) r⟩]
        (show Shape.Concatenates [S8x128, S8x128, S8x128, S8x128] S32x128 0 by decide)))) (by decide)

/-- The codes of group `q`: a row per position, a column per lane of the latent. -/
def code128 (p : ℕ → FVec F S8x128 .f32) (r : FVec F S8x128 .f32) (q : ℕ) : FVec F S128x128 .fp8e4m3 :=
  transpose S128x128 [1, 0] (concatenate S128x128 0
    [⟨S32x128, code32 p r (16 * q)⟩, ⟨S32x128, code32 p r (16 * q + 4)⟩, ⟨S32x128, code32 p r (16 * q + 8)⟩, ⟨S32x128, code32 p r (16 * q + 12)⟩]
    (show Shape.Concatenates [S32x128, S32x128, S32x128, S32x128] S128x128 0 by decide)) (by decide)

end Cert.KernelIdeal.Latent
-- ==== Proof.Ties.lean ====
/-
The vectors one trip of the kernel's loop over pairs of tiles computes are the functions of `Tiles` at what the trip loads:
the latents of tile `2 k + q` and the rows of the expanded weights.
-/
module

public import proofs.«01_k».proof.Proof.Tiles
public import proofs.«01_k».proof.Proof.Gen.KernelIdeal.Loops

@[expose] public section

set_option maxRecDepth 16384
set_option maxHeartbeats 4000000

noncomputable section

namespace Cert.KernelIdeal.Latent

open Idealize.ShloMosaic Cert.KernelIdeal.Gen

variable {F : FTy → Type} [FloatOps F] [Named F]

variable (arg2 : Memref sig .tc .vmem S1x104x16x8x128 .bf16) (arg7 : Memref sig .tc .vmem S768x128 .f32)
  (X2 : BufTy.Contents (Elt F) arg2.view.ty) (X7 : BufTy.Contents (Elt F) arg7.view.ty) (k : Fin k0_t2_loop.trips)

/-- Where the pair of tiles of trip `k` lies, row block `n`. -/
def offPair (n : ℕ) (k : Fin k0_t2_loop.trips) : Fin 5 → Nat := ![0, n % 96, (k0_off7 k) 2, 0, 0]

/-- A pair of tiles is inside the latents' block. -/
theorem offPair_inb (n : ℕ) (k : Fin k0_t2_loop.trips) : ∀ a, offPair n k a + S1x1x2x8x128.size a ≤ S1x104x16x8x128.size a := by
  have h : (k0_off7 k) 2 = 2 * k.val := by rw [k0_off7_eq]; rfl
  have hk : k.val < 8 := k.isLt
  have hn : n % 96 < 96 := Nat.mod_lt _ (by decide)
  intro a
  fin_cases a <;> simp [offPair, h, Shape.size, S1x1x2x8x128, S1x104x16x8x128] <;> omega

/-- The pair of tiles of trip `k`, row block `n`, at 32 bits. -/
def xPair (n : ℕ) : FVec F S16x128 .f32 :=
  extf .f32 (shapeCast S16x128 (shapeCast S2x8x128 (View.readAt (Elt F) arg2.view
    (Rect.unit (s := S1x104x16x8x128) (offPair n k) S1x1x2x8x128.size (offPair_inb n k)).toLoadRect X2) (show S1x1x2x8x128.ShapeCasts S2x8x128 by decide)) (by decide) : FVec F S16x128 .bf16) (by decide)

/-- The first tile of the pair. -/
def xr0 (n : ℕ) : FVec F S8x128 .f32 := extractStridedSlice S8x128 ![0, 0] (xPair arg2 X2 k n) (by decide)
/-- The second tile of the pair. -/
def xr1 (n : ℕ) : FVec F S8x128 .f32 := extractStridedSlice S8x128 ![8, 0] (xPair arg2 X2 k n) (by decide)

/-- Where row block `n` of the expanded weights lies. -/
def offG (n : ℕ) : Fin 2 → Nat := ![8 * (n % 96), 0]

/-- A tile of weights is inside the weights' scratch. -/
theorem offG_inb (n : ℕ) : ∀ a, offG n a + S8x128.size a ≤ S768x128.size a := by
  have hn : n % 96 < 96 := Nat.mod_lt _ (by decide)
  intro a
  fin_cases a <;> simp [offG, Shape.size, S8x128, S768x128] <;> omega

/-- Row block `n` of the expanded weights. -/
def gr (n : ℕ) : FVec F S8x128 .f32 :=
  View.readAt (Elt F) arg7.view (Rect.unit (s := S768x128) (offG n) S8x128.size (offG_inb n)).toLoadRect X7

open trip_k0_t2

/-- The sum of squares of tile 0. -/
theorem ssq0_eq : sl.v2530 arg2 X2 k = ssq (xr0 arg2 X2 k) 95 := rfl
/-- The sum of squares of tile 1. -/
theorem ssq1_eq : sl.v2539 arg2 X2 k = ssq (xr1 arg2 X2 k) 95 := rfl
/-- The greatest magnitudes of tile 0 and group 0. -/
theorem gmax0_0 : sl.v466 arg2 arg7 X2 X7 k = gmax (xr0 arg2 X2 k) (gr arg7 X7) 0 15 := rfl
/-- The greatest magnitudes of tile 0 and group 1. -/
theorem gmax0_1 : sl.v880 arg2 arg7 X2 X7 k = gmax (xr0 arg2 X2 k) (gr arg7 X7) 1 15 := rfl
/-- The greatest magnitudes of tile 0 and group 2. -/
theorem gmax0_2 : sl.v1294 arg2 arg7 X2 X7 k = gmax (xr0 arg2 X2 k) (gr arg7 X7) 2 15 := rfl
/-- The greatest magnitudes of tile 0 and group 3. -/
theorem gmax0_3 : sl.v1708 arg2 arg7 X2 X7 k = gmax (xr0 arg2 X2 k) (gr arg7 X7) 3 15 := rfl
/-- The greatest magnitudes of tile 0 and group 4. -/
theorem gmax0_4 : sl.v2122 arg2 arg7 X2 X7 k = gmax (xr0 arg2 X2 k) (gr arg7 X7) 4 15 := rfl
/-- The greatest magnitudes of tile 0 and group 5. -/
theorem gmax0_5 : sl.v2536 arg2 arg7 X2 X7 k = gmax (xr0 arg2 X2 k) (gr arg7 X7) 5 15 := rfl
/-- The greatest magnitudes of tile 1 and group 0. -/
theorem gmax1_0 : sl.v475 arg2 arg7 X2 X7 k = gmax (xr1 arg2 X2 k) (gr arg7 X7) 0 15 := rfl
/-- The greatest magnitudes of tile 1 and group 1. -/
theorem gmax1_1 : sl.v889 arg2 arg7 X2 X7 k = gmax (xr1 arg2 X2 k) (gr arg7 X7) 1 15 := rfl
/-- The greatest magnitudes of tile 1 and group 2. -/
theorem gmax1_2 : sl.v1303 arg2 arg7 X2 X7 k = gmax (xr1 arg2 X2 k) (gr arg7 X7) 2 15 := rfl
/-- The greatest magnitudes of tile 1 and group 3. -/
theorem gmax1_3 : sl.v1717 arg2 arg7 X2 X7 k = gmax (xr1 arg2 X2 k) (gr arg7 X7) 3 15 := rfl
/-- The greatest magnitudes of tile 1 and group 4. -/
theorem gmax1_4 : sl.v2131 arg2 arg7 X2 X7 k = gmax (xr1 arg2 X2 k) (gr arg7 X7) 4 15 := rfl
/-- The greatest magnitudes of tile 1 and group 5. -/
theorem gmax1_5 : sl.r_55 arg2 arg7 X2 X7 k = gmax (xr1 arg2 X2 k) (gr arg7 X7) 5 15 := rfl

/-- The inverse root of tile 0. -/
theorem rn0_eq : sl.r_56 arg2 X2 k = rn (xr0 arg2 X2 k) := rfl
/-- The inverse root of tile 1. -/
theorem rn1_eq : sl.r_61 arg2 X2 k = rn (xr1 arg2 X2 k) := rfl
/-- The merged maxima of tile 0. -/
theorem gm0_eq : sl.v2616 arg2 arg7 X2 X7 k = gm (xr0 arg2 X2 k) (gr arg7 X7) := rfl
/-- The merged maxima of tile 1. -/
theorem gm1_eq : sl.v2828 arg2 arg7 X2 X7 k = gm (xr1 arg2 X2 k) (gr arg7 X7) := rfl
/-- The maxima of tile 0 after normalization. -/
theorem amax0_eq : sl.v2618 arg2 arg7 X2 X7 k = amax (xr0 arg2 X2 k) (gr arg7 X7) := rfl
/-- The maxima of tile 1 after normalization. -/
theorem amax1_eq : sl.v2830 arg2 arg7 X2 X7 k = amax (xr1 arg2 X2 k) (gr arg7 X7) := rfl
/-- The scales of tile 0. -/
theorem scale0_eq : sl.v2748 arg2 arg7 X2 X7 k = scale (sl.v2618 arg2 arg7 X2 X7 k) := rfl
/-- The scales of tile 1. -/
theorem scale1_eq : sl.v2960 arg2 arg7 X2 X7 k = scale (sl.v2830 arg2 arg7 X2 X7 k) := rfl
/-- The inverse scales of tile 0. -/
theorem inv0_eq : sl.v2753 arg2 arg7 X2 X7 k = invScale (sl.v2618 arg2 arg7 X2 X7 k) := rfl
/-- The inverse scales of tile 1. -/
theorem inv1_eq : sl.v2965 arg2 arg7 X2 X7 k = invScale (sl.v2830 arg2 arg7 X2 X7 k) := rfl
/-- The factors of tile 0: inverse scale times inverse root. -/
theorem rr0_eq : sl.r_60 arg2 arg7 X2 X7 k = rr (xr0 arg2 X2 k) (gr arg7 X7) := rfl
/-- The factors of tile 1: inverse scale times inverse root. -/
theorem rr1_eq : sl.v2969 arg2 arg7 X2 X7 k = rr (xr1 arg2 X2 k) (gr arg7 X7) := rfl

end Cert.KernelIdeal.Latent
-- ==== Proof.Stack.lean ====
/-
The buffer of weighted latents of one trip: 192 stores, one per tile of the pair and row block; what is read back is what was
stored. Then the vectors the trip stores as codes and scales, in the functions of `Tiles`.
-/
module

public import proofs.«01_k».proof.Proof.Ties
public import Idealize.ShloMosaic.Lib.Pointwise

@[expose] public section

set_option maxRecDepth 16384
set_option maxHeartbeats 4000000

noncomputable section

namespace Cert.KernelIdeal.Latent

open Idealize.ShloMosaic Cert.KernelIdeal.Gen

variable {F : FTy → Type} [FloatOps F] [Named F]

variable (arg2 : Memref sig .tc .vmem S1x104x16x8x128 .bf16) (arg7 : Memref sig .tc .vmem S768x128 .f32)
  (arg8 : Memref sig .tc .vmem S96x2x8x128 .f32)
  (X2 : BufTy.Contents (Elt F) arg2.view.ty) (X7 : BufTy.Contents (Elt F) arg7.view.ty) (k : Fin k0_t2_loop.trips)

/-- Where row block `n` of tile `q` of the pair is kept. -/
def offC (n q : ℕ) : Fin 4 → Nat := ![n % 96, q % 2, 0, 0]

/-- A tile's place in the products' scratch is inside it. -/
theorem offC_inb (n q : ℕ) : ∀ a, offC n q a + S1x1x8x128.size a ≤ S96x2x8x128.size a := by
  have hn : n % 96 < 96 := Nat.mod_lt _ (by decide)
  have hq : q % 2 < 2 := Nat.mod_lt _ (by decide)
  intro a
  fin_cases a <;> simp [offC, Shape.size, S1x1x8x128, S96x2x8x128] <;> omega

/-- The rectangle of row block `n` of tile `q`. -/
abbrev rectC (n q : ℕ) : Rect S96x2x8x128 := Rect.unit (s := S96x2x8x128) (offC n q) S1x1x8x128.size (offC_inb n q)

/-- Tile `q` of the pair. -/
def xr (q : ℕ) (n : ℕ) : FVec F S8x128 .f32 := if q % 2 = 0 then xr0 arg2 X2 k n else xr1 arg2 X2 k n

/-- The store of row block `n` of the first tile. -/
def piece0 (n : ℕ) : View.Piece (Elt F) S96x2x8x128 .f32 :=
  ⟨rectC n 0, shapeCast S1x1x8x128 (prod (xr0 arg2 X2 k) (gr arg7 X7) n) (by decide)⟩

/-- The store of row block `n` of the second tile. -/
def piece1 (n : ℕ) : View.Piece (Elt F) S96x2x8x128 .f32 :=
  ⟨rectC n 1, shapeCast S1x1x8x128 (prod (xr1 arg2 X2 k) (gr arg7 X7) n) (by decide)⟩

/-- The stores of row blocks below `n`, last first. -/
def stack (n : ℕ) : List (View.Piece (Elt F) S96x2x8x128 .f32) :=
  Nat.rec (motive := fun _ => List (View.Piece (Elt F) S96x2x8x128 .f32)) []
    (fun m acc => piece1 arg2 arg7 X2 X7 k m :: piece0 arg2 arg7 X2 X7 k m :: acc) n

open trip_k0_t2

/-- What a trip stores into the products' scratch is the stack of all 96 pairs of tiles. -/
theorem stack_eq : sl.HW_arg8_192 arg2 arg7 X2 X7 k = stack arg2 arg7 X2 X7 k 96 := rfl

/-- The stack of one more pair of tiles. -/
theorem stack_succ (n : ℕ) : stack arg2 arg7 X2 X7 k (n + 1)
    = piece1 arg2 arg7 X2 X7 k n :: piece0 arg2 arg7 X2 X7 k n :: stack arg2 arg7 X2 X7 k n := rfl

/-- Piece 0 of every pair of tiles is in the stack. -/
theorem mem_stack0 (n N : ℕ) (h : n < N) : piece0 arg2 arg7 X2 X7 k n ∈ stack arg2 arg7 X2 X7 k N := by
  induction N with
  | zero => omega
  | succ N ih =>
    rw [stack_succ]
    rcases Nat.lt_succ_iff_lt_or_eq.mp h with h | rfl
    · exact List.mem_cons_of_mem _ (List.mem_cons_of_mem _ (ih h))
    · exact List.mem_cons_of_mem _ List.mem_cons_self

/-- Piece 1 of every pair of tiles is in the stack. -/
theorem mem_stack1 (n N : ℕ) (h : n < N) : piece1 arg2 arg7 X2 X7 k n ∈ stack arg2 arg7 X2 X7 k N := by
  induction N with
  | zero => omega
  | succ N ih =>
    rw [stack_succ]
    rcases Nat.lt_succ_iff_lt_or_eq.mp h with h | rfl
    · exact List.mem_cons_of_mem _ (List.mem_cons_of_mem _ (ih h))
    · exact List.mem_cons_self

/-- What the buffer of weighted latents holds. -/
def stackFn (y : S96x2x8x128.Idx) : F .f32 :=
  if (y 1).val = 0 then prod (xr0 arg2 X2 k) (gr arg7 X7) (y 0).val (ix2 (y 2) (y 3))
  else prod (xr1 arg2 X2 k) (gr arg7 X7) (y 0).val (ix2 (y 2) (y 3))

/-- A vector laid over two leading unit axes, at an index. -/
theorem cast4_apply (v : FVec F S8x128 .f32) (h : S8x128.ShapeCasts S1x1x8x128) (x : S1x1x8x128.Idx) :
    shapeCast S1x1x8x128 v h x = v (ix2 (x 2) (x 3)) := by
  idx_vars x
  pointwise

/-- The pair of tiles by where it lies. -/
theorem xPair_of_off (n : ℕ) (off : Fin 5 → Nat) (inb : ∀ a, off a + S1x1x2x8x128.size a ≤ S1x104x16x8x128.size a)
    (h : off = offPair n k) :
    (extf .f32 (shapeCast S16x128 (shapeCast S2x8x128 (View.readAt (Elt F) arg2.view
      (Rect.unit (s := S1x104x16x8x128) off S1x1x2x8x128.size inb).toLoadRect X2) (show S1x1x2x8x128.ShapeCasts S2x8x128 by decide))
      (by decide) : FVec F S16x128 .bf16) (by decide) : FVec F S16x128 .f32) = xPair arg2 X2 k n := by
  subst h; rfl

/-- A pair of tiles is read by its number modulo 96. -/
theorem xPair_mod (n : ℕ) : xPair arg2 X2 k (n % 96) = xPair arg2 X2 k n :=
  xPair_of_off arg2 X2 k n (offPair (n % 96) k) (offPair_inb _ _) (by unfold offPair; rw [Nat.mod_mod])

/-- Tile 0 of a pair is read by its number modulo 96. -/
theorem xr0_mod (n : ℕ) : xr0 arg2 X2 k (n % 96) = xr0 arg2 X2 k n := by
  unfold xr0; rw [xPair_mod]
/-- Tile 1 of a pair is read by its number modulo 96. -/
theorem xr1_mod (n : ℕ) : xr1 arg2 X2 k (n % 96) = xr1 arg2 X2 k n := by
  unfold xr1; rw [xPair_mod]

/-- The rows of the weights by where they lie. -/
theorem gr_of_off (n : ℕ) (off : Fin 2 → Nat) (inb : ∀ a, off a + S8x128.size a ≤ S768x128.size a) (h : off = offG n) :
    (View.readAt (Elt F) arg7.view (Rect.unit (s := S768x128) off S8x128.size inb).toLoadRect X7 : FVec F S8x128 .f32) = gr arg7 X7 n := by
  subst h; rfl

/-- The weights of a tile are read by its number modulo 96. -/
theorem gr_mod (n : ℕ) : gr arg7 X7 (n % 96) = gr arg7 X7 n :=
  gr_of_off arg7 X7 n (offG (n % 96)) (offG_inb _) (by unfold offG; rw [Nat.mod_mod])

/-- Piece 0 of a pair of tiles holds the products. -/
theorem piece0_agrees (n : ℕ) (x : (piece0 arg2 arg7 X2 X7 k n).1.shape.Idx) :
    (piece0 arg2 arg7 X2 X7 k n).2 x = stackFn arg2 arg7 X2 X7 k ((piece0 arg2 arg7 X2 X7 k n).1.emb x) := by
  have h : ((rectC n 0).emb x 1).val = 0 := by
    show 0 % 2 + 1 * (x 1).val = 0
    have : (x 1).val < 1 := (x 1).isLt
    omega
  have h0 : ((rectC n 0).emb x 0).val = n % 96 := by
    show n % 96 + 1 * (x 0).val = n % 96
    have : (x 0).val < 1 := (x 0).isLt
    omega
  have h2 : (rectC n 0).emb x 2 = x 2 := Fin.ext (by show 0 + 1 * (x 2).val = (x 2).val; omega)
  have h3 : (rectC n 0).emb x 3 = x 3 := Fin.ext (by show 0 + 1 * (x 3).val = (x 3).val; omega)
  have hr : stackFn arg2 arg7 X2 X7 k ((rectC n 0).emb x) = prod (xr0 arg2 X2 k) (gr arg7 X7) n (ix2 (x 2) (x 3)) := by
    rw [stackFn, if_pos h, h0, h2, h3, prod, prod, xr0_mod, gr_mod]
  exact (cast4_apply (prod (xr0 arg2 X2 k) (gr arg7 X7) n) _ x).trans hr.symm

/-- Piece 1 of a pair of tiles holds the products. -/
theorem piece1_agrees (n : ℕ) (x : (piece1 arg2 arg7 X2 X7 k n).1.shape.Idx) :
    (piece1 arg2 arg7 X2 X7 k n).2 x = stackFn arg2 arg7 X2 X7 k ((piece1 arg2 arg7 X2 X7 k n).1.emb x) := by
  have h : ¬ ((rectC n 1).emb x 1).val = 0 := by
    show ¬ (1 % 2 + 1 * (x 1).val = 0)
    omega
  have h0 : ((rectC n 1).emb x 0).val = n % 96 := by
    show n % 96 + 1 * (x 0).val = n % 96
    have : (x 0).val < 1 := (x 0).isLt
    omega
  have h2 : (rectC n 1).emb x 2 = x 2 := Fin.ext (by show 0 + 1 * (x 2).val = (x 2).val; omega)
  have h3 : (rectC n 1).emb x 3 = x 3 := Fin.ext (by show 0 + 1 * (x 3).val = (x 3).val; omega)
  have hr : stackFn arg2 arg7 X2 X7 k ((rectC n 1).emb x) = prod (xr1 arg2 X2 k) (gr arg7 X7) n (ix2 (x 2) (x 3)) := by
    rw [stackFn, if_neg h, h0, h2, h3, prod, prod, xr1_mod, gr_mod]
  exact (cast4_apply (prod (xr1 arg2 X2 k) (gr arg7 X7) n) _ x).trans hr.symm

/-- Every piece of the stack holds the products. -/
theorem stack_agrees (N : ℕ) : ∀ p ∈ stack arg2 arg7 X2 X7 k N, ∀ x : p.1.shape.Idx, p.2 x = stackFn arg2 arg7 X2 X7 k (p.1.emb x) := by
  induction N with
  | zero => intro p hp; exact absurd hp List.not_mem_nil
  | succ N ih =>
    intro p hp
    rw [stack_succ] at hp
    rcases List.mem_cons.mp hp with rfl | hp
    · exact piece1_agrees arg2 arg7 X2 X7 k N
    rcases List.mem_cons.mp hp with rfl | hp
    · exact piece0_agrees arg2 arg7 X2 X7 k N
    · exact ih p hp

/-- The first tile's row block `n`, read back. -/
theorem readBack0 (n : ℕ) : (arg8.view.readCov (sl.HW_arg8_192 arg2 arg7 X2 X7 k) (rectC n 0).toLoadRect : S1x1x8x128.Idx → F .f32)
    = shapeCast S1x1x8x128 (prod (xr0 arg2 X2 k) (gr arg7 X7) n) (by decide) := by
  have hp : prod (xr0 arg2 X2 k) (gr arg7 X7) (n % 96) = prod (xr0 arg2 X2 k) (gr arg7 X7) n := by
    unfold prod; rw [xr0_mod, gr_mod]
  have hr : rectC (n % 96) 0 = rectC n 0 := by unfold rectC offC; simp only [Nat.mod_mod]
  funext x
  have hm := mem_stack0 arg2 arg7 X2 X7 k (n % 96) 96 (Nat.mod_lt _ (by decide))
  refine (View.read_writes_apply_of_pieces arg8.view arg8.view.junk (stackFn arg2 arg7 X2 X7 k) _
    (by rw [stack_eq]; exact stack_agrees arg2 arg7 X2 X7 k 96) ((rectC n 0).emb x) ⟨_, by rw [stack_eq]; exact hm, ?_⟩).trans ?_
  · show (rectC n 0).emb x ∈ (rectC (n % 96) 0).set
    rw [hr, ← Rect.map_emb_univ]; exact Finset.mem_map_of_mem _ (Finset.mem_univ x)
  · exact (piece0_agrees arg2 arg7 X2 X7 k n x).symm

/-- The second tile's row block `n`, read back. -/
theorem readBack1 (n : ℕ) : (arg8.view.readCov (sl.HW_arg8_192 arg2 arg7 X2 X7 k) (rectC n 1).toLoadRect : S1x1x8x128.Idx → F .f32)
    = shapeCast S1x1x8x128 (prod (xr1 arg2 X2 k) (gr arg7 X7) n) (by decide) := by
  have hr : rectC (n % 96) 1 = rectC n 1 := by unfold rectC offC; simp only [Nat.mod_mod]
  funext x
  have hm := mem_stack1 arg2 arg7 X2 X7 k (n % 96) 96 (Nat.mod_lt _ (by decide))
  refine (View.read_writes_apply_of_pieces arg8.view arg8.view.junk (stackFn arg2 arg7 X2 X7 k) _
    (by rw [stack_eq]; exact stack_agrees arg2 arg7 X2 X7 k 96) ((rectC n 1).emb x) ⟨_, by rw [stack_eq]; exact hm, ?_⟩).trans ?_
  · show (rectC n 1).emb x ∈ (rectC (n % 96) 1).set
    rw [hr, ← Rect.map_emb_univ]; exact Finset.mem_map_of_mem _ (Finset.mem_univ x)
  · exact (piece1_agrees arg2 arg7 X2 X7 k n x).symm

/-- The vector the kernel reads back for row block `n` of the first tile. -/
def pk0 (n : ℕ) : FVec F S8x128 .f32 :=
  shapeCast S8x128 (arg8.view.readCov (sl.HW_arg8_192 arg2 arg7 X2 X7 k) (rectC n 0).toLoadRect) (show S1x1x8x128.ShapeCasts S8x128 by decide)

/-- The vector the kernel reads back for row block `n` of the second tile. -/
def pk1 (n : ℕ) : FVec F S8x128 .f32 :=
  shapeCast S8x128 (arg8.view.readCov (sl.HW_arg8_192 arg2 arg7 X2 X7 k) (rectC n 1).toLoadRect) (show S1x1x8x128.ShapeCasts S8x128 by decide)

/-- A cast to a longer shape and back changes nothing. -/
theorem cast_back (v : FVec F S8x128 .f32) (h : S8x128.ShapeCasts S1x1x8x128) (h' : S1x1x8x128.ShapeCasts S8x128) :
    shapeCast S8x128 (shapeCast S1x1x8x128 v h) h' = v := by
  funext j
  idx_vars j
  pointwise

/-- The products read back for tile 0 are latent times weight. -/
theorem pk0_eq : pk0 arg2 arg7 arg8 X2 X7 k = prod (xr0 arg2 X2 k) (gr arg7 X7) := by
  funext n
  unfold pk0
  exact (congrArg (fun w => shapeCast S8x128 w (show S1x1x8x128.ShapeCasts S8x128 by decide)) (readBack0 arg2 arg7 arg8 X2 X7 k n)).trans (cast_back _ _ _)

/-- The products read back for tile 1 are latent times weight. -/
theorem pk1_eq : pk1 arg2 arg7 arg8 X2 X7 k = prod (xr1 arg2 X2 k) (gr arg7 X7) := by
  funext n
  unfold pk1
  exact (congrArg (fun w => shapeCast S8x128 w (show S1x1x8x128.ShapeCasts S8x128 by decide)) (readBack1 arg2 arg7 arg8 X2 X7 k n)).trans (cast_back _ _ _)

/-- The codes stored for tile 0 and group 0, written with the plain functions. -/
theorem codes0_0 : sl.v3061 arg2 arg7 arg8 X2 X7 k
    = shapeCast S1x128x128 (code128 (pk0 arg2 arg7 arg8 X2 X7 k) (rowB 0 (by decide) (sl.r_60 arg2 arg7 X2 X7 k)) 0) (by decide) := rfl

/-- The codes stored for tile 1 and group 0, written with the plain functions. -/
theorem codes1_0 : sl.v3145 arg2 arg7 arg8 X2 X7 k
    = shapeCast S1x128x128 (code128 (pk1 arg2 arg7 arg8 X2 X7 k) (rowB 0 (by decide) (sl.v2969 arg2 arg7 X2 X7 k)) 0) (by decide) := rfl

/-- The codes stored for tile 0 and group 1, written with the plain functions. -/
theorem codes0_1 : sl.v3236 arg2 arg7 arg8 X2 X7 k
    = shapeCast S1x128x128 (code128 (pk0 arg2 arg7 arg8 X2 X7 k) (rowB 1 (by decide) (sl.r_60 arg2 arg7 X2 X7 k)) 1) (by decide) := rfl

/-- The codes stored for tile 1 and group 1, written with the plain functions. -/
theorem codes1_1 : sl.v3320 arg2 arg7 arg8 X2 X7 k
    = shapeCast S1x128x128 (code128 (pk1 arg2 arg7 arg8 X2 X7 k) (rowB 1 (by decide) (sl.v2969 arg2 arg7 X2 X7 k)) 1) (by decide) := rfl

/-- The codes stored for tile 0 and group 2, written with the plain functions. -/
theorem codes0_2 : sl.v3411 arg2 arg7 arg8 X2 X7 k
    = shapeCast S1x128x128 (code128 (pk0 arg2 arg7 arg8 X2 X7 k) (rowB 2 (by decide) (sl.r_60 arg2 arg7 X2 X7 k)) 2) (by decide) := rfl

/-- The codes stored for tile 1 and group 2, written with the plain functions. -/
theorem codes1_2 : sl.v3495 arg2 arg7 arg8 X2 X7 k
    = shapeCast S1x128x128 (code128 (pk1 arg2 arg7 arg8 X2 X7 k) (rowB 2 (by decide) (sl.v2969 arg2 arg7 X2 X7 k)) 2) (by decide) := rfl

/-- The codes stored for tile 0 and group 3, written with the plain functions. -/
theorem codes0_3 : sl.v3586 arg2 arg7 arg8 X2 X7 k
    = shapeCast S1x128x128 (code128 (pk0 arg2 arg7 arg8 X2 X7 k) (rowB 3 (by decide) (sl.r_60 arg2 arg7 X2 X7 k)) 3) (by decide) := rfl

/-- The codes stored for tile 1 and group 3, written with the plain functions. -/
theorem codes1_3 : sl.v3670 arg2 arg7 arg8 X2 X7 k
    = shapeCast S1x128x128 (code128 (pk1 arg2 arg7 arg8 X2 X7 k) (rowB 3 (by decide) (sl.v2969 arg2 arg7 X2 X7 k)) 3) (by decide) := rfl

/-- The codes stored for tile 0 and group 4, written with the plain functions. -/
theorem codes0_4 : sl.v3761 arg2 arg7 arg8 X2 X7 k
    = shapeCast S1x128x128 (code128 (pk0 arg2 arg7 arg8 X2 X7 k) (rowB 4 (by decide) (sl.r_60 arg2 arg7 X2 X7 k)) 4) (by decide) := rfl

/-- The codes stored for tile 1 and group 4, written with the plain functions. -/
theorem codes1_4 : sl.v3845 arg2 arg7 arg8 X2 X7 k
    = shapeCast S1x128x128 (code128 (pk1 arg2 arg7 arg8 X2 X7 k) (rowB 4 (by decide) (sl.v2969 arg2 arg7 X2 X7 k)) 4) (by decide) := rfl

/-- The codes stored for tile 0 and group 5, written with the plain functions. -/
theorem codes0_5 : sl.v3936 arg2 arg7 arg8 X2 X7 k
    = shapeCast S1x128x128 (code128 (pk0 arg2 arg7 arg8 X2 X7 k) (rowB 5 (by decide) (sl.r_60 arg2 arg7 X2 X7 k)) 5) (by decide) := rfl

/-- The codes stored for tile 1 and group 5, written with the plain functions. -/
theorem codes1_5 : sl.v4020 arg2 arg7 arg8 X2 X7 k
    = shapeCast S1x128x128 (code128 (pk1 arg2 arg7 arg8 X2 X7 k) (rowB 5 (by decide) (sl.v2969 arg2 arg7 X2 X7 k)) 5) (by decide) := rfl

/-- The scales stored for group 0, written with the plain functions. -/
theorem scales_0 : sl.v2977 arg2 arg7 X2 X7 k = shapeCast S1x1x256 (extractStridedSlice S1x256 ![0, 0]
    (concatenate S8x256 1 [⟨S8x128, sl.v2748 arg2 arg7 X2 X7 k⟩, ⟨S8x128, sl.v2960 arg2 arg7 X2 X7 k⟩]
      (show Shape.Concatenates [S8x128, S8x128] S8x256 1 by decide)) (by decide)) (by decide) := rfl

/-- The scales stored for group 1, written with the plain functions. -/
theorem scales_1 : sl.v3152 arg2 arg7 X2 X7 k = shapeCast S1x1x256 (extractStridedSlice S1x256 ![1, 0]
    (concatenate S8x256 1 [⟨S8x128, sl.v2748 arg2 arg7 X2 X7 k⟩, ⟨S8x128, sl.v2960 arg2 arg7 X2 X7 k⟩]
      (show Shape.Concatenates [S8x128, S8x128] S8x256 1 by decide)) (by decide)) (by decide) := rfl

/-- The scales stored for group 2, written with the plain functions. -/
theorem scales_2 : sl.v3327 arg2 arg7 X2 X7 k = shapeCast S1x1x256 (extractStridedSlice S1x256 ![2, 0]
    (concatenate S8x256 1 [⟨S8x128, sl.v2748 arg2 arg7 X2 X7 k⟩, ⟨S8x128, sl.v2960 arg2 arg7 X2 X7 k⟩]
      (show Shape.Concatenates [S8x128, S8x128] S8x256 1 by decide)) (by decide)) (by decide) := rfl

/-- The scales stored for group 3, written with the plain functions. -/
theorem scales_3 : sl.v3502 arg2 arg7 X2 X7 k = shapeCast S1x1x256 (extractStridedSlice S1x256 ![3, 0]
    (concatenate S8x256 1 [⟨S8x128, sl.v2748 arg2 arg7 X2 X7 k⟩, ⟨S8x128, sl.v2960 arg2 arg7 X2 X7 k⟩]
      (show Shape.Concatenates [S8x128, S8x128] S8x256 1 by decide)) (by decide)) (by decide) := rfl

/-- The scales stored for group 4, written with the plain functions. -/
theorem scales_4 : sl.v3677 arg2 arg7 X2 X7 k = shapeCast S1x1x256 (extractStridedSlice S1x256 ![4, 0]
    (concatenate S8x256 1 [⟨S8x128, sl.v2748 arg2 arg7 X2 X7 k⟩, ⟨S8x128, sl.v2960 arg2 arg7 X2 X7 k⟩]
      (show Shape.Concatenates [S8x128, S8x128] S8x256 1 by decide)) (by decide)) (by decide) := rfl

/-- The scales stored for group 5, written with the plain functions. -/
theorem scales_5 : sl.v3852 arg2 arg7 X2 X7 k = shapeCast S1x1x256 (extractStridedSlice S1x256 ![5, 0]
    (concatenate S8x256 1 [⟨S8x128, sl.v2748 arg2 arg7 X2 X7 k⟩, ⟨S8x128, sl.v2960 arg2 arg7 X2 X7 k⟩]
      (show Shape.Concatenates [S8x128, S8x128] S8x256 1 by decide)) (by decide)) (by decide) := rfl

end Cert.KernelIdeal.Latent
-- ==== Proof.Model.lean ====
/-
The block of codes and the row of scales the kernel computes from one batch entry's block of latents `x0` and the expanded
weights `gb`, index by index.
-/
module

public import proofs.«01_k».proof.Proof.Stack

@[expose] public section

set_option maxRecDepth 16384
set_option maxHeartbeats 1000000

noncomputable section

namespace Cert.KernelIdeal.Latent

open Idealize.ShloMosaic Cert.KernelIdeal.Gen

variable {F : FTy → Type} [FloatOps F] [Named F]

/-- The latents of tile `t`, row block `n`, at 32 bits. -/
def xt (x0 : Vec F S1x104x16x8x128 .bf16) (t n : ℕ) : FVec F S8x128 .f32 := fun j =>
  FloatOps.extf .f32 (by decide) (x0 (ix5 (0 : Fin 1) (⟨n % 96, by omega⟩ : Fin 104) (⟨t % 16, by omega⟩ : Fin 16) (j 0) (j 1)))

/-- Row block `n` of the expanded weights. -/
def gt (gb : Vec F S768x128 .f32) (n : ℕ) : FVec F S8x128 .f32 := fun j =>
  gb (ix2 (⟨8 * (n % 96) + (j 0).val, by have : (j 0).val < 8 := (j 0).isLt; omega⟩ : Fin 768) (j 1))

/-- Row `q` over the 8 rows. -/
def rowV (q : ℕ) (v : FVec F S8x128 .f32) : FVec F S8x128 .f32 := fun j => v (ix2 (⟨q % 8, by omega⟩ : Fin 8) (j 1))

/-- A row sliced out and one read by its number are the same. -/
theorem rowB_eq (q : ℕ) (hq : q < 8) (h : S8x128.Slices ![q, 0] S1x128) (v : FVec F S8x128 .f32) : rowB q h v = rowV q v := by
  funext j
  have e : (⟨q, hq⟩ : Fin 8) = ⟨q % 8, by omega⟩ := Fin.ext (by show q = q % 8; omega)
  unfold rowB rowV
  rw [← e]
  idx_vars j
  pointwise

variable (arg2 : Memref sig .tc .vmem S1x104x16x8x128 .bf16) (arg7 : Memref sig .tc .vmem S768x128 .f32)
  (X2 : BufTy.Contents (Elt F) arg2.view.ty) (X7 : BufTy.Contents (Elt F) arg7.view.ty) (k : Fin k0_t2_loop.trips)

/-- The first of two stacked tiles. -/
theorem slice_lo (W : S1x1x2x8x128.Idx → F .bf16) (r : Fin 8) (l : Fin 128) (h1 : S1x1x2x8x128.ShapeCasts S2x8x128) (h2 : S2x8x128.ShapeCasts S16x128) (h3 h4) :
    extractStridedSlice S8x128 ![0, 0] (extf .f32 (shapeCast S16x128 (shapeCast S2x8x128 W h1) h2 : FVec F S16x128 .bf16) h3 : FVec F S16x128 .f32) h4 (ix2 r l)
      = FloatOps.extf .f32 (by decide) (W (ix5 0 0 0 r l)) := by
  pointwise
  have hr : r.val < 8 := r.isLt
  have e1 : r.val / 8 = 0 := by omega
  have e2 : r.val % 8 = r.val := by omega
  simp only [e1, e2]
  rfl

/-- The second of two stacked tiles. -/
theorem slice_hi (W : S1x1x2x8x128.Idx → F .bf16) (r : Fin 8) (l : Fin 128) (h1 : S1x1x2x8x128.ShapeCasts S2x8x128) (h2 : S2x8x128.ShapeCasts S16x128) (h3 h4) :
    extractStridedSlice S8x128 ![8, 0] (extf .f32 (shapeCast S16x128 (shapeCast S2x8x128 W h1) h2 : FVec F S16x128 .bf16) h3 : FVec F S16x128 .f32) h4 (ix2 r l)
      = FloatOps.extf .f32 (by decide) (W (ix5 0 0 1 r l)) := by
  pointwise
  have hr : r.val < 8 := r.isLt
  have e1 : (8 + r.val) / 8 = 1 := by omega
  simp only [e1]
  rfl

/-- A trip reads two tiles of positions, from twice its number on. -/
theorem off7_2 : (k0_off7 k) 2 = 2 * k.val := by rw [k0_off7_eq]; rfl

/-- A place of the pair of tiles in the window. -/
theorem pair_idx (n : ℕ) (q : Fin 2) (r : Fin 8) (l : Fin 128) :
    (Rect.unit (s := S1x104x16x8x128) (offPair n k) S1x1x2x8x128.size (offPair_inb n k)).toLoadRect.idx (ix5 0 0 q r l)
      = ix5 (0 : Fin 1) (⟨n % 96, by omega⟩ : Fin 104) (⟨(2 * k.val + q.val) % 16, by omega⟩ : Fin 16) r l := by
  have hk : k.val < 8 := k.isLt
  have hq : q.val < 2 := q.isLt
  have h := off7_2 k
  funext a
  apply Fin.ext
  fin_cases a
  · show 0 + 1 * 0 = 0; rfl
  · show n % 96 + 1 * 0 = n % 96; omega
  · show (k0_off7 k) 2 + 1 * q.val = (2 * k.val + q.val) % 16; omega
  · show 0 + 1 * r.val = r.val; omega
  · show 0 + 1 * l.val = l.val; omega

/-- The first tile a trip reads is the block's tile of twice its number. -/
theorem xr0_eq : xr0 arg2 X2 k = xt (arg2.view.read (Elt F) X2) (2 * k.val) := by
  funext n j
  idx_vars j
  refine (slice_lo _ _ _ _ _ _ _).trans ?_
  exact congrArg (fun p => FloatOps.extf .f32 (by decide) (arg2.view.read (Elt F) X2 p)) (pair_idx k n 0 _ _)

/-- The second tile a trip reads is the block's next tile. -/
theorem xr1_eq : xr1 arg2 X2 k = xt (arg2.view.read (Elt F) X2) (2 * k.val + 1) := by
  funext n j
  idx_vars j
  refine (slice_hi _ _ _ _ _ _ _).trans ?_
  exact congrArg (fun p => FloatOps.extf .f32 (by decide) (arg2.view.read (Elt F) X2 p)) (pair_idx k n 1 _ _)

/-- The weights a trip reads are the weights' scratch. -/
theorem gr_eq : gr arg7 X7 = gt (arg7.view.read (Elt F) X7) := by
  funext n j
  refine congrArg (arg7.view.read (Elt F) X7) ?_
  funext a
  apply Fin.ext
  fin_cases a
  · show 8 * (n % 96) + 1 * (j 0).val = 8 * (n % 96) + (j 0).val; omega
  · show 0 + 1 * (j 1).val = (j 1).val; omega

/-- The codes of one block. -/
def codesBlk (x0 : Vec F S1x104x16x8x128 .bf16) (gb : Vec F S768x128 .f32) : Vec F S1x2048x768 .fp8e4m3 := fun y =>
  code128 (prod (xt x0 ((y 1).val / 128)) (gt gb)) (rowV ((y 2).val / 128) (rr (xt x0 ((y 1).val / 128)) (gt gb))) ((y 2).val / 128)
    (ix2 (⟨(y 1).val % 128, by omega⟩ : Fin 128) (⟨(y 2).val % 128, by omega⟩ : Fin 128))

/-- The scale of group `g` at position `s`. -/
def scaleAt (x0 : Vec F S1x104x16x8x128 .bf16) (gb : Vec F S768x128 .f32) (g s : ℕ) : F .f32 :=
  scale (amax (xt x0 (s / 128)) (gt gb)) (ix2 (⟨g % 8, by omega⟩ : Fin 8) (⟨s % 128, by omega⟩ : Fin 128))

/-- The scales with the row of batch entry `b` replaced. -/
def scalesUpd (b : ℕ) (x0 : Vec F S1x104x16x8x128 .bf16) (gb : Vec F S768x128 .f32) (y4 : Vec F S6x20x2048 .f32) : Vec F S6x20x2048 .f32 :=
  fun y => if (y 1).val = b then scaleAt x0 gb (y 0).val (y 2).val else y4 y

/-- A stored tile of codes is the block's, where it lies. -/
theorem codes_piece (x0 : Vec F S1x104x16x8x128 .bf16) (gb : Vec F S768x128 .f32) (t g : ℕ) (off : Fin 3 → ℕ)
    (inb : ∀ a, off a + S1x128x128.size a ≤ S1x2048x768.size a) (hoff : off = ![0, 128 * t, 128 * g])
    (h : S128x128.ShapeCasts S1x128x128) (x : (Rect.unit (s := S1x2048x768) off S1x128x128.size inb).shape.Idx) :
    shapeCast S1x128x128 (code128 (prod (xt x0 t) (gt gb)) (rowV g (rr (xt x0 t) (gt gb))) g) h x
      = codesBlk x0 gb ((Rect.unit (s := S1x2048x768) off S1x128x128.size inb).emb x) := by
  subst hoff
  have h1 : (((Rect.unit (s := S1x2048x768) ![0, 128 * t, 128 * g] S1x128x128.size inb).emb x) 1).val = 128 * t + (x 1).val := by
    show 128 * t + 1 * (x 1).val = _; omega
  have h2 : (((Rect.unit (s := S1x2048x768) ![0, 128 * t, 128 * g] S1x128x128.size inb).emb x) 2).val = 128 * g + (x 2).val := by
    show 128 * g + 1 * (x 2).val = _; omega
  have hx1 : (x 1).val < 128 := (x 1).isLt
  have hx2 : (x 2).val < 128 := (x 2).isLt
  have cast3 : ∀ (v : FVec F S128x128 .fp8e4m3), shapeCast S1x128x128 v h x = v (ix2 (⟨(x 1).val, hx1⟩ : Fin 128) (⟨(x 2).val, hx2⟩ : Fin 128)) := by
    intro v
    have : ∀ z : S1x128x128.Idx, shapeCast S1x128x128 v h z = v (ix2 (z 1) (z 2)) := by
      intro z
      idx_vars z
      pointwise
    exact this x
  rw [cast3]
  unfold codesBlk
  have e1 : (128 * t + (x 1).val) / 128 = t := by omega
  have e2 : (128 * g + (x 2).val) / 128 = g := by omega
  have e3 : (128 * t + (x 1).val) % 128 = (x 1).val := by omega
  have e4 : (128 * g + (x 2).val) % 128 = (x 2).val := by omega
  simp only [h1, h2, e1, e2, e3, e4]

/-- A stored row of scales of the pair of tiles `2 k`, `2 k + 1` is the scales', where it lies. -/
theorem scales_piece (x0 : Vec F S1x104x16x8x128 .bf16) (gb : Vec F S768x128 .f32) (y4 : Vec F S6x20x2048 .f32) (b kk g : ℕ) (hg : g < 8) (off : Fin 3 → ℕ)
    (inb : ∀ a, off a + S1x1x256.size a ≤ S6x20x2048.size a) (hoff : off = ![g, b, 256 * kk])
    (hs : S8x256.Slices ![g, 0] S1x256) (hc) (h : S1x256.ShapeCasts S1x1x256) (x : (Rect.unit (s := S6x20x2048) off S1x1x256.size inb).shape.Idx) :
    shapeCast S1x1x256 (extractStridedSlice S1x256 ![g, 0]
        (concatenate S8x256 1 [⟨S8x128, scale (amax (xt x0 (2 * kk)) (gt gb))⟩, ⟨S8x128, scale (amax (xt x0 (2 * kk + 1)) (gt gb))⟩] hc) hs) h x
      = scalesUpd b x0 gb y4 ((Rect.unit (s := S6x20x2048) off S1x1x256.size inb).emb x) := by
  subst hoff
  have hx0 : (x 0).val < 1 := (x 0).isLt
  have hx1 : (x 1).val < 1 := (x 1).isLt
  have hx2 : (x 2).val < 256 := (x 2).isLt
  have h0 : (((Rect.unit (s := S6x20x2048) ![g, b, 256 * kk] S1x1x256.size inb).emb x) 0).val = g := by
    show g + 1 * (x 0).val = _; omega
  have h1 : (((Rect.unit (s := S6x20x2048) ![g, b, 256 * kk] S1x1x256.size inb).emb x) 1).val = b := by
    show b + 1 * (x 1).val = _; omega
  have h2 : (((Rect.unit (s := S6x20x2048) ![g, b, 256 * kk] S1x1x256.size inb).emb x) 2).val = 256 * kk + (x 2).val := by
    show 256 * kk + 1 * (x 2).val = _; omega
  have cat : ∀ (u v : FVec F S8x128 .f32) (hc : Shape.Concatenates [S8x128, S8x128] S8x256 1) (z : S1x1x256.Idx),
      shapeCast S1x1x256 (extractStridedSlice S1x256 ![g, 0] (concatenate S8x256 1 [⟨S8x128, u⟩, ⟨S8x128, v⟩] hc) hs) h z
        = if (z 2).val < 128 then u (ix2 (⟨g, hg⟩ : Fin 8) (⟨(z 2).val % 128, by omega⟩ : Fin 128)) else v (ix2 (⟨g, hg⟩ : Fin 8) (⟨(z 2).val % 128, by omega⟩ : Fin 128)) := by
    intro u v hc z
    idx_vars z
    pointwise
    rename_i z0 z1 z2
    have hz : z2.val < 256 := z2.isLt
    by_cases hlt : z2.val < 128
    · have e : z2.val % 128 = z2.val := by omega
      simp only [dif_pos hlt, if_pos hlt, e]
    · have e : z2.val % 128 = z2.val - 128 := by omega
      simp only [dif_neg hlt, if_neg hlt, e]
  rw [cat _ _ _ x]
  unfold scalesUpd scaleAt
  have e0 : g % 8 = g := by omega
  simp only [h0, h1, h2, if_true, e0]
  by_cases hlt : (x 2).val < 128
  · have e1 : (256 * kk + (x 2).val) / 128 = 2 * kk := by omega
    have e2 : (256 * kk + (x 2).val) % 128 = (x 2).val % 128 := by omega
    simp only [if_pos hlt, e1, e2]
  · have e1 : (256 * kk + (x 2).val) / 128 = 2 * kk + 1 := by omega
    have e2 : (256 * kk + (x 2).val) % 128 = (x 2).val % 128 := by omega
    simp only [if_neg hlt, e1, e2]

end Cert.KernelIdeal.Latent
-- ==== Proof.Pieces.lean ====
/-
The pieces one trip writes into the codes and into the scales.
-/
module

public import proofs.«01_k».proof.Proof.Model

@[expose] public section

set_option maxRecDepth 16384
set_option maxHeartbeats 4000000

noncomputable section

namespace Cert.KernelIdeal.Latent

open Idealize.ShloMosaic Cert.KernelIdeal.Gen

variable {F : FTy → Type} [FloatOps F] [Named F]

variable (𝒱 : Variants) (c : Dev nD) (bd : Option 𝒱.V) (i : grid0.Coords) (arg1 : Memref sig .tc .smem S20 .i32) (harg1 : arg1.IsWhole) (arg2 : Memref sig .tc .vmem S1x104x16x8x128 .bf16) (harg2 : arg2.IsWhole) (arg3 : Memref sig .tc .vmem S768 .f32) (harg3 : arg3.IsWhole) (arg4 : Memref sig .tc .vmem S1x8x16x8x128 .bf16) (harg4 : arg4.IsWhole) (arg5 : Memref sig .tc .vmem S1x2048x768 .fp8e4m3) (harg5 : arg5.IsWhole) (arg6 : Memref sig .tc .vmem S6x20x2048 .f32) (harg6 : arg6.IsWhole) (arg7 : Memref sig .tc .vmem S768x128 .f32) (harg7 : arg7.IsWhole) (arg8 : Memref sig .tc .vmem S96x2x8x128 .f32) (harg8 : arg8.IsWhole) (arg9 : Memref sig .tc .vmem S3x32x128 .f32) (harg9 : arg9.IsWhole) (arg10 : Memref sig .tc .vmem S4x32x128 .f32) (harg10 : arg10.IsWhole) (arg11 : Memref sig .tc .vmem S2x32x8x128 .f32) (harg11 : arg11.IsWhole) (arg12 : Memref sig .tc .vmem S4x32x128 .f32) (harg12 : arg12.IsWhole) (arg0 : BitVec 32) (v1 : Elt F .i32) (v6 : IVec S8x128 32) (X_arg2 : BufTy.Contents (Elt F) arg2.view.ty) (X_arg7 : BufTy.Contents (Elt F) arg7.view.ty) (X_arg9 : BufTy.Contents (Elt F) arg9.view.ty) (X_arg11 : BufTy.Contents (Elt F) arg11.view.ty) (X_arg12 : BufTy.Contents (Elt F) arg12.view.ty) (k : Fin k0_t2_loop.trips)
  (f_arg4 : BufTy.Contents (Elt F) arg4.view.ty) (f_arg5 : BufTy.Contents (Elt F) arg5.view.ty) (f_arg6 : BufTy.Contents (Elt F) arg6.view.ty) (f_arg8 : BufTy.Contents (Elt F) arg8.view.ty)

open trip_k0_t2

/-- The pieces written into the codes, last first. -/
theorem tripC : (trip_k0_t2 (F := F) 𝒱 c bd i arg1 harg1 arg2 harg2 arg3 harg3 arg4 harg4 arg5 harg5 arg6 harg6 arg7 harg7 arg8 harg8 arg9 harg9 arg10 harg10 arg11 harg11 arg12 harg12 arg0 v1 v6 X_arg2 X_arg7 X_arg9 X_arg11 X_arg12 k).2.1 f_arg4 f_arg5 f_arg6 f_arg8 = [
    ⟨Rect.unit (s := S1x2048x768) (k0_off114 k 1#32) S1x128x128.size (k0_off114_inb k 1), sl.v4020 arg2 arg7 arg8 X_arg2 X_arg7 k⟩,
    ⟨Rect.unit (s := S1x2048x768) (k0_off114 k 0#32) S1x128x128.size (k0_off114_inb k 0), sl.v3936 arg2 arg7 arg8 X_arg2 X_arg7 k⟩,
    ⟨Rect.unit (s := S1x2048x768) (k0_off112 k 1#32) S1x128x128.size (k0_off112_inb k 1), sl.v3845 arg2 arg7 arg8 X_arg2 X_arg7 k⟩,
    ⟨Rect.unit (s := S1x2048x768) (k0_off112 k 0#32) S1x128x128.size (k0_off112_inb k 0), sl.v3761 arg2 arg7 arg8 X_arg2 X_arg7 k⟩,
    ⟨Rect.unit (s := S1x2048x768) (k0_off110 k 1#32) S1x128x128.size (k0_off110_inb k 1), sl.v3670 arg2 arg7 arg8 X_arg2 X_arg7 k⟩,
    ⟨Rect.unit (s := S1x2048x768) (k0_off110 k 0#32) S1x128x128.size (k0_off110_inb k 0), sl.v3586 arg2 arg7 arg8 X_arg2 X_arg7 k⟩,
    ⟨Rect.unit (s := S1x2048x768) (k0_off108 k 1#32) S1x128x128.size (k0_off108_inb k 1), sl.v3495 arg2 arg7 arg8 X_arg2 X_arg7 k⟩,
    ⟨Rect.unit (s := S1x2048x768) (k0_off108 k 0#32) S1x128x128.size (k0_off108_inb k 0), sl.v3411 arg2 arg7 arg8 X_arg2 X_arg7 k⟩,
    ⟨Rect.unit (s := S1x2048x768) (k0_off106 k 1#32) S1x128x128.size (k0_off106_inb k 1), sl.v3320 arg2 arg7 arg8 X_arg2 X_arg7 k⟩,
    ⟨Rect.unit (s := S1x2048x768) (k0_off106 k 0#32) S1x128x128.size (k0_off106_inb k 0), sl.v3236 arg2 arg7 arg8 X_arg2 X_arg7 k⟩,
    ⟨Rect.unit (s := S1x2048x768) (k0_off104 k 1#32) S1x128x128.size (k0_off104_inb k 1), sl.v3145 arg2 arg7 arg8 X_arg2 X_arg7 k⟩,
    ⟨Rect.unit (s := S1x2048x768) (k0_off104 k 0#32) S1x128x128.size (k0_off104_inb k 0), sl.v3061 arg2 arg7 arg8 X_arg2 X_arg7 k⟩] := by
  unfold trip_k0_t2
  rfl

/-- The pieces written into the scales, last first. -/
theorem tripS : (trip_k0_t2 (F := F) 𝒱 c bd i arg1 harg1 arg2 harg2 arg3 harg3 arg4 harg4 arg5 harg5 arg6 harg6 arg7 harg7 arg8 harg8 arg9 harg9 arg10 harg10 arg11 harg11 arg12 harg12 arg0 v1 v6 X_arg2 X_arg7 X_arg9 X_arg11 X_arg12 k).2.2.1 f_arg4 f_arg5 f_arg6 f_arg8 = [
    ⟨Rect.unit (s := S6x20x2048) (k0_off113 i k) S1x1x256.size (k0_off113_inb i k), sl.v3852 arg2 arg7 X_arg2 X_arg7 k⟩,
    ⟨Rect.unit (s := S6x20x2048) (k0_off111 i k) S1x1x256.size (k0_off111_inb i k), sl.v3677 arg2 arg7 X_arg2 X_arg7 k⟩,
    ⟨Rect.unit (s := S6x20x2048) (k0_off109 i k) S1x1x256.size (k0_off109_inb i k), sl.v3502 arg2 arg7 X_arg2 X_arg7 k⟩,
    ⟨Rect.unit (s := S6x20x2048) (k0_off107 i k) S1x1x256.size (k0_off107_inb i k), sl.v3327 arg2 arg7 X_arg2 X_arg7 k⟩,
    ⟨Rect.unit (s := S6x20x2048) (k0_off105 i k) S1x1x256.size (k0_off105_inb i k), sl.v3152 arg2 arg7 X_arg2 X_arg7 k⟩,
    ⟨Rect.unit (s := S6x20x2048) (k0_off103 i k) S1x1x256.size (k0_off103_inb i k), sl.v2977 arg2 arg7 X_arg2 X_arg7 k⟩] := by
  unfold trip_k0_t2
  rfl

end Cert.KernelIdeal.Latent
-- ==== Proof.Trip.lean ====
/-
What the loop over the pairs of tiles leaves in the block of codes and in the scales, whatever they held before.
-/
module

public import proofs.«01_k».proof.Proof.Pieces

@[expose] public section

set_option maxRecDepth 16384
set_option maxHeartbeats 1000000

noncomputable section

namespace Cert.KernelIdeal.Latent

open Idealize.ShloMosaic Cert.KernelIdeal.Gen

variable {F : FTy → Type} [FloatOps F] [Named F]

variable (𝒱 : Variants) (c : Dev nD) (bd : Option 𝒱.V) (i : grid0.Coords) (arg1 : Memref sig .tc .smem S20 .i32) (harg1 : arg1.IsWhole) (arg2 : Memref sig .tc .vmem S1x104x16x8x128 .bf16) (harg2 : arg2.IsWhole) (arg3 : Memref sig .tc .vmem S768 .f32) (harg3 : arg3.IsWhole) (arg4 : Memref sig .tc .vmem S1x8x16x8x128 .bf16) (harg4 : arg4.IsWhole) (arg5 : Memref sig .tc .vmem S1x2048x768 .fp8e4m3) (harg5 : arg5.IsWhole) (arg6 : Memref sig .tc .vmem S6x20x2048 .f32) (harg6 : arg6.IsWhole) (arg7 : Memref sig .tc .vmem S768x128 .f32) (harg7 : arg7.IsWhole) (arg8 : Memref sig .tc .vmem S96x2x8x128 .f32) (harg8 : arg8.IsWhole) (arg9 : Memref sig .tc .vmem S3x32x128 .f32) (harg9 : arg9.IsWhole) (arg10 : Memref sig .tc .vmem S4x32x128 .f32) (harg10 : arg10.IsWhole) (arg11 : Memref sig .tc .vmem S2x32x8x128 .f32) (harg11 : arg11.IsWhole) (arg12 : Memref sig .tc .vmem S4x32x128 .f32) (harg12 : arg12.IsWhole) (arg0 : BitVec 32) (v1 : Elt F .i32) (v6 : IVec S8x128 32) (X_arg2 : BufTy.Contents (Elt F) arg2.view.ty) (X_arg7 : BufTy.Contents (Elt F) arg7.view.ty) (X_arg9 : BufTy.Contents (Elt F) arg9.view.ty) (X_arg11 : BufTy.Contents (Elt F) arg11.view.ty) (X_arg12 : BufTy.Contents (Elt F) arg12.view.ty) (k : Fin k0_t2_loop.trips)
  (f_arg4 : BufTy.Contents (Elt F) arg4.view.ty) (f_arg5 : BufTy.Contents (Elt F) arg5.view.ty) (f_arg6 : BufTy.Contents (Elt F) arg6.view.ty) (f_arg8 : BufTy.Contents (Elt F) arg8.view.ty)
  (G_arg4 : BufTy.Contents (Elt F) arg4.view.ty) (G_arg5 : BufTy.Contents (Elt F) arg5.view.ty) (G_arg6 : BufTy.Contents (Elt F) arg6.view.ty) (G_arg8 : BufTy.Contents (Elt F) arg8.view.ty)

open trip_k0_t2

/-- The codes that a trip stores for tile 0 and group 0 are the named codes. -/
theorem codesT0_0 (x : (Rect.unit (s := S1x2048x768) (k0_off104 k 0#32) S1x128x128.size (k0_off104_inb k 0)).shape.Idx) :
    sl.v3061 arg2 arg7 arg8 X_arg2 X_arg7 k x = codesBlk (arg2.view.read (Elt F) X_arg2) (arg7.view.read (Elt F) X_arg7) ((Rect.unit (s := S1x2048x768) (k0_off104 k 0#32) S1x128x128.size (k0_off104_inb k 0)).emb x) := by
  have e : (sl.v3061 arg2 arg7 arg8 X_arg2 X_arg7 k : S1x128x128.Idx → F .fp8e4m3) = shapeCast S1x128x128 (code128 (prod (xt (arg2.view.read (Elt F) X_arg2) (2 * k.val)) (gt (arg7.view.read (Elt F) X_arg7)))
      (rowV 0 (rr (xt (arg2.view.read (Elt F) X_arg2) (2 * k.val)) (gt (arg7.view.read (Elt F) X_arg7)))) 0) (show S128x128.ShapeCasts S1x128x128 by decide) := by
    rw [codes0_0, pk0_eq, rr0_eq, rowB_eq 0 (by decide), xr0_eq, gr_eq]
  rw [e]
  exact codes_piece (arg2.view.read (Elt F) X_arg2) (arg7.view.read (Elt F) X_arg7) _ 0 _ (k0_off104_inb k 0) ((k0_off104_eq k 0).trans (by congr 1; funext a; fin_cases a <;> simp <;> omega)) _ x

/-- The codes that a trip stores for tile 0 and group 1 are the named codes. -/
theorem codesT0_1 (x : (Rect.unit (s := S1x2048x768) (k0_off106 k 0#32) S1x128x128.size (k0_off106_inb k 0)).shape.Idx) :
    sl.v3236 arg2 arg7 arg8 X_arg2 X_arg7 k x = codesBlk (arg2.view.read (Elt F) X_arg2) (arg7.view.read (Elt F) X_arg7) ((Rect.unit (s := S1x2048x768) (k0_off106 k 0#32) S1x128x128.size (k0_off106_inb k 0)).emb x) := by
  have e : (sl.v3236 arg2 arg7 arg8 X_arg2 X_arg7 k : S1x128x128.Idx → F .fp8e4m3) = shapeCast S1x128x128 (code128 (prod (xt (arg2.view.read (Elt F) X_arg2) (2 * k.val)) (gt (arg7.view.read (Elt F) X_arg7)))
      (rowV 1 (rr (xt (arg2.view.read (Elt F) X_arg2) (2 * k.val)) (gt (arg7.view.read (Elt F) X_arg7)))) 1) (show S128x128.ShapeCasts S1x128x128 by decide) := by
    rw [codes0_1, pk0_eq, rr0_eq, rowB_eq 1 (by decide), xr0_eq, gr_eq]
  rw [e]
  exact codes_piece (arg2.view.read (Elt F) X_arg2) (arg7.view.read (Elt F) X_arg7) _ 1 _ (k0_off106_inb k 0) ((k0_off106_eq k 0).trans (by congr 1; funext a; fin_cases a <;> simp <;> omega)) _ x

/-- The codes that a trip stores for tile 0 and group 2 are the named codes. -/
theorem codesT0_2 (x : (Rect.unit (s := S1x2048x768) (k0_off108 k 0#32) S1x128x128.size (k0_off108_inb k 0)).shape.Idx) :
    sl.v3411 arg2 arg7 arg8 X_arg2 X_arg7 k x = codesBlk (arg2.view.read (Elt F) X_arg2) (arg7.view.read (Elt F) X_arg7) ((Rect.unit (s := S1x2048x768) (k0_off108 k 0#32) S1x128x128.size (k0_off108_inb k 0)).emb x) := by
  have e : (sl.v3411 arg2 arg7 arg8 X_arg2 X_arg7 k : S1x128x128.Idx → F .fp8e4m3) = shapeCast S1x128x128 (code128 (prod (xt (arg2.view.read (Elt F) X_arg2) (2 * k.val)) (gt (arg7.view.read (Elt F) X_arg7)))
      (rowV 2 (rr (xt (arg2.view.read (Elt F) X_arg2) (2 * k.val)) (gt (arg7.view.read (Elt F) X_arg7)))) 2) (show S128x128.ShapeCasts S1x128x128 by decide) := by
    rw [codes0_2, pk0_eq, rr0_eq, rowB_eq 2 (by decide), xr0_eq, gr_eq]
  rw [e]
  exact codes_piece (arg2.view.read (Elt F) X_arg2) (arg7.view.read (Elt F) X_arg7) _ 2 _ (k0_off108_inb k 0) ((k0_off108_eq k 0).trans (by congr 1; funext a; fin_cases a <;> simp <;> omega)) _ x

/-- The codes that a trip stores for tile 0 and group 3 are the named codes. -/
theorem codesT0_3 (x : (Rect.unit (s := S1x2048x768) (k0_off110 k 0#32) S1x128x128.size (k0_off110_inb k 0)).shape.Idx) :
    sl.v3586 arg2 arg7 arg8 X_arg2 X_arg7 k x = codesBlk (arg2.view.read (Elt F) X_arg2) (arg7.view.read (Elt F) X_arg7) ((Rect.unit (s := S1x2048x768) (k0_off110 k 0#32) S1x128x128.size (k0_off110_inb k 0)).emb x) := by
  have e : (sl.v3586 arg2 arg7 arg8 X_arg2 X_arg7 k : S1x128x128.Idx → F .fp8e4m3) = shapeCast S1x128x128 (code128 (prod (xt (arg2.view.read (Elt F) X_arg2) (2 * k.val)) (gt (arg7.view.read (Elt F) X_arg7)))
      (rowV 3 (rr (xt (arg2.view.read (Elt F) X_arg2) (2 * k.val)) (gt (arg7.view.read (Elt F) X_arg7)))) 3) (show S128x128.ShapeCasts S1x128x128 by decide) := by
    rw [codes0_3, pk0_eq, rr0_eq, rowB_eq 3 (by decide), xr0_eq, gr_eq]
  rw [e]
  exact codes_piece (arg2.view.read (Elt F) X_arg2) (arg7.view.read (Elt F) X_arg7) _ 3 _ (k0_off110_inb k 0) ((k0_off110_eq k 0).trans (by congr 1; funext a; fin_cases a <;> simp <;> omega)) _ x

/-- The codes that a trip stores for tile 0 and group 4 are the named codes. -/
theorem codesT0_4 (x : (Rect.unit (s := S1x2048x768) (k0_off112 k 0#32) S1x128x128.size (k0_off112_inb k 0)).shape.Idx) :
    sl.v3761 arg2 arg7 arg8 X_arg2 X_arg7 k x = codesBlk (arg2.view.read (Elt F) X_arg2) (arg7.view.read (Elt F) X_arg7) ((Rect.unit (s := S1x2048x768) (k0_off112 k 0#32) S1x128x128.size (k0_off112_inb k 0)).emb x) := by
  have e : (sl.v3761 arg2 arg7 arg8 X_arg2 X_arg7 k : S1x128x128.Idx → F .fp8e4m3) = shapeCast S1x128x128 (code128 (prod (xt (arg2.view.read (Elt F) X_arg2) (2 * k.val)) (gt (arg7.view.read (Elt F) X_arg7)))
      (rowV 4 (rr (xt (arg2.view.read (Elt F) X_arg2) (2 * k.val)) (gt (arg7.view.read (Elt F) X_arg7)))) 4) (show S128x128.ShapeCasts S1x128x128 by decide) := by
    rw [codes0_4, pk0_eq, rr0_eq, rowB_eq 4 (by decide), xr0_eq, gr_eq]
  rw [e]
  exact codes_piece (arg2.view.read (Elt F) X_arg2) (arg7.view.read (Elt F) X_arg7) _ 4 _ (k0_off112_inb k 0) ((k0_off112_eq k 0).trans (by congr 1; funext a; fin_cases a <;> simp <;> omega)) _ x

/-- The codes that a trip stores for tile 0 and group 5 are the named codes. -/
theorem codesT0_5 (x : (Rect.unit (s := S1x2048x768) (k0_off114 k 0#32) S1x128x128.size (k0_off114_inb k 0)).shape.Idx) :
    sl.v3936 arg2 arg7 arg8 X_arg2 X_arg7 k x = codesBlk (arg2.view.read (Elt F) X_arg2) (arg7.view.read (Elt F) X_arg7) ((Rect.unit (s := S1x2048x768) (k0_off114 k 0#32) S1x128x128.size (k0_off114_inb k 0)).emb x) := by
  have e : (sl.v3936 arg2 arg7 arg8 X_arg2 X_arg7 k : S1x128x128.Idx → F .fp8e4m3) = shapeCast S1x128x128 (code128 (prod (xt (arg2.view.read (Elt F) X_arg2) (2 * k.val)) (gt (arg7.view.read (Elt F) X_arg7)))
      (rowV 5 (rr (xt (arg2.view.read (Elt F) X_arg2) (2 * k.val)) (gt (arg7.view.read (Elt F) X_arg7)))) 5) (show S128x128.ShapeCasts S1x128x128 by decide) := by
    rw [codes0_5, pk0_eq, rr0_eq, rowB_eq 5 (by decide), xr0_eq, gr_eq]
  rw [e]
  exact codes_piece (arg2.view.read (Elt F) X_arg2) (arg7.view.read (Elt F) X_arg7) _ 5 _ (k0_off114_inb k 0) ((k0_off114_eq k 0).trans (by congr 1; funext a; fin_cases a <;> simp <;> omega)) _ x

/-- The codes that a trip stores for tile 1 and group 0 are the named codes. -/
theorem codesT1_0 (x : (Rect.unit (s := S1x2048x768) (k0_off104 k 1#32) S1x128x128.size (k0_off104_inb k 1)).shape.Idx) :
    sl.v3145 arg2 arg7 arg8 X_arg2 X_arg7 k x = codesBlk (arg2.view.read (Elt F) X_arg2) (arg7.view.read (Elt F) X_arg7) ((Rect.unit (s := S1x2048x768) (k0_off104 k 1#32) S1x128x128.size (k0_off104_inb k 1)).emb x) := by
  have e : (sl.v3145 arg2 arg7 arg8 X_arg2 X_arg7 k : S1x128x128.Idx → F .fp8e4m3) = shapeCast S1x128x128 (code128 (prod (xt (arg2.view.read (Elt F) X_arg2) (2 * k.val + 1)) (gt (arg7.view.read (Elt F) X_arg7)))
      (rowV 0 (rr (xt (arg2.view.read (Elt F) X_arg2) (2 * k.val + 1)) (gt (arg7.view.read (Elt F) X_arg7)))) 0) (show S128x128.ShapeCasts S1x128x128 by decide) := by
    rw [codes1_0, pk1_eq, rr1_eq, rowB_eq 0 (by decide), xr1_eq, gr_eq]
  rw [e]
  exact codes_piece (arg2.view.read (Elt F) X_arg2) (arg7.view.read (Elt F) X_arg7) _ 0 _ (k0_off104_inb k 1) ((k0_off104_eq k 1).trans (by congr 1; funext a; fin_cases a <;> simp <;> omega)) _ x

/-- The codes that a trip stores for tile 1 and group 1 are the named codes. -/
theorem codesT1_1 (x : (Rect.unit (s := S1x2048x768) (k0_off106 k 1#32) S1x128x128.size (k0_off106_inb k 1)).shape.Idx) :
    sl.v3320 arg2 arg7 arg8 X_arg2 X_arg7 k x = codesBlk (arg2.view.read (Elt F) X_arg2) (arg7.view.read (Elt F) X_arg7) ((Rect.unit (s := S1x2048x768) (k0_off106 k 1#32) S1x128x128.size (k0_off106_inb k 1)).emb x) := by
  have e : (sl.v3320 arg2 arg7 arg8 X_arg2 X_arg7 k : S1x128x128.Idx → F .fp8e4m3) = shapeCast S1x128x128 (code128 (prod (xt (arg2.view.read (Elt F) X_arg2) (2 * k.val + 1)) (gt (arg7.view.read (Elt F) X_arg7)))
      (rowV 1 (rr (xt (arg2.view.read (Elt F) X_arg2) (2 * k.val + 1)) (gt (arg7.view.read (Elt F) X_arg7)))) 1) (show S128x128.ShapeCasts S1x128x128 by decide) := by
    rw [codes1_1, pk1_eq, rr1_eq, rowB_eq 1 (by decide), xr1_eq, gr_eq]
  rw [e]
  exact codes_piece (arg2.view.read (Elt F) X_arg2) (arg7.view.read (Elt F) X_arg7) _ 1 _ (k0_off106_inb k 1) ((k0_off106_eq k 1).trans (by congr 1; funext a; fin_cases a <;> simp <;> omega)) _ x

/-- The codes that a trip stores for tile 1 and group 2 are the named codes. -/
theorem codesT1_2 (x : (Rect.unit (s := S1x2048x768) (k0_off108 k 1#32) S1x128x128.size (k0_off108_inb k 1)).shape.Idx) :
    sl.v3495 arg2 arg7 arg8 X_arg2 X_arg7 k x = codesBlk (arg2.view.read (Elt F) X_arg2) (arg7.view.read (Elt F) X_arg7) ((Rect.unit (s := S1x2048x768) (k0_off108 k 1#32) S1x128x128.size (k0_off108_inb k 1)).emb x) := by
  have e : (sl.v3495 arg2 arg7 arg8 X_arg2 X_arg7 k : S1x128x128.Idx → F .fp8e4m3) = shapeCast S1x128x128 (code128 (prod (xt (arg2.view.read (Elt F) X_arg2) (2 * k.val + 1)) (gt (arg7.view.read (Elt F) X_arg7)))
      (rowV 2 (rr (xt (arg2.view.read (Elt F) X_arg2) (2 * k.val + 1)) (gt (arg7.view.read (Elt F) X_arg7)))) 2) (show S128x128.ShapeCasts S1x128x128 by decide) := by
    rw [codes1_2, pk1_eq, rr1_eq, rowB_eq 2 (by decide), xr1_eq, gr_eq]
  rw [e]
  exact codes_piece (arg2.view.read (Elt F) X_arg2) (arg7.view.read (Elt F) X_arg7) _ 2 _ (k0_off108_inb k 1) ((k0_off108_eq k 1).trans (by congr 1; funext a; fin_cases a <;> simp <;> omega)) _ x

/-- The codes that a trip stores for tile 1 and group 3 are the named codes. -/
theorem codesT1_3 (x : (Rect.unit (s := S1x2048x768) (k0_off110 k 1#32) S1x128x128.size (k0_off110_inb k 1)).shape.Idx) :
    sl.v3670 arg2 arg7 arg8 X_arg2 X_arg7 k x = codesBlk (arg2.view.read (Elt F) X_arg2) (arg7.view.read (Elt F) X_arg7) ((Rect.unit (s := S1x2048x768) (k0_off110 k 1#32) S1x128x128.size (k0_off110_inb k 1)).emb x) := by
  have e : (sl.v3670 arg2 arg7 arg8 X_arg2 X_arg7 k : S1x128x128.Idx → F .fp8e4m3) = shapeCast S1x128x128 (code128 (prod (xt (arg2.view.read (Elt F) X_arg2) (2 * k.val + 1)) (gt (arg7.view.read (Elt F) X_arg7)))
      (rowV 3 (rr (xt (arg2.view.read (Elt F) X_arg2) (2 * k.val + 1)) (gt (arg7.view.read (Elt F) X_arg7)))) 3) (show S128x128.ShapeCasts S1x128x128 by decide) := by
    rw [codes1_3, pk1_eq, rr1_eq, rowB_eq 3 (by decide), xr1_eq, gr_eq]
  rw [e]
  exact codes_piece (arg2.view.read (Elt F) X_arg2) (arg7.view.read (Elt F) X_arg7) _ 3 _ (k0_off110_inb k 1) ((k0_off110_eq k 1).trans (by congr 1; funext a; fin_cases a <;> simp <;> omega)) _ x

/-- The codes that a trip stores for tile 1 and group 4 are the named codes. -/
theorem codesT1_4 (x : (Rect.unit (s := S1x2048x768) (k0_off112 k 1#32) S1x128x128.size (k0_off112_inb k 1)).shape.Idx) :
    sl.v3845 arg2 arg7 arg8 X_arg2 X_arg7 k x = codesBlk (arg2.view.read (Elt F) X_arg2) (arg7.view.read (Elt F) X_arg7) ((Rect.unit (s := S1x2048x768) (k0_off112 k 1#32) S1x128x128.size (k0_off112_inb k 1)).emb x) := by
  have e : (sl.v3845 arg2 arg7 arg8 X_arg2 X_arg7 k : S1x128x128.Idx → F .fp8e4m3) = shapeCast S1x128x128 (code128 (prod (xt (arg2.view.read (Elt F) X_arg2) (2 * k.val + 1)) (gt (arg7.view.read (Elt F) X_arg7)))
      (rowV 4 (rr (xt (arg2.view.read (Elt F) X_arg2) (2 * k.val + 1)) (gt (arg7.view.read (Elt F) X_arg7)))) 4) (show S128x128.ShapeCasts S1x128x128 by decide) := by
    rw [codes1_4, pk1_eq, rr1_eq, rowB_eq 4 (by decide), xr1_eq, gr_eq]
  rw [e]
  exact codes_piece (arg2.view.read (Elt F) X_arg2) (arg7.view.read (Elt F) X_arg7) _ 4 _ (k0_off112_inb k 1) ((k0_off112_eq k 1).trans (by congr 1; funext a; fin_cases a <;> simp <;> omega)) _ x

/-- The codes that a trip stores for tile 1 and group 5 are the named codes. -/
theorem codesT1_5 (x : (Rect.unit (s := S1x2048x768) (k0_off114 k 1#32) S1x128x128.size (k0_off114_inb k 1)).shape.Idx) :
    sl.v4020 arg2 arg7 arg8 X_arg2 X_arg7 k x = codesBlk (arg2.view.read (Elt F) X_arg2) (arg7.view.read (Elt F) X_arg7) ((Rect.unit (s := S1x2048x768) (k0_off114 k 1#32) S1x128x128.size (k0_off114_inb k 1)).emb x) := by
  have e : (sl.v4020 arg2 arg7 arg8 X_arg2 X_arg7 k : S1x128x128.Idx → F .fp8e4m3) = shapeCast S1x128x128 (code128 (prod (xt (arg2.view.read (Elt F) X_arg2) (2 * k.val + 1)) (gt (arg7.view.read (Elt F) X_arg7)))
      (rowV 5 (rr (xt (arg2.view.read (Elt F) X_arg2) (2 * k.val + 1)) (gt (arg7.view.read (Elt F) X_arg7)))) 5) (show S128x128.ShapeCasts S1x128x128 by decide) := by
    rw [codes1_5, pk1_eq, rr1_eq, rowB_eq 5 (by decide), xr1_eq, gr_eq]
  rw [e]
  exact codes_piece (arg2.view.read (Elt F) X_arg2) (arg7.view.read (Elt F) X_arg7) _ 5 _ (k0_off114_inb k 1) ((k0_off114_eq k 1).trans (by congr 1; funext a; fin_cases a <;> simp <;> omega)) _ x

/-- The scales that a trip stores for group 0 are the named scales. -/
theorem scalesT_0 (y4 : Vec F S6x20x2048 .f32) (x : (Rect.unit (s := S6x20x2048) (k0_off103 i k) S1x1x256.size (k0_off103_inb i k)).shape.Idx) :
    sl.v2977 arg2 arg7 X_arg2 X_arg7 k x = scalesUpd (i 0).val (arg2.view.read (Elt F) X_arg2) (arg7.view.read (Elt F) X_arg7) y4 ((Rect.unit (s := S6x20x2048) (k0_off103 i k) S1x1x256.size (k0_off103_inb i k)).emb x) := by
  rw [scales_0, scale0_eq, scale1_eq, amax0_eq, amax1_eq, xr0_eq, xr1_eq, gr_eq]
  exact scales_piece (arg2.view.read (Elt F) X_arg2) (arg7.view.read (Elt F) X_arg7) y4 _ k.val 0 (by decide) _ (k0_off103_inb i k) (k0_off103_eq i k) (by decide) _ _ x

/-- The scales that a trip stores for group 1 are the named scales. -/
theorem scalesT_1 (y4 : Vec F S6x20x2048 .f32) (x : (Rect.unit (s := S6x20x2048) (k0_off105 i k) S1x1x256.size (k0_off105_inb i k)).shape.Idx) :
    sl.v3152 arg2 arg7 X_arg2 X_arg7 k x = scalesUpd (i 0).val (arg2.view.read (Elt F) X_arg2) (arg7.view.read (Elt F) X_arg7) y4 ((Rect.unit (s := S6x20x2048) (k0_off105 i k) S1x1x256.size (k0_off105_inb i k)).emb x) := by
  rw [scales_1, scale0_eq, scale1_eq, amax0_eq, amax1_eq, xr0_eq, xr1_eq, gr_eq]
  exact scales_piece (arg2.view.read (Elt F) X_arg2) (arg7.view.read (Elt F) X_arg7) y4 _ k.val 1 (by decide) _ (k0_off105_inb i k) (k0_off105_eq i k) (by decide) _ _ x

/-- The scales that a trip stores for group 2 are the named scales. -/
theorem scalesT_2 (y4 : Vec F S6x20x2048 .f32) (x : (Rect.unit (s := S6x20x2048) (k0_off107 i k) S1x1x256.size (k0_off107_inb i k)).shape.Idx) :
    sl.v3327 arg2 arg7 X_arg2 X_arg7 k x = scalesUpd (i 0).val (arg2.view.read (Elt F) X_arg2) (arg7.view.read (Elt F) X_arg7) y4 ((Rect.unit (s := S6x20x2048) (k0_off107 i k) S1x1x256.size (k0_off107_inb i k)).emb x) := by
  rw [scales_2, scale0_eq, scale1_eq, amax0_eq, amax1_eq, xr0_eq, xr1_eq, gr_eq]
  exact scales_piece (arg2.view.read (Elt F) X_arg2) (arg7.view.read (Elt F) X_arg7) y4 _ k.val 2 (by decide) _ (k0_off107_inb i k) (k0_off107_eq i k) (by decide) _ _ x

/-- The scales that a trip stores for group 3 are the named scales. -/
theorem scalesT_3 (y4 : Vec F S6x20x2048 .f32) (x : (Rect.unit (s := S6x20x2048) (k0_off109 i k) S1x1x256.size (k0_off109_inb i k)).shape.Idx) :
    sl.v3502 arg2 arg7 X_arg2 X_arg7 k x = scalesUpd (i 0).val (arg2.view.read (Elt F) X_arg2) (arg7.view.read (Elt F) X_arg7) y4 ((Rect.unit (s := S6x20x2048) (k0_off109 i k) S1x1x256.size (k0_off109_inb i k)).emb x) := by
  rw [scales_3, scale0_eq, scale1_eq, amax0_eq, amax1_eq, xr0_eq, xr1_eq, gr_eq]
  exact scales_piece (arg2.view.read (Elt F) X_arg2) (arg7.view.read (Elt F) X_arg7) y4 _ k.val 3 (by decide) _ (k0_off109_inb i k) (k0_off109_eq i k) (by decide) _ _ x

/-- The scales that a trip stores for group 4 are the named scales. -/
theorem scalesT_4 (y4 : Vec F S6x20x2048 .f32) (x : (Rect.unit (s := S6x20x2048) (k0_off111 i k) S1x1x256.size (k0_off111_inb i k)).shape.Idx) :
    sl.v3677 arg2 arg7 X_arg2 X_arg7 k x = scalesUpd (i 0).val (arg2.view.read (Elt F) X_arg2) (arg7.view.read (Elt F) X_arg7) y4 ((Rect.unit (s := S6x20x2048) (k0_off111 i k) S1x1x256.size (k0_off111_inb i k)).emb x) := by
  rw [scales_4, scale0_eq, scale1_eq, amax0_eq, amax1_eq, xr0_eq, xr1_eq, gr_eq]
  exact scales_piece (arg2.view.read (Elt F) X_arg2) (arg7.view.read (Elt F) X_arg7) y4 _ k.val 4 (by decide) _ (k0_off111_inb i k) (k0_off111_eq i k) (by decide) _ _ x

/-- The scales that a trip stores for group 5 are the named scales. -/
theorem scalesT_5 (y4 : Vec F S6x20x2048 .f32) (x : (Rect.unit (s := S6x20x2048) (k0_off113 i k) S1x1x256.size (k0_off113_inb i k)).shape.Idx) :
    sl.v3852 arg2 arg7 X_arg2 X_arg7 k x = scalesUpd (i 0).val (arg2.view.read (Elt F) X_arg2) (arg7.view.read (Elt F) X_arg7) y4 ((Rect.unit (s := S6x20x2048) (k0_off113 i k) S1x1x256.size (k0_off113_inb i k)).emb x) := by
  rw [scales_5, scale0_eq, scale1_eq, amax0_eq, amax1_eq, xr0_eq, xr1_eq, gr_eq]
  exact scales_piece (arg2.view.read (Elt F) X_arg2) (arg7.view.read (Elt F) X_arg7) y4 _ k.val 5 (by decide) _ (k0_off113_inb i k) (k0_off113_eq i k) (by decide) _ _ x

/-- Every piece of codes that a trip stores agrees with the named codes. -/
theorem trip_codes : ∀ p ∈ (trip_k0_t2 (F := F) 𝒱 c bd i arg1 harg1 arg2 harg2 arg3 harg3 arg4 harg4 arg5 harg5 arg6 harg6 arg7 harg7 arg8 harg8 arg9 harg9 arg10 harg10 arg11 harg11 arg12 harg12 arg0 v1 v6 X_arg2 X_arg7 X_arg9 X_arg11 X_arg12 k).2.1 f_arg4 f_arg5 f_arg6 f_arg8,
    ∀ x : p.1.shape.Idx, p.2 x = codesBlk (arg2.view.read (Elt F) X_arg2) (arg7.view.read (Elt F) X_arg7) (p.1.emb x) := by
  rw [tripC]
  intro p hp
  simp only [List.mem_cons, List.not_mem_nil, or_false] at hp
  rcases hp with rfl | rfl | rfl | rfl | rfl | rfl | rfl | rfl | rfl | rfl | rfl | rfl
  · exact codesT1_5 arg2 arg7 arg8 X_arg2 X_arg7 k
  · exact codesT0_5 arg2 arg7 arg8 X_arg2 X_arg7 k
  · exact codesT1_4 arg2 arg7 arg8 X_arg2 X_arg7 k
  · exact codesT0_4 arg2 arg7 arg8 X_arg2 X_arg7 k
  · exact codesT1_3 arg2 arg7 arg8 X_arg2 X_arg7 k
  · exact codesT0_3 arg2 arg7 arg8 X_arg2 X_arg7 k
  · exact codesT1_2 arg2 arg7 arg8 X_arg2 X_arg7 k
  · exact codesT0_2 arg2 arg7 arg8 X_arg2 X_arg7 k
  · exact codesT1_1 arg2 arg7 arg8 X_arg2 X_arg7 k
  · exact codesT0_1 arg2 arg7 arg8 X_arg2 X_arg7 k
  · exact codesT1_0 arg2 arg7 arg8 X_arg2 X_arg7 k
  · exact codesT0_0 arg2 arg7 arg8 X_arg2 X_arg7 k

/-- Every piece of scales that a trip stores agrees with the named scales. -/
theorem trip_scales (y4 : Vec F S6x20x2048 .f32) : ∀ p ∈ (trip_k0_t2 (F := F) 𝒱 c bd i arg1 harg1 arg2 harg2 arg3 harg3 arg4 harg4 arg5 harg5 arg6 harg6 arg7 harg7 arg8 harg8 arg9 harg9 arg10 harg10 arg11 harg11 arg12 harg12 arg0 v1 v6 X_arg2 X_arg7 X_arg9 X_arg11 X_arg12 k).2.2.1 f_arg4 f_arg5 f_arg6 f_arg8,
    ∀ x : p.1.shape.Idx, p.2 x = scalesUpd (i 0).val (arg2.view.read (Elt F) X_arg2) (arg7.view.read (Elt F) X_arg7) y4 (p.1.emb x) := by
  rw [tripS]
  intro p hp
  simp only [List.mem_cons, List.not_mem_nil, or_false] at hp
  rcases hp with rfl | rfl | rfl | rfl | rfl | rfl
  · exact scalesT_5 i arg2 arg7 X_arg2 X_arg7 k y4
  · exact scalesT_4 i arg2 arg7 X_arg2 X_arg7 k y4
  · exact scalesT_3 i arg2 arg7 X_arg2 X_arg7 k y4
  · exact scalesT_2 i arg2 arg7 X_arg2 X_arg7 k y4
  · exact scalesT_1 i arg2 arg7 X_arg2 X_arg7 k y4
  · exact scalesT_0 i arg2 arg7 X_arg2 X_arg7 k y4

end Cert.KernelIdeal.Latent
-- ==== Proof.Loop.lean ====
/-
What the loop over the pairs of tiles leaves in the block of codes and in the scales, whatever they held before.
-/
module

public import proofs.«01_k».proof.Proof.Trip

@[expose] public section

set_option maxRecDepth 16384
set_option maxHeartbeats 1000000

noncomputable section

namespace Cert.KernelIdeal.Latent

open Idealize.ShloMosaic Cert.KernelIdeal.Gen

variable {F : FTy → Type} [FloatOps F] [Named F]

/-- The tile of codes a place of the block lies in. -/
theorem memC (off : Fin 3 → ℕ) (inb : ∀ a, off a + S1x128x128.size a ≤ S1x2048x768.size a) (t g : ℕ) (hoff : off = ![0, 128 * t, 128 * g])
    (y : S1x2048x768.Idx) (h1 : (y 1).val / 128 = t) (h2 : (y 2).val / 128 = g) :
    y ∈ (Rect.unit (s := S1x2048x768) off S1x128x128.size inb).set := by
  subst hoff
  rw [Rect.mem_set_unit]
  intro a
  have h0 : (y 0).val < 1 := (y 0).isLt
  fin_cases a
  · show 0 ≤ (y 0).val ∧ (y 0).val < 0 + 1; omega
  · show 128 * t ≤ (y 1).val ∧ (y 1).val < 128 * t + 128; omega
  · show 128 * g ≤ (y 2).val ∧ (y 2).val < 128 * g + 128; omega

/-- The row of scales a place lies in. -/
theorem memS (off : Fin 3 → ℕ) (inb : ∀ a, off a + S1x1x256.size a ≤ S6x20x2048.size a) (b k g : ℕ) (hoff : off = ![g, b, 256 * k])
    (y : S6x20x2048.Idx) (h0 : (y 0).val = g) (h1 : (y 1).val = b) (h2 : (y 2).val / 256 = k) :
    y ∈ (Rect.unit (s := S6x20x2048) off S1x1x256.size inb).set := by
  subst hoff
  rw [Rect.mem_set_unit]
  intro a
  fin_cases a
  · show g ≤ (y 0).val ∧ (y 0).val < g + 1; omega
  · show b ≤ (y 1).val ∧ (y 1).val < b + 1; omega
  · show 256 * k ≤ (y 2).val ∧ (y 2).val < 256 * k + 256; omega

variable (𝒱 : Variants) (c : Dev nD) (bd : Option 𝒱.V) (i : grid0.Coords) (arg1 : Memref sig .tc .smem S20 .i32) (harg1 : arg1.IsWhole) (arg2 : Memref sig .tc .vmem S1x104x16x8x128 .bf16) (harg2 : arg2.IsWhole) (arg3 : Memref sig .tc .vmem S768 .f32) (harg3 : arg3.IsWhole) (arg4 : Memref sig .tc .vmem S1x8x16x8x128 .bf16) (harg4 : arg4.IsWhole) (arg5 : Memref sig .tc .vmem S1x2048x768 .fp8e4m3) (harg5 : arg5.IsWhole) (arg6 : Memref sig .tc .vmem S6x20x2048 .f32) (harg6 : arg6.IsWhole) (arg7 : Memref sig .tc .vmem S768x128 .f32) (harg7 : arg7.IsWhole) (arg8 : Memref sig .tc .vmem S96x2x8x128 .f32) (harg8 : arg8.IsWhole) (arg9 : Memref sig .tc .vmem S3x32x128 .f32) (harg9 : arg9.IsWhole) (arg10 : Memref sig .tc .vmem S4x32x128 .f32) (harg10 : arg10.IsWhole) (arg11 : Memref sig .tc .vmem S2x32x8x128 .f32) (harg11 : arg11.IsWhole) (arg12 : Memref sig .tc .vmem S4x32x128 .f32) (harg12 : arg12.IsWhole) (arg0 : BitVec 32) (v1 : Elt F .i32) (v6 : IVec S8x128 32) (X_arg2 : BufTy.Contents (Elt F) arg2.view.ty) (X_arg7 : BufTy.Contents (Elt F) arg7.view.ty) (X_arg9 : BufTy.Contents (Elt F) arg9.view.ty) (X_arg11 : BufTy.Contents (Elt F) arg11.view.ty) (X_arg12 : BufTy.Contents (Elt F) arg12.view.ty) (k : Fin k0_t2_loop.trips)
  (f_arg4 : BufTy.Contents (Elt F) arg4.view.ty) (f_arg5 : BufTy.Contents (Elt F) arg5.view.ty) (f_arg6 : BufTy.Contents (Elt F) arg6.view.ty) (f_arg8 : BufTy.Contents (Elt F) arg8.view.ty)
  (G_arg4 : BufTy.Contents (Elt F) arg4.view.ty) (G_arg5 : BufTy.Contents (Elt F) arg5.view.ty) (G_arg6 : BufTy.Contents (Elt F) arg6.view.ty) (G_arg8 : BufTy.Contents (Elt F) arg8.view.ty)

/-- Trip `k` stores every code of its pair of tiles. -/
theorem trip_codes_cover (y : S1x2048x768.Idx) (hy : (y 1).val / 256 = k.val) :
    ∃ p ∈ (trip_k0_t2 (F := F) 𝒱 c bd i arg1 harg1 arg2 harg2 arg3 harg3 arg4 harg4 arg5 harg5 arg6 harg6 arg7 harg7 arg8 harg8 arg9 harg9 arg10 harg10 arg11 harg11 arg12 harg12 arg0 v1 v6 X_arg2 X_arg7 X_arg9 X_arg11 X_arg12 k).2.1 f_arg4 f_arg5 f_arg6 f_arg8, y ∈ p.1.set := by
  rw [tripC]
  have h2 : (y 2).val < 768 := (y 2).isLt
  rcases (by omega : (y 1).val / 128 = 2 * k.val ∨ (y 1).val / 128 = 2 * k.val + 1) with hq | hq
  · rcases (by omega : (y 2).val / 128 = 0 ∨ (y 2).val / 128 = 1 ∨ (y 2).val / 128 = 2 ∨ (y 2).val / 128 = 3 ∨ (y 2).val / 128 = 4 ∨ (y 2).val / 128 = 5) with hg | hg | hg | hg | hg | hg
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), memC _ (k0_off104_inb k 0) _ 0 ((k0_off104_eq k 0).trans (by congr 1; funext a; fin_cases a <;> simp <;> omega)) y hq hg⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), memC _ (k0_off106_inb k 0) _ 1 ((k0_off106_eq k 0).trans (by congr 1; funext a; fin_cases a <;> simp <;> omega)) y hq hg⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), memC _ (k0_off108_inb k 0) _ 2 ((k0_off108_eq k 0).trans (by congr 1; funext a; fin_cases a <;> simp <;> omega)) y hq hg⟩
    · exact ⟨_, List.mem_cons_of_mem _ (List.mem_cons_of_mem _ (List.mem_cons_of_mem _ (List.mem_cons_of_mem _ (List.mem_cons_of_mem _ (List.mem_cons_self))))), memC _ (k0_off110_inb k 0) _ 3 ((k0_off110_eq k 0).trans (by congr 1; funext a; fin_cases a <;> simp <;> omega)) y hq hg⟩
    · exact ⟨_, List.mem_cons_of_mem _ (List.mem_cons_of_mem _ (List.mem_cons_of_mem _ (List.mem_cons_self))), memC _ (k0_off112_inb k 0) _ 4 ((k0_off112_eq k 0).trans (by congr 1; funext a; fin_cases a <;> simp <;> omega)) y hq hg⟩
    · exact ⟨_, List.mem_cons_of_mem _ (List.mem_cons_self), memC _ (k0_off114_inb k 0) _ 5 ((k0_off114_eq k 0).trans (by congr 1; funext a; fin_cases a <;> simp <;> omega)) y hq hg⟩
  · rcases (by omega : (y 2).val / 128 = 0 ∨ (y 2).val / 128 = 1 ∨ (y 2).val / 128 = 2 ∨ (y 2).val / 128 = 3 ∨ (y 2).val / 128 = 4 ∨ (y 2).val / 128 = 5) with hg | hg | hg | hg | hg | hg
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), memC _ (k0_off104_inb k 1) _ 0 ((k0_off104_eq k 1).trans (by congr 1; funext a; fin_cases a <;> simp <;> omega)) y hq hg⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), memC _ (k0_off106_inb k 1) _ 1 ((k0_off106_eq k 1).trans (by congr 1; funext a; fin_cases a <;> simp <;> omega)) y hq hg⟩
    · exact ⟨_, List.mem_cons_of_mem _ (List.mem_cons_of_mem _ (List.mem_cons_of_mem _ (List.mem_cons_of_mem _ (List.mem_cons_of_mem _ (List.mem_cons_of_mem _ (List.mem_cons_self)))))), memC _ (k0_off108_inb k 1) _ 2 ((k0_off108_eq k 1).trans (by congr 1; funext a; fin_cases a <;> simp <;> omega)) y hq hg⟩
    · exact ⟨_, List.mem_cons_of_mem _ (List.mem_cons_of_mem _ (List.mem_cons_of_mem _ (List.mem_cons_of_mem _ (List.mem_cons_self)))), memC _ (k0_off110_inb k 1) _ 3 ((k0_off110_eq k 1).trans (by congr 1; funext a; fin_cases a <;> simp <;> omega)) y hq hg⟩
    · exact ⟨_, List.mem_cons_of_mem _ (List.mem_cons_of_mem _ (List.mem_cons_self)), memC _ (k0_off112_inb k 1) _ 4 ((k0_off112_eq k 1).trans (by congr 1; funext a; fin_cases a <;> simp <;> omega)) y hq hg⟩
    · exact ⟨_, List.mem_cons_self, memC _ (k0_off114_inb k 1) _ 5 ((k0_off114_eq k 1).trans (by congr 1; funext a; fin_cases a <;> simp <;> omega)) y hq hg⟩

/-- Trip `k` stores the batch entry's scales of its pair of tiles. -/
theorem trip_scales_cover (y : S6x20x2048.Idx) (hb : (y 1).val = (i 0).val) (hy : (y 2).val / 256 = k.val) :
    ∃ p ∈ (trip_k0_t2 (F := F) 𝒱 c bd i arg1 harg1 arg2 harg2 arg3 harg3 arg4 harg4 arg5 harg5 arg6 harg6 arg7 harg7 arg8 harg8 arg9 harg9 arg10 harg10 arg11 harg11 arg12 harg12 arg0 v1 v6 X_arg2 X_arg7 X_arg9 X_arg11 X_arg12 k).2.2.1 f_arg4 f_arg5 f_arg6 f_arg8, y ∈ p.1.set := by
  rw [tripS]
  have h0 : (y 0).val < 6 := (y 0).isLt
  rcases (by omega : (y 0).val = 0 ∨ (y 0).val = 1 ∨ (y 0).val = 2 ∨ (y 0).val = 3 ∨ (y 0).val = 4 ∨ (y 0).val = 5) with hg | hg | hg | hg | hg | hg
  · exact ⟨_, List.mem_cons_of_mem _ (List.mem_cons_of_mem _ (List.mem_cons_of_mem _ (List.mem_cons_of_mem _ (List.mem_cons_of_mem _ (List.mem_cons_self))))), memS _ (k0_off103_inb i k) _ k.val 0 (k0_off103_eq i k) y hg hb hy⟩
  · exact ⟨_, List.mem_cons_of_mem _ (List.mem_cons_of_mem _ (List.mem_cons_of_mem _ (List.mem_cons_of_mem _ (List.mem_cons_self)))), memS _ (k0_off105_inb i k) _ k.val 1 (k0_off105_eq i k) y hg hb hy⟩
  · exact ⟨_, List.mem_cons_of_mem _ (List.mem_cons_of_mem _ (List.mem_cons_of_mem _ (List.mem_cons_self))), memS _ (k0_off107_inb i k) _ k.val 2 (k0_off107_eq i k) y hg hb hy⟩
  · exact ⟨_, List.mem_cons_of_mem _ (List.mem_cons_of_mem _ (List.mem_cons_self)), memS _ (k0_off109_inb i k) _ k.val 3 (k0_off109_eq i k) y hg hb hy⟩
  · exact ⟨_, List.mem_cons_of_mem _ (List.mem_cons_self), memS _ (k0_off111_inb i k) _ k.val 4 (k0_off111_eq i k) y hg hb hy⟩
  · exact ⟨_, List.mem_cons_self, memS _ (k0_off113_inb i k) _ k.val 5 (k0_off113_eq i k) y hg hb hy⟩

/-- Every piece of codes that the first trips store agrees with the named codes. -/
theorem loop_codes_agrees (n : ℕ) (hn : n ≤ k0_t2_loop.trips) : ∀ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 arg0 v1 v6 X_arg2 X_arg7 X_arg9 X_arg11 X_arg12 G_arg4 G_arg5 G_arg6 G_arg8 n).2.1,
    ∀ x : p.1.shape.Idx, p.2 x = codesBlk (arg2.view.read (Elt F) X_arg2) (arg7.view.read (Elt F) X_arg7) (p.1.emb x) := by
  induction n with
  | zero => intro p hp; exact absurd hp List.not_mem_nil
  | succ n ih =>
    intro p hp
    have e := pb_k0_t2_succ (F := F) 𝒱 c bd i arg1 harg1 arg2 harg2 arg3 harg3 arg4 harg4 arg5 harg5 arg6 harg6 arg7 harg7 arg8 harg8 arg9 harg9 arg10 harg10 arg11 harg11 arg12 harg12 arg0 v1 v6 X_arg2 X_arg7 X_arg9 X_arg11 X_arg12 G_arg4 G_arg5 G_arg6 G_arg8 ⟨n, hn⟩
    have e' := congrArg (fun z => z.2.1) e
    have hp' := (congrArg (fun z => p ∈ z) e').mp hp
    rcases List.mem_append.mp hp' with h | h
    · exact trip_codes (F := F) 𝒱 c bd i arg1 harg1 arg2 harg2 arg3 harg3 arg4 harg4 arg5 harg5 arg6 harg6 arg7 harg7 arg8 harg8 arg9 harg9 arg10 harg10 arg11 harg11 arg12 harg12 arg0 v1 v6 X_arg2 X_arg7 X_arg9 X_arg11 X_arg12 _ _ _ _ _ p h
    · exact ih (Nat.le_of_succ_le hn) p h

/-- Every piece of scales that the first trips store agrees with the named scales. -/
theorem loop_scales_agrees (y4 : Vec F S6x20x2048 .f32) (n : ℕ) (hn : n ≤ k0_t2_loop.trips) : ∀ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 arg0 v1 v6 X_arg2 X_arg7 X_arg9 X_arg11 X_arg12 G_arg4 G_arg5 G_arg6 G_arg8 n).2.2.1,
    ∀ x : p.1.shape.Idx, p.2 x = scalesUpd (i 0).val (arg2.view.read (Elt F) X_arg2) (arg7.view.read (Elt F) X_arg7) y4 (p.1.emb x) := by
  induction n with
  | zero => intro p hp; exact absurd hp List.not_mem_nil
  | succ n ih =>
    intro p hp
    have e := pb_k0_t2_succ (F := F) 𝒱 c bd i arg1 harg1 arg2 harg2 arg3 harg3 arg4 harg4 arg5 harg5 arg6 harg6 arg7 harg7 arg8 harg8 arg9 harg9 arg10 harg10 arg11 harg11 arg12 harg12 arg0 v1 v6 X_arg2 X_arg7 X_arg9 X_arg11 X_arg12 G_arg4 G_arg5 G_arg6 G_arg8 ⟨n, hn⟩
    have e' := congrArg (fun z => z.2.2.1) e
    have hp' := (congrArg (fun z => p ∈ z) e').mp hp
    rcases List.mem_append.mp hp' with h | h
    · exact trip_scales (F := F) 𝒱 c bd i arg1 harg1 arg2 harg2 arg3 harg3 arg4 harg4 arg5 harg5 arg6 harg6 arg7 harg7 arg8 harg8 arg9 harg9 arg10 harg10 arg11 harg11 arg12 harg12 arg0 v1 v6 X_arg2 X_arg7 X_arg9 X_arg11 X_arg12 _ _ _ _ _ y4 p h
    · exact ih (Nat.le_of_succ_le hn) p h

/-- The first trips store every code of their positions. -/
theorem loop_codes_cover (y : S1x2048x768.Idx) (n : ℕ) (hn : n ≤ k0_t2_loop.trips) (hy : (y 1).val / 256 < n) :
    ∃ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 arg0 v1 v6 X_arg2 X_arg7 X_arg9 X_arg11 X_arg12 G_arg4 G_arg5 G_arg6 G_arg8 n).2.1, y ∈ p.1.set := by
  induction n with
  | zero => omega
  | succ n ih =>
    have e := pb_k0_t2_succ (F := F) 𝒱 c bd i arg1 harg1 arg2 harg2 arg3 harg3 arg4 harg4 arg5 harg5 arg6 harg6 arg7 harg7 arg8 harg8 arg9 harg9 arg10 harg10 arg11 harg11 arg12 harg12 arg0 v1 v6 X_arg2 X_arg7 X_arg9 X_arg11 X_arg12 G_arg4 G_arg5 G_arg6 G_arg8 ⟨n, hn⟩
    have e' := congrArg (fun z => z.2.1) e
    rcases Nat.lt_succ_iff_lt_or_eq.mp hy with h | h
    · obtain ⟨p, hp, hm⟩ := ih (Nat.le_of_succ_le hn) h
      exact ⟨p, (congrArg (fun z => p ∈ z) e').mpr (List.mem_append_right _ hp), hm⟩
    · obtain ⟨p, hp, hm⟩ := trip_codes_cover (F := F) 𝒱 c bd i arg1 harg1 arg2 harg2 arg3 harg3 arg4 harg4 arg5 harg5 arg6 harg6 arg7 harg7 arg8 harg8 arg9 harg9 arg10 harg10 arg11 harg11 arg12 harg12 arg0 v1 v6 X_arg2 X_arg7 X_arg9 X_arg11 X_arg12 ⟨n, hn⟩ _ _ _ _ y h
      exact ⟨p, (congrArg (fun z => p ∈ z) e').mpr (List.mem_append_left _ hp), hm⟩

/-- The first trips store every scale of their positions in the point's row. -/
theorem loop_scales_cover (y : S6x20x2048.Idx) (hb : (y 1).val = (i 0).val) (n : ℕ) (hn : n ≤ k0_t2_loop.trips) (hy : (y 2).val / 256 < n) :
    ∃ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 arg0 v1 v6 X_arg2 X_arg7 X_arg9 X_arg11 X_arg12 G_arg4 G_arg5 G_arg6 G_arg8 n).2.2.1, y ∈ p.1.set := by
  induction n with
  | zero => omega
  | succ n ih =>
    have e := pb_k0_t2_succ (F := F) 𝒱 c bd i arg1 harg1 arg2 harg2 arg3 harg3 arg4 harg4 arg5 harg5 arg6 harg6 arg7 harg7 arg8 harg8 arg9 harg9 arg10 harg10 arg11 harg11 arg12 harg12 arg0 v1 v6 X_arg2 X_arg7 X_arg9 X_arg11 X_arg12 G_arg4 G_arg5 G_arg6 G_arg8 ⟨n, hn⟩
    have e' := congrArg (fun z => z.2.2.1) e
    rcases Nat.lt_succ_iff_lt_or_eq.mp hy with h | h
    · obtain ⟨p, hp, hm⟩ := ih (Nat.le_of_succ_le hn) h
      exact ⟨p, (congrArg (fun z => p ∈ z) e').mpr (List.mem_append_right _ hp), hm⟩
    · obtain ⟨p, hp, hm⟩ := trip_scales_cover (F := F) 𝒱 c bd i arg1 harg1 arg2 harg2 arg3 harg3 arg4 harg4 arg5 harg5 arg6 harg6 arg7 harg7 arg8 harg8 arg9 harg9 arg10 harg10 arg11 harg11 arg12 harg12 arg0 v1 v6 X_arg2 X_arg7 X_arg9 X_arg11 X_arg12 ⟨n, hn⟩ _ _ _ _ y hb h
      exact ⟨p, (congrArg (fun z => p ∈ z) e').mpr (List.mem_append_left _ hp), hm⟩

/-- The block of codes after the loop. -/
theorem loop_codes (f : BufTy.Contents (Elt F) arg5.view.ty) :
    arg5.view.read (Elt F) (arg5.view.writes (Elt F) f (pb_k0_t2 (F := F) 𝒱 c bd i arg1 harg1 arg2 harg2 arg3 harg3 arg4 harg4 arg5 harg5 arg6 harg6 arg7 harg7 arg8 harg8 arg9 harg9 arg10 harg10 arg11 harg11 arg12 harg12 arg0 v1 v6 X_arg2 X_arg7 X_arg9 X_arg11 X_arg12 G_arg4 G_arg5 G_arg6 G_arg8 k0_t2_loop.trips).2.1) = codesBlk (arg2.view.read (Elt F) X_arg2) (arg7.view.read (Elt F) X_arg7) := by
  funext y
  have h1 : (y 1).val < 2048 := (y 1).isLt
  have ht : k0_t2_loop.trips = 8 := rfl
  exact View.read_writes_apply_of_pieces arg5.view f (codesBlk (arg2.view.read (Elt F) X_arg2) (arg7.view.read (Elt F) X_arg7)) _
    (loop_codes_agrees (F := F) 𝒱 c bd i arg1 harg1 arg2 harg2 arg3 harg3 arg4 harg4 arg5 harg5 arg6 harg6 arg7 harg7 arg8 harg8 arg9 harg9 arg10 harg10 arg11 harg11 arg12 harg12 arg0 v1 v6 X_arg2 X_arg7 X_arg9 X_arg11 X_arg12 _ _ _ _ _ (Nat.le_refl _)) y
    (loop_codes_cover (F := F) 𝒱 c bd i arg1 harg1 arg2 harg2 arg3 harg3 arg4 harg4 arg5 harg5 arg6 harg6 arg7 harg7 arg8 harg8 arg9 harg9 arg10 harg10 arg11 harg11 arg12 harg12 arg0 v1 v6 X_arg2 X_arg7 X_arg9 X_arg11 X_arg12 _ _ _ _ y _ (Nat.le_refl _) (by omega))

/-- The scales after the loop: the batch entry's row replaced. -/
theorem loop_scales (f : BufTy.Contents (Elt F) arg6.view.ty) :
    arg6.view.read (Elt F) (arg6.view.writes (Elt F) f (pb_k0_t2 (F := F) 𝒱 c bd i arg1 harg1 arg2 harg2 arg3 harg3 arg4 harg4 arg5 harg5 arg6 harg6 arg7 harg7 arg8 harg8 arg9 harg9 arg10 harg10 arg11 harg11 arg12 harg12 arg0 v1 v6 X_arg2 X_arg7 X_arg9 X_arg11 X_arg12 G_arg4 G_arg5 G_arg6 G_arg8 k0_t2_loop.trips).2.2.1)
      = scalesUpd (i 0).val (arg2.view.read (Elt F) X_arg2) (arg7.view.read (Elt F) X_arg7) (arg6.view.read (Elt F) f) := by
  funext y
  have h2 : (y 2).val < 2048 := (y 2).isLt
  have ht : k0_t2_loop.trips = 8 := rfl
  by_cases hc : ∃ p ∈ (pb_k0_t2 (F := F) 𝒱 c bd i arg1 harg1 arg2 harg2 arg3 harg3 arg4 harg4 arg5 harg5 arg6 harg6 arg7 harg7 arg8 harg8 arg9 harg9 arg10 harg10 arg11 harg11 arg12 harg12 arg0 v1 v6 X_arg2 X_arg7 X_arg9 X_arg11 X_arg12 G_arg4 G_arg5 G_arg6 G_arg8 k0_t2_loop.trips).2.2.1, y ∈ p.1.set
  · exact View.read_writes_apply_of_pieces arg6.view f (scalesUpd (i 0).val (arg2.view.read (Elt F) X_arg2) (arg7.view.read (Elt F) X_arg7) (arg6.view.read (Elt F) f)) _
      (loop_scales_agrees (F := F) 𝒱 c bd i arg1 harg1 arg2 harg2 arg3 harg3 arg4 harg4 arg5 harg5 arg6 harg6 arg7 harg7 arg8 harg8 arg9 harg9 arg10 harg10 arg11 harg11 arg12 harg12 arg0 v1 v6 X_arg2 X_arg7 X_arg9 X_arg11 X_arg12 _ _ _ _ _ _ (Nat.le_refl _)) y hc
  · have hb : (y 1).val ≠ (i 0).val := fun hb =>
      hc (loop_scales_cover (F := F) 𝒱 c bd i arg1 harg1 arg2 harg2 arg3 harg3 arg4 harg4 arg5 harg5 arg6 harg6 arg7 harg7 arg8 harg8 arg9 harg9 arg10 harg10 arg11 harg11 arg12 harg12 arg0 v1 v6 X_arg2 X_arg7 X_arg9 X_arg11 X_arg12 _ _ _ _ y hb _ (Nat.le_refl _) (by omega))
    rw [View.read_writes_apply_of_forall_not_mem _ _ _ _ (fun p hp hm => hc ⟨p, hp, hm⟩)]
    unfold scalesUpd
    rw [if_neg hb]

end Cert.KernelIdeal.Latent
-- ==== Proof.Weights.lean ====
/-
The expanded weights: each weight of the norm over the 128 positions.
-/
module

public import proofs.«01_k».proof.Proof.Loop

@[expose] public section

set_option maxRecDepth 16384

noncomputable section

namespace Cert.KernelIdeal.Latent

open Idealize.ShloMosaic Cert.KernelIdeal.Gen

variable {F : FTy → Type} [FloatOps F] [Named F]

/-- The weights over the positions. -/
def gbV (x1 : Vec F S768 .f32) : Vec F S768x128 .f32 := fun y => x1 (ix1 (y 0))

/-- A vector of 128 weights, over the positions, at an index. -/
theorem pay4_apply (v : Vec F S128 .f32) (y : S128x128.Idx) : k0_pay4 v y = v (ix1 (y 0)) := by
  idx_vars y
  unfold k0_pay4
  pointwise

/-- A stored tile of expanded weights is the weights', where it lies. -/
theorem gb_piece (arg3 : Memref sig .tc .vmem S768 .f32) (harg3 : arg3.IsWhole) (x1 : Vec F S768 .f32) (o : ℕ) (off3 : Fin 1 → ℕ) (off7 : Fin 2 → ℕ)
    (inb3 : ∀ a, off3 a + S128.size a ≤ S768.size a) (inb7 : ∀ a, off7 a + S128x128.size a ≤ S768x128.size a)
    (h3 : off3 = ![o]) (h7 : off7 = ![o, 0]) (x : (Rect.unit (s := S768x128) off7 S128x128.size inb7).shape.Idx) :
    k0_pay4 (View.readAt (Elt F) arg3.view (Rect.unit (s := S768) off3 S128.size inb3).toLoadRect (harg3.unread x1)) x
      = gbV x1 ((Rect.unit (s := S768x128) off7 S128x128.size inb7).emb x) := by
  subst h3 h7
  refine (pay4_apply _ x).trans ?_
  show arg3.view.read (Elt F) (harg3.unread x1) ((Rect.unit (s := S768) ![o] S128.size inb3).toLoadRect.idx (ix1 (x 0))) = _
  rw [harg3.read_unread]
  refine congrArg x1 ?_
  funext a
  apply Fin.ext
  fin_cases a
  rfl

/-- An index of a row block lies in that block. -/
theorem memG (o : ℕ) (inb : ∀ a, (![o, 0] : Fin 2 → ℕ) a + S128x128.size a ≤ S768x128.size a)
    (y : S768x128.Idx) (h1 : o ≤ (y 0).val ∧ (y 0).val < o + 128) :
    y ∈ (Rect.unit (s := S768x128) ![o, 0] S128x128.size inb).set := by
  rw [Rect.mem_set_unit]
  intro a
  have h2 : (y 1).val < 128 := (y 1).isLt
  fin_cases a
  · exact h1
  · show 0 ≤ (y 1).val ∧ (y 1).val < 0 + 128; omega

/-- The buffer of expanded weights after the six tiles are stored, whatever it held. -/
theorem gb_writes (arg3 : Memref sig .tc .vmem S768 .f32) (harg3 : arg3.IsWhole) (arg7 : Memref sig .tc .vmem S768x128 .f32) (x1 : Vec F S768 .f32)
    (f : BufTy.Contents (Elt F) arg7.view.ty) :
    arg7.view.read (Elt F) (arg7.view.writes (Elt F) f [
      ⟨Rect.unit (s := S768x128) ![640, 0] S128x128.size inb_S768x128_S128x128_640_0,
        k0_pay9 (View.readAt (Elt F) arg3.view (Rect.unit (s := S768) ![640] S128.size inb_S768_S128_640).toLoadRect (harg3.unread x1))⟩,
      ⟨Rect.unit (s := S768x128) ![512, 0] S128x128.size inb_S768x128_S128x128_512_0,
        k0_pay8 (View.readAt (Elt F) arg3.view (Rect.unit (s := S768) ![512] S128.size inb_S768_S128_512).toLoadRect (harg3.unread x1))⟩,
      ⟨Rect.unit (s := S768x128) ![384, 0] S128x128.size inb_S768x128_S128x128_384_0,
        k0_pay7 (View.readAt (Elt F) arg3.view (Rect.unit (s := S768) ![384] S128.size inb_S768_S128_384).toLoadRect (harg3.unread x1))⟩,
      ⟨Rect.unit (s := S768x128) ![256, 0] S128x128.size inb_S768x128_S128x128_256_0,
        k0_pay6 (View.readAt (Elt F) arg3.view (Rect.unit (s := S768) ![256] S128.size inb_S768_S128_256).toLoadRect (harg3.unread x1))⟩,
      ⟨Rect.unit (s := S768x128) ![128, 0] S128x128.size inb_S768x128_S128x128_128_0,
        k0_pay5 (View.readAt (Elt F) arg3.view (Rect.unit (s := S768) ![128] S128.size inb_S768_S128_128).toLoadRect (harg3.unread x1))⟩,
      ⟨Rect.unit (s := S768x128) ![0, 0] S128x128.size inb_S768x128_S128x128_0_0,
        k0_pay4 (View.readAt (Elt F) arg3.view (Rect.unit (s := S768) ![0] S128.size inb_S768_S128_0).toLoadRect (harg3.unread x1))⟩]) = gbV x1 := by
  funext y
  have hy : (y 0).val < 768 := (y 0).isLt
  refine View.read_writes_apply_of_pieces arg7.view f (gbV x1) _ ?_ y ?_
  · intro p hp
    simp only [List.mem_cons, List.not_mem_nil, or_false] at hp
    rcases hp with rfl | rfl | rfl | rfl | rfl | rfl
    · exact gb_piece arg3 harg3 x1 640 ![640] ![640, 0] inb_S768_S128_640 inb_S768x128_S128x128_640_0 rfl rfl
    · exact gb_piece arg3 harg3 x1 512 ![512] ![512, 0] inb_S768_S128_512 inb_S768x128_S128x128_512_0 rfl rfl
    · exact gb_piece arg3 harg3 x1 384 ![384] ![384, 0] inb_S768_S128_384 inb_S768x128_S128x128_384_0 rfl rfl
    · exact gb_piece arg3 harg3 x1 256 ![256] ![256, 0] inb_S768_S128_256 inb_S768x128_S128x128_256_0 rfl rfl
    · exact gb_piece arg3 harg3 x1 128 ![128] ![128, 0] inb_S768_S128_128 inb_S768x128_S128x128_128_0 rfl rfl
    · exact gb_piece arg3 harg3 x1 0 ![0] ![0, 0] inb_S768_S128_0 inb_S768x128_S128x128_0_0 rfl rfl
  · rcases (by omega : (0 ≤ (y 0).val ∧ (y 0).val < 0 + 128) ∨ (128 ≤ (y 0).val ∧ (y 0).val < 128 + 128) ∨ (256 ≤ (y 0).val ∧ (y 0).val < 256 + 128) ∨ (384 ≤ (y 0).val ∧ (y 0).val < 384 + 128) ∨ (512 ≤ (y 0).val ∧ (y 0).val < 512 + 128) ∨ (640 ≤ (y 0).val ∧ (y 0).val < 640 + 128)) with h | h | h | h | h | h
    · exact ⟨_, List.mem_cons_of_mem _ (List.mem_cons_of_mem _ (List.mem_cons_of_mem _ (List.mem_cons_of_mem _ (List.mem_cons_of_mem _ (List.mem_cons_self))))), memG 0 inb_S768x128_S128x128_0_0 y h⟩
    · exact ⟨_, List.mem_cons_of_mem _ (List.mem_cons_of_mem _ (List.mem_cons_of_mem _ (List.mem_cons_of_mem _ (List.mem_cons_self)))), memG 128 inb_S768x128_S128x128_128_0 y h⟩
    · exact ⟨_, List.mem_cons_of_mem _ (List.mem_cons_of_mem _ (List.mem_cons_of_mem _ (List.mem_cons_self))), memG 256 inb_S768x128_S128x128_256_0 y h⟩
    · exact ⟨_, List.mem_cons_of_mem _ (List.mem_cons_of_mem _ (List.mem_cons_self)), memG 384 inb_S768x128_S128x128_384_0 y h⟩
    · exact ⟨_, List.mem_cons_of_mem _ (List.mem_cons_self), memG 512 inb_S768x128_S128x128_512_0 y h⟩
    · exact ⟨_, List.mem_cons_self, memG 640 inb_S768x128_S128x128_640_0 y h⟩

end Cert.KernelIdeal.Latent
-- ==== Proof.RunA.lean ====
/-
The whole body at a grid point, case A (the first point: the tables are filled): with the inputs at their blocks the body leaves the codes of the block, the scales with the
batch entry's row replaced, and the expanded weights; the tables of the rotation are named by the pieces the run writes.
-/
module

public import proofs.«01_k».proof.Proof.Runs
public import proofs.«01_k».proof.Proof.Weights

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (2, 3, 4) at anything, handed back at some contents nothing names. -/
noncomputable def kernelRun0_A (c : Dev nD) (i : grid0.Coords) (arg2 : Memref sig .tc .vmem S1x104x16x8x128 .bf16) (harg2 : arg2.IsWhole) (arg3 : Memref sig .tc .vmem S768 .f32) (harg3 : arg3.IsWhole) (arg4 : Memref sig .tc .vmem S1x8x16x8x128 .bf16) (harg4 : arg4.IsWhole) (arg5 : Memref sig .tc .vmem S1x2048x768 .fp8e4m3) (harg5 : arg5.IsWhole) (arg6 : Memref sig .tc .vmem S6x20x2048 .f32) (harg6 : arg6.IsWhole) (arg7 : Memref sig .tc .vmem S768x128 .f32) (harg7 : arg7.IsWhole) (arg8 : Memref sig .tc .vmem S96x2x8x128 .f32) (harg8 : arg8.IsWhole) (arg9 : Memref sig .tc .vmem S3x32x128 .f32) (harg9 : arg9.IsWhole) (arg10 : Memref sig .tc .vmem S4x32x128 .f32) (harg10 : arg10.IsWhole) (arg11 : Memref sig .tc .vmem S2x32x8x128 .f32) (harg11 : arg11.IsWhole) (arg12 : Memref sig .tc .vmem S4x32x128 .f32) (harg12 : arg12.IsWhole) (hc0 : cond0_0 i)
    (x0 : Vec F S1x104x16x8x128 .bf16) (x1 : Vec F S768 .f32) (xt0 : TbBuf0 (F := F) c tbM0_0) :
    Σ' (LS2 : List (View.Piece (Elt F) S3x32x128 .f32)), Σ' (LS3 : List (View.Piece (Elt F) S4x32x128 .f32)), { LS4 : List (View.Piece (Elt F) S2x32x8x128 .f32) //
      ∀ (y4 : Vec F S6x20x2048 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare y4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0
            ∗ (iprop(owns (c : Thread nD τ) arg2 fullShare x0 ∗ owns (c : Thread nD τ) arg3 fullShare x1 ∗ (∃ d, owns (c : Thread nD τ) arg4 fullShare d) ∗ owns (c : Thread nD τ) arg5 fullShare (Latent.codesBlk x0 (Latent.gbV x1)) ∗ owns (c : Thread nD τ) arg6 fullShare (Latent.scalesUpd (i 0).val x0 (Latent.gbV x1) y4) ∗ owns (c : Thread nD τ) arg7 fullShare (Latent.gbV x1) ∗ (∃ d, owns (c : Thread nD τ) arg8 fullShare d) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ d, owns (c : Thread nD τ) arg12 fullShare d) ∗ tbPt0 c tbM0_0 xt0) -∗ K ⟨⟩))
          ⊢ wp frame (wpE (defs₀ (F := F)) Variants.none c none) E (cc0_mla_store i tbM0_0 htbM0_0 arg2 harg2 arg3 harg3 arg4 harg4 arg5 harg5 arg6 harg6 arg7 harg7 arg8 harg8 arg9 harg9 arg10 harg10 arg11 harg11 arg12 harg12) K } := by
  refine ⟨?_, ?_, ?_, fun y4 E K => ?run⟩
  case run =>
    simp only [cc0_mla_store_eq_skeleton]; unfold cc0_mla_store_skel
    simp only [k0_part136_eq_skeleton, k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, HT0, Hk⟩
    obtain rfl := harg2.eq_unread hf0; obtain rfl := harg3.eq_unread hf1; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _; isplitr; swap; · iexact H3
      ipureintro
      refine (Latent.loop_codes _ _ _ _ _ _ _ _ _ _ _ _ _ _ _ _ _ _ _ _ _ _ _ _ _ _ _ _ _ _ _ _ _ _ _ _ _ _ _ _ _).trans ?_
      rw [harg2.read_unread]; exact congrArg (Latent.codesBlk x0) (Latent.gb_writes arg3 harg3 arg7 x1 _)
    isplitl [H4]
    · iexists _; isplitr; swap; · iexact H4
      ipureintro
      refine (Latent.loop_scales _ _ _ _ _ _ _ _ _ _ _ _ _ _ _ _ _ _ _ _ _ _ _ _ _ _ _ _ _ _ _ _ _ _ _ _ _ _ _ _ _).trans ?_
      rw [harg2.read_unread, harg6.read_unread]; exact congrArg (fun g => Latent.scalesUpd (i 0).val x0 g y4) (Latent.gb_writes arg3 harg3 arg7 x1 _)
    isplitl [HS0]
    · iexists _; isplitr; swap; · iexact HS0
      ipureintro; exact Latent.gb_writes arg3 harg3 arg7 x1 _
    isplitl [HS1]
    · iexists _, _; isplitr; swap; · iexact HS1
      ipureintro; rfl
    isplitl [HS2]; · iexists _; iexact HS2
    isplitl [HS3]; · iexists _; iexact HS3
    isplitl [HS4]; · iexists _; iexact HS4
    isplitl [HS5]
    · iexists _, _; isplitr; swap; · iexact HS5
      ipureintro; rfl
    iexact HT0

end Cert.KernelIdeal.Gen

end
-- ==== Proof.RunB.lean ====
/-
The whole body at a grid point, case B (a later point: the tables are carried): with the inputs at their blocks the body leaves the codes of the block, the scales with the
batch entry's row replaced, and the expanded weights; the tables of the rotation are named by the pieces the run writes.
-/
module

public import proofs.«01_k».proof.Proof.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE B (`scf.if` 0 not taken: points 1, 2, … 19: 19 of 20), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (2, 3, 4) at anything, handed back at some contents nothing names. -/
noncomputable def kernelRun0_B (c : Dev nD) (i : grid0.Coords) (arg2 : Memref sig .tc .vmem S1x104x16x8x128 .bf16) (harg2 : arg2.IsWhole) (arg3 : Memref sig .tc .vmem S768 .f32) (harg3 : arg3.IsWhole) (arg4 : Memref sig .tc .vmem S1x8x16x8x128 .bf16) (harg4 : arg4.IsWhole) (arg5 : Memref sig .tc .vmem S1x2048x768 .fp8e4m3) (harg5 : arg5.IsWhole) (arg6 : Memref sig .tc .vmem S6x20x2048 .f32) (harg6 : arg6.IsWhole) (arg7 : Memref sig .tc .vmem S768x128 .f32) (harg7 : arg7.IsWhole) (arg8 : Memref sig .tc .vmem S96x2x8x128 .f32) (harg8 : arg8.IsWhole) (arg9 : Memref sig .tc .vmem S3x32x128 .f32) (harg9 : arg9.IsWhole) (arg10 : Memref sig .tc .vmem S4x32x128 .f32) (harg10 : arg10.IsWhole) (arg11 : Memref sig .tc .vmem S2x32x8x128 .f32) (harg11 : arg11.IsWhole) (arg12 : Memref sig .tc .vmem S4x32x128 .f32) (harg12 : arg12.IsWhole) (hc0 : ¬cond0_0 i)
    (x0 : Vec F S1x104x16x8x128 .bf16) (x1 : Vec F S768 .f32) (xt0 : TbBuf0 (F := F) c tbM0_0) (xs0 : Vec F S768x128 .f32) (xs2 : Vec F S3x32x128 .f32) (xs3 : Vec F S4x32x128 .f32) (xs4 : Vec F S2x32x8x128 .f32) :
    Σ' (LS2 : List (View.Piece (Elt F) S3x32x128 .f32)), Σ' (LS3 : List (View.Piece (Elt F) S4x32x128 .f32)), { LS4 : List (View.Piece (Elt F) S2x32x8x128 .f32) //
      ∀ (y4 : Vec F S6x20x2048 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare y4 ∗ owns (c : Thread nD τ) arg7 fullShare xs0 ∗ (∃ d, owns (c : Thread nD τ) arg8 fullShare d) ∗ owns (c : Thread nD τ) arg9 fullShare xs2 ∗ owns (c : Thread nD τ) arg10 fullShare xs3 ∗ owns (c : Thread nD τ) arg11 fullShare xs4 ∗ (∃ d, owns (c : Thread nD τ) arg12 fullShare d) ∗ tbPt0 c tbM0_0 xt0
            ∗ (iprop(owns (c : Thread nD τ) arg2 fullShare x0 ∗ owns (c : Thread nD τ) arg3 fullShare x1 ∗ (∃ d, owns (c : Thread nD τ) arg4 fullShare d) ∗ owns (c : Thread nD τ) arg5 fullShare (Latent.codesBlk x0 xs0) ∗ owns (c : Thread nD τ) arg6 fullShare (Latent.scalesUpd (i 0).val x0 xs0 y4) ∗ owns (c : Thread nD τ) arg7 fullShare xs0 ∗ (∃ d, owns (c : Thread nD τ) arg8 fullShare d) ∗ owns (c : Thread nD τ) arg9 fullShare xs2 ∗ owns (c : Thread nD τ) arg10 fullShare xs3 ∗ owns (c : Thread nD τ) arg11 fullShare xs4 ∗ (∃ d, owns (c : Thread nD τ) arg12 fullShare d) ∗ tbPt0 c tbM0_0 xt0) -∗ K ⟨⟩))
          ⊢ wp frame (wpE (defs₀ (F := F)) Variants.none c none) E (cc0_mla_store i tbM0_0 htbM0_0 arg2 harg2 arg3 harg3 arg4 harg4 arg5 harg5 arg6 harg6 arg7 harg7 arg8 harg8 arg9 harg9 arg10 harg10 arg11 harg11 arg12 harg12) K } := by
  refine ⟨[], [], [], fun y4 E K => ?run⟩
  case run =>
    simp only [cc0_mla_store_eq_skeleton]; unfold cc0_mla_store_skel
    simp only [k0_part136_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%fs0, %hfs0, HS0⟩, ⟨%ds1, %fs1, -, HS1⟩, ⟨%fs2, %hfs2, HS2⟩, ⟨%fs3, %hfs3, HS3⟩, ⟨%fs4, %hfs4, HS4⟩, ⟨%ds5, %fs5, -, HS5⟩, HT0, Hk⟩
    obtain rfl := harg2.eq_unread hf0; obtain rfl := harg3.eq_unread hf1; obtain rfl := harg6.eq_unread hf4; obtain rfl := harg7.eq_unread hfs0; obtain rfl := harg9.eq_unread hfs2; obtain rfl := harg10.eq_unread hfs3; obtain rfl := harg11.eq_unread hfs4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _; isplitr; swap; · iexact H3
      ipureintro
      refine (Latent.loop_codes _ _ _ _ _ _ _ _ _ _ _ _ _ _ _ _ _ _ _ _ _ _ _ _ _ _ _ _ _ _ _ _ _ _ _ _ _ _ _ _ _).trans ?_
      rw [harg2.read_unread, harg7.read_unread]
    isplitl [H4]
    · iexists _; isplitr; swap; · iexact H4
      ipureintro
      refine (Latent.loop_scales _ _ _ _ _ _ _ _ _ _ _ _ _ _ _ _ _ _ _ _ _ _ _ _ _ _ _ _ _ _ _ _ _ _ _ _ _ _ _ _ _).trans ?_
      rw [harg2.read_unread, harg7.read_unread, harg6.read_unread]
    isplitl [HS0]
    · iexists _; isplitr; · ipureintro; exact harg7.read_unread _
      iexact HS0
    isplitl [HS1]
    · iexists _, _; isplitr; swap; · iexact HS1
      ipureintro; rfl
    isplitl [HS2]
    · iexists _; isplitr; · ipureintro; exact harg9.read_unread _
      iexact HS2
    isplitl [HS3]
    · iexists _; isplitr; · ipureintro; exact harg10.read_unread _
      iexact HS3
    isplitl [HS4]
    · iexists _; isplitr; · ipureintro; exact harg11.read_unread _
      iexact HS4
    isplitl [HS5]
    · iexists _, _; isplitr; swap; · iexact HS5
      ipureintro; rfl
    iexact HT0

end Cert.KernelIdeal.Gen

end
-- ==== Proof.Frame.lean ====
/- The kernel's pipeline, with what it leaves named: the relation between what the body finds and leaves in each output's
   staging buffer at each of the 20 points, the body's obligation from its run (RunA, RunB), and the run of the program. -/
module

public import proofs.«01_k».proof.Proof.RunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

variable (m : (ℓ : Loc nD τ sig) → Buf (Elt F) ℓ) (ρ : Dev nD → PrngReg)

/-- The first grid point. -/
def tZero (hO : Ok m) : Fin (cfgM m hO).N := ⟨0, by rw [show (cfgM m hO).N = 20 from N_0]; decide⟩

/-- The weights as the kernel keeps them: every weight repeated along the lanes. -/
def wgt (hO : Ok m) (c : Dev nD) : Vec F S768x128 .f32 := Latent.gbV (iblk m hO c 1 (tZero m hO))

/-- The region invariant before position `n`: at first every scratch at anything; afterwards the weights' scratch at the
    repeated weights and the other scratch at anything. -/
def PhiS (hO : Ok m) (c : Dev nD) : (n : ℕ) → n ≤ (cfgM m hO).N → sProp (MT nD τ sig Unit (Elt F) ℕ (UR sig nD τ) ℕ)
  | 0, _ => iprop(Pipeline.ΦA spec0 c ∗ Pipeline.ΦT pre0 (tbl m) c)
  | n + 1, hn => iprop(iprop(iprop(owns (c : Thread nD τ) scM0_0 fullShare (wgt m hO c) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) ∗ Pipeline.ΦT pre0 (tbl m) c)

/-- The invariant before the first point. -/
theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- The invariant before a later point. -/
theorem PhiS_pos (hO : Ok m) (c : Dev nD) (n : ℕ) (h : n ≤ (cfgM m hO).N) (hz : n ≠ 0) :
    PhiS m hO c n h = iprop(iprop(iprop(owns (c : Thread nD τ) scM0_0 fullShare (wgt m hO c) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) ∗ Pipeline.ΦT pre0 (tbl m) c) := by
  cases n with
  | zero => exact absurd rfl hz
  | succ n => rfl

/-- The proof data before the outputs' relations are put in: the arrays as the region finds them, each input's buffer at its
    block, the invariant `PhiS`, nothing owed, full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, h⟩ => Pipeline.Dat.unnamed (cfg := (cfgM m hO)) ⟨2, h⟩ t
    | ⟨3, h⟩ => Pipeline.Dat.unnamed (cfg := (cfgM m hO)) ⟨3, h⟩ t
    | ⟨4, h⟩ => Pipeline.Dat.unnamed (cfg := (cfgM m hO)) ⟨4, h⟩ t
  Φ t := PhiS m hO c t.val (Nat.le_of_lt_succ t.isLt)
  q _ := fullShare
  owed _ := 0

/-- What the body leaves in the codes' buffer at point `t`: the codes of the point's block. -/
def leftCodes (hO : Ok m) (c : Dev nD) (t : Fin (cfgM m hO).N) : Vec F S1x2048x768 .fp8e4m3 :=
  Latent.codesBlk (iblk m hO c 0 t) (wgt m hO c)

/-- What the body leaves in the scales' buffer at point `t`, from what it finds there: the point's row replaced. -/
def leftScales (hO : Ok m) (c : Dev nD) (t : Fin (cfgM m hO).N) (Y : Vec F S6x20x2048 .f32) : Vec F S6x20x2048 .f32 :=
  Latent.scalesUpd (grid0.coords t 0).val (iblk m hO c 0 t) (wgt m hO c) Y

/-- The outputs' relations: the rope buffer is left at anything, the codes' and the scales' as named above. -/
def ovr (hO : Ok m) (c : Dev nD) : (w : Fin (cfgM m hO).W) → Option (Fin (cfgM m hO).N → (Y X : ((cfgM m hO).win w).block.Idx → Elt F ((cfgM m hO).win w).elt) → Prop)
  | ⟨0, _⟩ => none
  | ⟨1, _⟩ => none
  | ⟨2, _⟩ => some fun _ _ _ => True
  | ⟨3, _⟩ => some fun t _ X => X = leftCodes m hO c t
  | ⟨4, _⟩ => some fun t Y X => X = leftScales m hO c t Y

/-- The proof data, with the outputs' relations. -/
def rdat (hO : Ok m) (c : Dev nD) : RDat τ (Elt F) Unit ℕ (UR sig nD τ) ℕ (cfgM m hO) c :=
  (dats m hO 0 c).toR.override (ovr m hO c)

/-- The arrays are as the region finds them. -/
theorem A_eq (hO : Ok m) (c : Dev nD) (w : Fin (cfgM m hO).W) : (dats m hO 0 c).A w = V m c (Pipeline.arrRef spec0 w) := by
  dsimp only [dats]

/-- The invariant before a point, by the point's number. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- The body leaves input buffer 0 at its block. -/
theorem after0_0 (hO : Ok m) (c : Dev nD) (t : Fin (cfgM m hO).N) : (dats m hO 0 c).after 0 t = iblk m hO c 0 t := by dsimp only [dats]; try rfl
/-- The body leaves input buffer 1 at its block. -/
theorem after0_1 (hO : Ok m) (c : Dev nD) (t : Fin (cfgM m hO).N) : (dats m hO 0 c).after 1 t = iblk m hO c 1 t := by dsimp only [dats]; try rfl

/-- Each input's current staging buffer holds its block at every point, fetched there or not. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- The body finds input buffer 1 at its block. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-- What the body may find in input buffer 0 is its block. -/
theorem finds0 (hO : Ok m) (c : Dev nD) (t : Fin (cfgM m hO).N) (X) (h : (rdat m hO c).Finds 0 t X) : X = iblk m hO c 0 t := by
  obtain ⟨d, hd⟩ := (dats m hO 0 c).toR_finds 0 t X (((dats m hO 0 c).toR.override_finds (ovr := ovr m hO c) (w := 0) rfl t X).mp h)
  rw [hd]; exact before0_0 m hO c t d
/-- What the body may find in input buffer 1 is its block. -/
theorem finds1 (hO : Ok m) (c : Dev nD) (t : Fin (cfgM m hO).N) (X) (h : (rdat m hO c).Finds 1 t X) : X = iblk m hO c 1 t := by
  obtain ⟨d, hd⟩ := (dats m hO 0 c).toR_finds 1 t X (((dats m hO 0 c).toR.override_finds (ovr := ovr m hO c) (w := 1) rfl t X).mp h)
  rw [hd]; exact before0_1 m hO c t d

/-! ## The body obligation, at a generic point -/

/-- What the body is called with at point `t`, the windows one by one, -/
def bodyPre (hO : Ok m) (c : Dev nD) (t : Fin (cfgM m hO).N) (y2 : Vec F S1x8x16x8x128 .bf16) (y3 : Vec F S1x2048x768 .fp8e4m3) (y4 : Vec F S6x20x2048 .f32) : sProp (MT nD τ sig Unit (Elt F) ℕ (UR sig nD τ) ℕ) :=
  iprop((dats m hO 0 c).Φ t.castSucc ∗ (dats m hO 0 c).owesAt () t.castSucc
    ∗ owns (c : Thread nD τ) (ms0_0 m hO t) fullShare (iblk m hO c 0 t)
    ∗ owns (c : Thread nD τ) (ms0_1 m hO t) fullShare (iblk m hO c 1 t)
    ∗ owns (c : Thread nD τ) (ms0_2 m hO t) fullShare y2
    ∗ owns (c : Thread nD τ) (ms0_3 m hO t) fullShare y3
    ∗ owns (c : Thread nD τ) (ms0_4 m hO t) fullShare y4)

/-- and what it returns. -/
def bodyPost (hO : Ok m) (c : Dev nD) (t : Fin (cfgM m hO).N) (y4 : Vec F S6x20x2048 .f32) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare (iblk m hO c 0 t)
    ∗ owns (c : Thread nD τ) (ms0_1 m hO t) fullShare (iblk m hO c 1 t)
    ∗ (∃ d, owns (c : Thread nD τ) (ms0_2 m hO t) fullShare d)
    ∗ owns (c : Thread nD τ) (ms0_3 m hO t) fullShare (leftCodes m hO c t)
    ∗ owns (c : Thread nD τ) (ms0_4 m hO t) fullShare (leftScales m hO c t y4))

set_option maxHeartbeats 6400000 in
/-- The body at any point: its run in the point's case, over the scratch the invariant hands it. -/
theorem sound_body (hO : Ok m) (c : Dev nD) (t : Fin (cfgM m hO).N) (y2 : Vec F S1x8x16x8x128 .bf16) (y3 : Vec F S1x2048x768 .fp8e4m3) (y4 : Vec F S6x20x2048 .f32) :
    bodyPre m hO c t y2 y3 y4 ⊢ wp frame (wpE (defs₀ (F := F)) Variants.none c none) Set.univ (bodyAt0 (adm m hO) t) (fun _ => bodyPost m hO c t y4) := by
  unfold bodyPre bodyPost bodyAt0 leftCodes leftScales
  rw [show (dats m hO 0 c).owesAt () t.succ = (dats m hO 0 c).owesAt () t.castSucc from rfl]
  rw [show (dats m hO 0 c).Φ t.succ = PhiS m hO c (t.val + 1) t.isLt from rfl, PhiS_pos m hO c _ _ (Nat.succ_ne_zero _), PhiT0_eq]
  have hN : t.val < 20 := lt_of_lt_of_eq t.isLt (show (cfgM m hO).N = 20 from N_0)
  by_cases hz : t.val = 0
  · have h0 : t.val % 20 = 0 := by omega
    obtain rfl : t = tZero m hO := Fin.ext hz
    rw [PhiS_castSucc m hO c _, PhiS_zero m hO c _ _ hz, PhiT0_eq, PhiA0_eq]
    iintro ⟨⟨⟨⟨HS0, HS1, HS2, HS3, HS4, HS5⟩, Hg⟩, HT0⟩, Ho, H0, H1, H2, H3, H4⟩
    iapply ((kernelRun0_A c (grid0.coords (tZero m hO)) _ _ _ _ _ _ _ _ _ _ _ _ _ _ _ _ _ _ _ _ _ _ ((hcond0_0 (tZero m hO)).mpr h0) (iblk m hO c 0 (tZero m hO)) (iblk m hO c 1 (tZero m hO)) (tbl m 0)).2.2.2 y4 Set.univ _)
    isplitl [H0]; · iexact H0
    isplitl [H1]; · iexact H1
    isplitl [H2]; · iexists _; iexact H2
    isplitl [H3]; · iexists _; iexact H3
    isplitl [H4]; · iexact H4
    isplitl [HS0]; · iexact HS0
    isplitl [HS1]; · iexact HS1
    isplitl [HS2]; · iexact HS2
    isplitl [HS3]; · iexact HS3
    isplitl [HS4]; · iexact HS4
    isplitl [HS5]; · iexact HS5
    isplitl [HT0]; · iexact HT0
    iintro ⟨H0, H1, H2, H3, H4, HS0, HS1, ⟨%es2, HS2⟩, ⟨%es3, HS3⟩, ⟨%es4, HS4⟩, HS5, HT0⟩
    isplitl [HS0 HS1 HS2 HS3 HS4 HS5 Hg HT0]
    · isplitl [HS0 HS1 HS2 HS3 HS4 HS5 Hg]
      · isplitl [HS0 HS1 HS2 HS3 HS4 HS5]
        · isplitl [HS0]
          · iexact HS0
          isplitl [HS1]
          · iexact HS1
          isplitl [HS2]
          · unfold owns; iexists _, _; isplitr; swap; · iexact HS2
            ipureintro; rfl
          isplitl [HS3]
          · unfold owns; iexists _, _; isplitr; swap; · iexact HS3
            ipureintro; rfl
          isplitl [HS4]
          · unfold owns; iexists _, _; isplitr; swap; · iexact HS4
            ipureintro; rfl
          iexact HS5
        iexact Hg
      iexact HT0
    isplitl [Ho]; · iexact Ho
    isplitl [H0]; · iexact H0
    isplitl [H1]; · iexact H1
    isplitl [H2]; · iexact H2
    isplitl [H3]; · iexact H3
    iexact H4
  · have h0 : ¬t.val % 20 = 0 := by omega
    rw [PhiS_castSucc m hO c t, PhiS_pos m hO c _ _ hz, PhiT0_eq]
    iintro ⟨⟨⟨⟨HS0, HS1, ⟨%e2, HS2⟩, ⟨%e3, HS3⟩, ⟨%e4, HS4⟩, HS5⟩, Hg⟩, HT0⟩, Ho, H0, H1, H2, H3, H4⟩
    iapply ((kernelRun0_B c (grid0.coords t) _ _ _ _ _ _ _ _ _ _ _ _ _ _ _ _ _ _ _ _ _ _ (fun h => h0 ((hcond0_0 t).mp h)) (iblk m hO c 0 t) (iblk m hO c 1 t) (tbl m 0) _ _ _ _).2.2.2 y4 Set.univ _)
    isplitl [H0]; · iexact H0
    isplitl [H1]; · iexact H1
    isplitl [H2]; · iexists _; iexact H2
    isplitl [H3]; · iexists _; iexact H3
    isplitl [H4]; · iexact H4
    isplitl [HS0]; · iexact HS0
    isplitl [HS1]; · iexact HS1
    isplitl [HS2]; · iexact HS2
    isplitl [HS3]; · iexact HS3
    isplitl [HS4]; · iexact HS4
    isplitl [HS5]; · iexact HS5
    isplitl [HT0]; · iexact HT0
    iintro ⟨H0, H1, H2, H3, H4, HS0, HS1, HS2, HS3, HS4, HS5, HT0⟩
    isplitl [HS0 HS1 HS2 HS3 HS4 HS5 Hg HT0]
    · isplitl [HS0 HS1 HS2 HS3 HS4 HS5 Hg]
      · isplitl [HS0 HS1 HS2 HS3 HS4 HS5]
        · isplitl [HS0]
          · iexact HS0
          isplitl [HS1]
          · iexact HS1
          isplitl [HS2]
          · iexists _; iexact HS2
          isplitl [HS3]
          · iexists _; iexact HS3
          isplitl [HS4]
          · iexists _; iexact HS4
          iexact HS5
        iexact Hg
      iexact HT0
    isplitl [Ho]; · iexact Ho
    isplitl [H0]; · iexact H0
    isplitl [H1]; · iexact H1
    isplitl [H2]; · iexact H2
    isplitl [H3]; · iexact H3
    iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (c : Dev nD) : (rdat (F := F) m hO c).BodyObligation (defs₀ (F := F)) Variants.none () Set.univ := fun t Y hY => by
  have e0 := finds0 m hO c t _ (hY 0)
  have e1 := finds1 m hO c t _ (hY 1)
  rw [bigSep_W0, bigSep_W0, defs₀_row m hO, e0, e1]
  refine triple_restated (sound_body m hO c t (Y 2) (Y 3) (Y 4)) rfl .rfl fun _ => ?_
  unfold bodyPost
  show _ ⊢ iprop((dats m hO 0 c).Φ t.succ ∗ (dats m hO 0 c).owesAt () t.succ ∗ _)
  iintro ⟨HP, Ho, H0, H1, ⟨%d, H2⟩, H3, H4⟩
  isplitl [HP]; · iexact HP
  isplitl [Ho]; · iexact Ho
  isplitl [H0]
  · iexists _; isplitr; swap; · iexact H0
    ipureintro; exact (Pipeline.Dat.Leaves.live_iff (dats m hO 0 c) (w := 0) (t := t) (.inl rfl)).mpr (after0_0 m hO c t).symm
  isplitl [H1]
  · iexists _; isplitr; swap; · iexact H1
    ipureintro; exact (Pipeline.Dat.Leaves.live_iff (dats m hO 0 c) (w := 1) (t := t) (.inl rfl)).mpr (after0_1 m hO c t).symm
  isplitl [H2]
  · iexists _; isplitr; swap; · iexact H2
    ipureintro; trivial
  isplitl [H3]
  · iexists _; isplitr; swap; · iexact H3
    ipureintro; rfl
  iexists _; isplitr; swap; · iexact H4
  ipureintro; rfl

/-- What the launch hands the region is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After the last point the invariant gives the scratch back. -/
theorem hout (hO : Ok m) (c : Dev nD) : (dats m hO 0 c).Φ (Fin.last (cfgM m hO).N) ⊢ Pipeline.ΦA spec0 c := by
  have ht : (Fin.last (cfgM m hO).N).val ≠ 0 := by rw [Fin.val_last]; have : (cfgM m hO).N = 20 := N_0; omega
  rw [show (dats m hO 0 c).Φ (Fin.last (cfgM m hO).N) = PhiS m hO c (Fin.last (cfgM m hO).N).val (Nat.le_of_lt_succ (Fin.last (cfgM m hO).N).isLt) from rfl, PhiS_pos m hO c _ _ ht, PhiA0_eq]
  iintro ⟨⟨⟨HS0, HS1, HS2, HS3, HS4, HS5⟩, Hg⟩, -⟩
  isplitl [HS0 HS1 HS2 HS3 HS4 HS5]
  · isplitl [HS0]
    · iexists _; iexact HS0
    isplitl [HS1]
    · iexact HS1
    isplitl [HS2]
    · iexact HS2
    isplitl [HS3]
    · iexact HS3
    isplitl [HS4]
    · iexact HS4
    iexact HS5
  iexact Hg

/-! ## The run and the frame -/

set_option backward.isDefEq.respectTransparency.types false in
/-- The run: every array in its relation at the end, every other buffer as it was, and every counter at zero. -/
theorem run_main_quiescent (hO : Ok m) : θ_run defs (onTc (τ := τ) (main (F := F))) (s₀ m ρ) (fun r => (Pipeline.RDat.FramePost ((Pipeline.pin pcfgs fun _ => adm m hO) 0) (fun c => rdat m hO c) (V m)) r ∧ r.2.sem = fun _ => 0) :=
  Pipeline.RDat.θ_run_frameP_track (Q' := _) pcfgs (fun _ => adm m hO) (0 : Fin 1) launch0 defs₀ Variants.none (fun c => rdat m hO c) m ρ main
    (hbody := fun c => body_obligation m hO c) (hshare := fun c => (dats m hO 0 c).share_full fun _ => rfl)
    (howed := fun _ _ => rfl) (V := V m) (hmain := hmain m Variants.none) (hA := A_eq m hO) (hpf := V_pre m) (hin := hin m hO) (hout := hout m hO)

/-- The run: every array in its relation at the end, every other buffer as it was. -/
theorem run_main (hO : Ok m) : θ_run defs (onTc (τ := τ) (main (F := F))) (s₀ m ρ) (Pipeline.RDat.FramePost ((Pipeline.pin pcfgs fun _ => adm m hO) 0) (fun c => rdat m hO c) (V m)) :=
  (θ_run defs _ _).mono (fun _ h => h.1) (run_main_quiescent m ρ hO)

/-- The argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ hO (fun c => rdat m hO c) (A_eq m hO) (run_main m ρ hO)

/-- The frame: termination, the arguments unchanged, every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hO) ((θ_run defs _ _).mono (fun _ h => h.2) (run_main_quiescent m ρ hO))

end Cert.KernelIdeal.Gen

end
-- ==== Proof.Arrays.lean ====
/-
What the two result arrays hold after the run: block `b` of the codes is what point `b` leaves, and row `b` of the scales is
the row point `b` computes.
-/
module

public import proofs.«01_k».proof.Proof.Frame
public import Idealize.ShloMosaic.Lib.Pipeline.ArrRel
public import Idealize.ShloMosaic.Lib.Pipeline.ValueKit.Geometry

@[expose] public section

set_option maxRecDepth 16384

noncomputable section

namespace Cert.KernelIdeal.Gen

open Idealize.ShloMosaic Idealize.ShloMosaic.TcCoe
open Idealize.SL Idealize.SL.RA Idealize.SL.Sem
open Idealize.ShloMosaic.Pipeline (Dat RDat Cfg Window)

variable {F : FTy → Type} [FloatOps F] [Named F]
variable (m : (ℓ : Loc nD τ sig) → Buf (Elt F) ℓ) (ρ : Dev nD → PrngReg)

/-- The grid point of batch entry `b`. -/
def pt (hO : Ok m) (b : Fin 20) : Fin (cfgM m hO).N := b.cast (show 20 = (cfgM m hO).N from N_0.symm)

/-- The point's block of latents. -/
def blk0 (hO : Ok m) (c : Dev nD) (t : Fin (cfgM m hO).N) : Vec F S1x104x16x8x128 .bf16 := iblk m hO c 0 t

/-- A scales' entry of the row that the point fills and of a group is the scale the kernel computes. -/
theorem scalesUpd_hit (x0 : Vec F S1x104x16x8x128 .bf16) (gb : Vec F S768x128 .f32) (Y : Vec F S6x20x2048 .f32) (n : ℕ) (g : Fin 6) (b : Fin 20) (s : Fin 2048)
    (h : b.val = n) : Latent.scalesUpd n x0 gb Y (ix3 g b s) = Latent.scaleAt x0 gb g.val s.val := if_pos h

/-- A scales' entry of another row is left as it was. -/
theorem scalesUpd_miss (x0 : Vec F S1x104x16x8x128 .bf16) (gb : Vec F S768x128 .f32) (Y : Vec F S6x20x2048 .f32) (n : ℕ) (g : Fin 6) (b : Fin 20) (s : Fin 2048)
    (h : b.val ≠ n) : Latent.scalesUpd n x0 gb Y (ix3 g b s) = Y (ix3 g b s) := if_neg h

/-- The grid has one axis, so a point's coordinate is its number. -/
theorem coord_val (hO : Ok m) (t : Fin (cfgM m hO).N) : (grid0.coords t 0).val = t.val := by
  have hN : t.val < 20 := lt_of_lt_of_eq t.isLt (show (cfgM m hO).N = 20 from N_0)
  exact (Pipeline.Grid.coords_val (G := grid0) t 0 (S := 1) (B := 20) (by decide) rfl).trans (by omega)

set_option maxHeartbeats 1000000 in
/-- The codes' window of a point is its batch entry's row of the codes' array. -/
theorem emb3 (hO : Ok m) (t : Fin (cfgM m hO).N) (y : S1x2048x768.Idx) :
    (((cfgM m hO).win 3).blk t).view.emb y = ix3 (⟨t.val, lt_of_lt_of_eq t.isLt N_0⟩ : Fin 20) (y 1) (y 2) := by
  have e0 : ∀ a, ((((cfgM m hO).win 3).rect t).emb y a).val = ((cfgM m hO).win 3).index t a * ((cfgM m hO).win 3).size a + (y a).val :=
    fun a => ((cfgM m hO).win 3).rect_emb_val t y a
  have h0 : (y 0).val < 1 := (y 0).isLt
  have hN : t.val < 20 := lt_of_lt_of_eq t.isLt (show (cfgM m hO).N = 20 from N_0)
  have hc := coord_val m hO t
  have i0 : ((cfgM m hO).win 3).index t (0 : Fin 3) = t.val := by
    refine Eq.trans (show _ = (BitVec.ofNat 32 (grid0.coords t 0).val).toNat from rfl) ?_
    rw [hc, BitVec.toNat_ofNat]; omega
  refine Eq.trans (show _ = (((cfgM m hO).win 3).rect t).emb y from rfl) ?_
  funext a
  apply Fin.ext
  refine (e0 a).trans ?_
  match a with
  | ⟨0, _⟩ =>
    refine Eq.trans (congrArg (fun z => z * 1 + (y 0).val) i0) ?_
    show t.val * 1 + (y 0).val = t.val
    omega
  | ⟨1, _⟩ => exact Nat.zero_add _
  | ⟨2, _⟩ => exact Nat.zero_add _

/-- The codes the run leaves, as one array. -/
def codesAt (hO : Ok m) (c : Dev nD) : S20x2048x768.Idx → F .fp8e4m3 := fun i =>
  leftCodes m hO c (pt m hO (i 0)) (ix3 0 (i 1) (i 2))

/-- What point `t` leaves is the array's block there. -/
theorem left_at (hO : Ok m) (c : Dev nD) (t : Fin (cfgM m hO).N) (y : S1x2048x768.Idx) :
    leftCodes m hO c t y = codesAt m hO c (ix3 (⟨t.val, lt_of_lt_of_eq t.isLt N_0⟩ : Fin 20) (y 1) (y 2)) := by
  have h0 : (show Fin 1 from y 0) = 0 := Subsingleton.elim _ _
  have hp : pt m hO (⟨t.val, lt_of_lt_of_eq t.isLt N_0⟩ : Fin 20) = t := Fin.ext rfl
  show leftCodes m hO c t y = leftCodes m hO c (pt m hO ⟨t.val, _⟩) (ix3 0 (y 1) (y 2))
  rw [hp]
  congr 1
  funext a
  match a with
  | ⟨0, _⟩ => exact h0
  | ⟨1, _⟩ => rfl
  | ⟨2, _⟩ => rfl

set_option maxHeartbeats 1000000 in
/-- The codes' array after the run. -/
theorem codes_array (hO : Ok m) (r : PUnit × MemSt nD τ sig (Elt F))
    (h : RDat.FramePost ((Pipeline.pin pcfgs fun _ => adm m hO) 0) (fun c => rdat m hO c) (V m) r) (c : Dev nD) (b : Fin 20) (s : Fin 2048) (d : Fin 768) :
    r.2.mem ((c : Thread nD τ).loc main_v3_1) (ix3 b s d) = leftCodes m hO c (pt m hO b) (ix3 0 s d) := by
  obtain ⟨after, hL, hA⟩ := h.exists_exact c
  have hl : ∀ t, after 3 t = leftCodes m hO c t := fun t => by
    obtain ⟨Y, _, hY⟩ := hL 3 t (flush0_3 _ t)
    exact hY
  refine (congrFun (hA 3) _).trans ?_
  have key := ((rdat m hO c).withAfter after).arrAt_forall_of_flushed (w := 3)
    (fun i v => v = codesAt m hO c i)
    (fun t hf y => (congrFun (hl t) y).trans ((left_at m hO c t y).trans (congrArg (codesAt m hO c) (emb3 m hO t y).symm)))
    (cfgM m hO).N (pt m hO b) (ix3 b s d) (pt m hO b).isLt (flush0_3 _ _)
    (by
      have e := emb3 m hO (pt m hO b) (ix3 0 s d)
      have := (((cfgM m hO).win 3).blk (pt m hO b)).view.emb_mem_set (ix3 0 s d)
      rw [e] at this
      exact this)
  exact key

/-- The scales' window is an output: it is never fetched. -/
theorem nofetch4 (hO : Ok m) (t : Fin (cfgM m hO).N) : ((cfgM m hO).win 4).fetch t = false :=
  Pipeline.Window.fetch_out _ rfl t

set_option maxHeartbeats 1000000 in
/-- What the body may leave in the scales' buffer at point `t`: rows up to `t` are the points' own. -/
theorem leaves4 (hO : Ok m) (c : Dev nD) : ∀ (n : ℕ) (hn : n < 20) (X : S6x20x2048.Idx → F .f32),
    (rdat m hO c).Leaves 4 (pt m hO ⟨n, hn⟩) X → ∀ (g : Fin 6) (b : Fin 20) (s : Fin 2048), b.val ≤ n →
      X (ix3 g b s) = Latent.scaleAt (blk0 m hO c (pt m hO b)) (wgt m hO c) g.val s.val := by
  intro n
  induction n with
  | zero =>
    intro hn X hX g b s hb
    obtain ⟨Y, _, hY⟩ := hX
    have hY' : X = leftScales m hO c (pt m hO ⟨0, hn⟩) Y := hY
    obtain rfl : b = ⟨0, hn⟩ := Fin.ext (by show b.val = 0; omega)
    rw [hY']
    exact scalesUpd_hit (blk0 m hO c (pt m hO ⟨0, hn⟩)) (wgt m hO c) Y _ g ⟨0, hn⟩ s (coord_val m hO (pt m hO ⟨0, hn⟩)).symm
  | succ n ih =>
    intro hn X hX g b s hb
    obtain ⟨Y, hF, hY⟩ := hX
    have hY' : X = leftScales m hO c (pt m hO ⟨n + 1, hn⟩) Y := hY
    have hc := coord_val m hO (pt m hO ⟨n + 1, hn⟩)
    rw [hY']
    by_cases e : b.val = n + 1
    · obtain rfl : b = ⟨n + 1, hn⟩ := Fin.ext e
      exact scalesUpd_hit (blk0 m hO c (pt m hO ⟨n + 1, hn⟩)) (wgt m hO c) Y _ g ⟨n + 1, hn⟩ s hc.symm
    · refine (scalesUpd_miss (blk0 m hO c (pt m hO ⟨n + 1, hn⟩)) (wgt m hO c) Y _ g b s (fun k => e (k.trans hc))).trans ?_
      have hf := ((rdat m hO c).finds_of_pos (w := 4) (t := pt m hO ⟨n + 1, hn⟩) (nofetch4 m hO _) (by show n + 1 ≠ 0; omega) Y).mp hF
      rcases hf with hf | hf
      · have := (flush0_4 (adm m hO) _).mp hf
        exfalso
        have k : n % 20 = 19 := this
        omega
      · exact ih (by omega) Y hf g b s (by omega)

set_option maxHeartbeats 1000000 in
/-- The scales' array after the run. -/
theorem scales_array (hO : Ok m) (r : PUnit × MemSt nD τ sig (Elt F))
    (h : RDat.FramePost ((Pipeline.pin pcfgs fun _ => adm m hO) 0) (fun c => rdat m hO c) (V m) r) (c : Dev nD) (g : Fin 6) (b : Fin 20) (s : Fin 2048) :
    r.2.mem ((c : Thread nD τ).loc main_v3_2) (ix3 g b s) = Latent.scaleAt (blk0 m hO c (pt m hO b)) (wgt m hO c) g.val s.val := by
  have hw : ((cfgM m hO).win 4).WholeAt (pt m hO 19) := by
    refine ⟨(flush0_4 _ _).mpr rfl, fun t ht => ?_, fun a => ?_⟩
    · have := (flush0_4 _ t).mp ht
      have hN : t.val < 20 := lt_of_lt_of_eq t.isLt (show (cfgM m hO).N = 20 from N_0)
      exact Fin.ext (by show t.val = 19; omega)
    · match a with
      | ⟨0, _⟩ => exact ⟨rfl, rfl⟩
      | ⟨1, _⟩ => exact ⟨rfl, rfl⟩
      | ⟨2, _⟩ => exact ⟨rfl, rfl⟩
  obtain ⟨X, hX, hG⟩ := RDat.ArrAt.emb_eq_of_wholeAt ((h c).1 4) hw
  have e := hG (ix3 g b s)
  refine Eq.trans ?_ (leaves4 m hO c 19 (by decide) X hX g b s (by omega))
  exact e

end Cert.KernelIdeal.Gen
-- ==== Proof.Num.lean ====
/-
The exponent search over extended reals: for a positive quotient `q` the search returns the integer `e` with
`2^e ≤ q < 2^(e+1)`, and the words the kernel builds from an exponent are the powers of two.
-/
module

public import proofs.«01_k».proof.Proof.Tiles
public import Idealize.ShloMosaic.PureOps.Ideal.Laws

@[expose] public section

set_option maxRecDepth 16384

noncomputable section

namespace Cert.KernelIdeal.Latent

open Idealize.ShloMosaic Cert.KernelIdeal.Gen

/-- The fields of a word that is a bare exponent. -/
theorem exp_fields : ∀ n : Fin 255,
    ((BitVec.ofNat 32 (n.val * 2 ^ 23)).extractLsb' (8 + 23) 1 == 1#1) = false
      ∧ ((BitVec.ofNat 32 (n.val * 2 ^ 23)).extractLsb' 23 8).toNat = n.val
      ∧ ((BitVec.ofNat 32 (n.val * 2 ^ 23)).extractLsb' 0 23).toNat = 0 := by
  decide +kernel

/-- A word that is a bare exponent is a power of two. -/
theorem pow2_word (n : ℕ) (h0 : 0 < n) (h : n < 255) :
    Ideal.ofBits .f32 (BitVec.ofNat 32 (n * 2 ^ 23)) = (((2 : ℝ) ^ ((n : ℤ) - 127) : ℝ) : EReal) := by
  obtain ⟨h1, h2, h3⟩ := exp_fields ⟨n, h⟩
  dsimp only at h1 h2 h3
  unfold Ideal.ofBits Ideal.ieee
  simp only [h1, h2, h3]
  rw [if_neg (by omega), if_neg (by omega)]
  congr 1
  have e : ((n : ℤ) - (2 ^ (8 - 1) - 1) - (23 : ℕ)) = ((n : ℤ) - 127) - 23 := by norm_num
  rw [e, zpow_sub₀ (by norm_num : (2 : ℝ) ≠ 0)]
  norm_num
  field_simp

/-- A difference of integers as 32-bit words. -/
theorem ofInt_sub32 (a b : ℤ) : BitVec.ofInt 32 (a - b) = BitVec.ofInt 32 a - BitVec.ofInt 32 b := by
  rw [eq_comm, BitVec.sub_eq_add_neg, ← BitVec.ofInt_neg, ← BitVec.ofInt_add, sub_eq_add_neg]

/-- The state of the search: the value left and the exponent found so far. -/
def St (q lo hi : ℝ) (y : EReal) (n : BitVec 32) : Prop :=
  ∃ v : ℝ, ∃ e : ℤ, y = (v : EReal) ∧ n = BitVec.ofInt 32 e ∧ v * (2 : ℝ) ^ e = q ∧ lo ≤ v ∧ v < hi

/-- A halving step on a value, at one entry. -/
theorem upY_at (c ci : BitVec 32) (y : FVec Ideal S8x128 .f32) (j : S8x128.Idx) (b bi v : ℝ)
    (hc : Ideal.ofBits .f32 c = (b : EReal)) (hci : Ideal.ofBits .f32 ci = (bi : EReal)) (hy : y j = (v : EReal)) :
    upY c ci y j = ((if b ≤ v then v * bi else v : ℝ) : EReal) := by
  show (if BitVec.ofBool (decide (Ideal.ofBits .f32 c ≤ y j)) = 1 then y j * Ideal.ofBits .f32 ci else y j) = _
  rw [hc, hci, hy]
  by_cases h : b ≤ v
  · have : ((b : EReal) ≤ (v : EReal)) := EReal.coe_le_coe_iff.mpr h
    simp only [this, h, decide_true, if_true]; simp
  · have : ¬((b : EReal) ≤ (v : EReal)) := fun hh => h (EReal.coe_le_coe_iff.mp hh)
    simp only [this, h, decide_false, if_false]; simp

/-- A halving step on the exponent, at one entry. -/
theorem upN_at (c k : BitVec 32) (y : FVec Ideal S8x128 .f32) (n : IVec S8x128 32) (j : S8x128.Idx) (b v : ℝ)
    (hc : Ideal.ofBits .f32 c = (b : EReal)) (hy : y j = (v : EReal)) :
    upN c k y n j = (if b ≤ v then n j + k else n j) := by
  show (if BitVec.ofBool (decide (Ideal.ofBits .f32 c ≤ y j)) = 1 then n j + k else n j) = _
  rw [hc, hy]
  by_cases h : b ≤ v
  · have : ((b : EReal) ≤ (v : EReal)) := EReal.coe_le_coe_iff.mpr h
    simp only [this, h, decide_true, if_true]; simp
  · have : ¬((b : EReal) ≤ (v : EReal)) := fun hh => h (EReal.coe_le_coe_iff.mp hh)
    simp only [this, h, decide_false, if_false]; simp

/-- A doubling step on a value, at one entry. -/
theorem dnY_at (c ci : BitVec 32) (y : FVec Ideal S8x128 .f32) (j : S8x128.Idx) (b bi v : ℝ)
    (hc : Ideal.ofBits .f32 c = (b : EReal)) (hci : Ideal.ofBits .f32 ci = (bi : EReal)) (hy : y j = (v : EReal)) :
    dnY c ci y j = ((if v < b then v * bi else v : ℝ) : EReal) := by
  show (if BitVec.ofBool (decide (y j < Ideal.ofBits .f32 c)) = 1 then y j * Ideal.ofBits .f32 ci else y j) = _
  rw [hc, hci, hy]
  by_cases h : v < b
  · have : ((v : EReal) < (b : EReal)) := EReal.coe_lt_coe_iff.mpr h
    simp only [this, h, decide_true, if_true]; simp
  · have : ¬((v : EReal) < (b : EReal)) := fun hh => h (EReal.coe_lt_coe_iff.mp hh)
    simp only [this, h, decide_false, if_false]; simp

/-- A doubling step on the exponent, at one entry. -/
theorem dnN_at (c k : BitVec 32) (y : FVec Ideal S8x128 .f32) (n : IVec S8x128 32) (j : S8x128.Idx) (b v : ℝ)
    (hc : Ideal.ofBits .f32 c = (b : EReal)) (hy : y j = (v : EReal)) :
    dnN c k y n j = (if v < b then n j - k else n j) := by
  show (if BitVec.ofBool (decide (y j < Ideal.ofBits .f32 c)) = 1 then n j - k else n j) = _
  rw [hc, hy]
  by_cases h : v < b
  · have : ((v : EReal) < (b : EReal)) := EReal.coe_lt_coe_iff.mpr h
    simp only [this, h, decide_true, if_true]; simp
  · have : ¬((v : EReal) < (b : EReal)) := fun hh => h (EReal.coe_lt_coe_iff.mp hh)
    simp only [this, h, decide_false, if_false]; simp

/-- A step up halves the range of exponents left above. -/
theorem up_step (K : ℕ) (q lo : ℝ) (hlo : lo ≤ 1) (c ci k : BitVec 32) (hc : Ideal.ofBits .f32 c = (((2 : ℝ) ^ (K : ℤ) : ℝ) : EReal))
    (hci : Ideal.ofBits .f32 ci = (((2 : ℝ) ^ (-(K : ℤ)) : ℝ) : EReal)) (hk : k = BitVec.ofInt 32 K)
    (y : FVec Ideal S8x128 .f32) (n : IVec S8x128 32) (j : S8x128.Idx) (h : St q lo ((2 : ℝ) ^ (2 * K : ℤ)) (y j) (n j)) :
    St q lo ((2 : ℝ) ^ (K : ℤ)) (upY c ci y j) (upN c k y n j) := by
  obtain ⟨v, e, hy, hn, hq, hl, hh⟩ := h
  rw [upY_at c ci y j _ _ v hc hci hy, upN_at c k y n j _ v hc hy]
  have h2 : (2 : ℝ) ≠ 0 := by norm_num
  have hp : (0 : ℝ) < (2 : ℝ) ^ (-(K : ℤ)) := by positivity
  have hm : (2 : ℝ) ^ (K : ℤ) * (2 : ℝ) ^ (-(K : ℤ)) = 1 := by rw [← zpow_add₀ h2]; simp
  by_cases hb : (2 : ℝ) ^ (K : ℤ) ≤ v
  · simp only [hb, if_true]
    refine ⟨v * (2 : ℝ) ^ (-(K : ℤ)), e + K, rfl, ?_, ?_, ?_, ?_⟩
    · rw [hn, hk, BitVec.ofInt_add]
    · rw [zpow_add₀ h2, ← hq]; linear_combination (v * (2 : ℝ) ^ e) * hm
    · have := mul_le_mul_of_nonneg_right hb hp.le
      rw [hm] at this; linarith
    · have := mul_lt_mul_of_pos_right hh hp
      rwa [← zpow_add₀ h2, show (2 * K + -K : ℤ) = K by ring] at this
  · simp only [hb, if_false]
    exact ⟨v, e, rfl, hn, hq, hl, not_le.mp hb⟩

/-- A step down halves the range of exponents left below. -/
theorem dn_step (K : ℕ) (q : ℝ) (c ci k : BitVec 32) (hc : Ideal.ofBits .f32 c = (((2 : ℝ) ^ (1 - K : ℤ) : ℝ) : EReal))
    (hci : Ideal.ofBits .f32 ci = (((2 : ℝ) ^ (K : ℤ) : ℝ) : EReal)) (hk : k = BitVec.ofInt 32 K)
    (y : FVec Ideal S8x128 .f32) (n : IVec S8x128 32) (j : S8x128.Idx) (h : St q ((2 : ℝ) ^ (1 - 2 * K : ℤ)) 2 (y j) (n j)) :
    St q ((2 : ℝ) ^ (1 - K : ℤ)) 2 (dnY c ci y j) (dnN c k y n j) := by
  obtain ⟨v, e, hy, hn, hq, hl, hh⟩ := h
  rw [dnY_at c ci y j _ _ v hc hci hy, dnN_at c k y n j _ v hc hy]
  have h2 : (2 : ℝ) ≠ 0 := by norm_num
  have hp : (0 : ℝ) < (2 : ℝ) ^ (K : ℤ) := by positivity
  by_cases hb : v < (2 : ℝ) ^ (1 - K : ℤ)
  · simp only [hb, if_true]
    refine ⟨v * (2 : ℝ) ^ (K : ℤ), e - K, rfl, ?_, ?_, ?_, ?_⟩
    · rw [hn, hk, ofInt_sub32]
    · rw [← hq, mul_assoc, ← zpow_add₀ h2]; congr 2; ring
    · have := mul_le_mul_of_nonneg_right hl hp.le
      rwa [← zpow_add₀ h2, show (1 - 2 * K + K : ℤ) = 1 - K by ring] at this
    · have := mul_lt_mul_of_pos_right hb hp
      rwa [← zpow_add₀ h2, show (1 - K + K : ℤ) = 1 by ring, zpow_one] at this
  · simp only [hb, if_false]
    exact ⟨v, e, rfl, hn, hq, not_lt.mp hb, hh⟩

/-- The word of a power of two, at the word itself. -/
theorem pow2_lit (w : BitVec 32) (n : ℕ) (z : ℤ) (hw : w = BitVec.ofNat 32 (n * 2 ^ 23)) (h0 : 0 < n) (h : n < 255) (hz : (n : ℤ) - 127 = z) :
    Ideal.ofBits .f32 w = (((2 : ℝ) ^ z : ℝ) : EReal) := by
  subst hw; rw [pow2_word n h0 h, hz]

/-- The exponent the search returns. -/
theorem m7_at (a : FVec Ideal S8x128 .f32) (j : S8x128.Idx) (q : ℝ) (hq : y0 a j = (q : EReal)) (hl : (2 : ℝ) ^ (-127 : ℤ) ≤ q) (hh : q < (2 : ℝ) ^ (128 : ℤ)) :
    ∃ e : ℤ, m7 a j = BitVec.ofInt 32 e ∧ (2 : ℝ) ^ e ≤ q ∧ q < (2 : ℝ) ^ (e + 1) := by
  have hlo : (2 : ℝ) ^ (-127 : ℤ) ≤ 1 := zpow_le_one_of_nonpos₀ (by norm_num) (by norm_num)
  have s0 : St q ((2 : ℝ) ^ (-127 : ℤ)) ((2 : ℝ) ^ (2 * (64 : ℕ) : ℤ)) (y0 a j) ((broadcast S8x128 0#32 : IVec S8x128 32) j) :=
    ⟨q, 0, hq, rfl, by simp, hl, by norm_num at hh ⊢; exact hh⟩
  have s1 := up_step 64 q _ hlo 1602224128#32 528482304#32 64#32 (pow2_lit _ 191 _ (by decide) (by norm_num) (by norm_num) (by norm_num)) (pow2_lit _ 63 _ (by decide) (by norm_num) (by norm_num) (by norm_num)) (by decide) _ _ j s0
  have s2 := up_step 32 q _ hlo 1333788672#32 796917760#32 32#32 (pow2_lit _ 159 _ (by decide) (by norm_num) (by norm_num) (by norm_num)) (pow2_lit _ 95 _ (by decide) (by norm_num) (by norm_num) (by norm_num)) (by decide) (y1 a) (n1 a) j s1
  have s3 := up_step 16 q _ hlo 1199570944#32 931135488#32 16#32 (pow2_lit _ 143 _ (by decide) (by norm_num) (by norm_num) (by norm_num)) (pow2_lit _ 111 _ (by decide) (by norm_num) (by norm_num) (by norm_num)) (by decide) (y2 a) (n2 a) j s2
  have s4 := up_step 8 q _ hlo 1132462080#32 998244352#32 8#32 (pow2_lit _ 135 _ (by decide) (by norm_num) (by norm_num) (by norm_num)) (pow2_lit _ 119 _ (by decide) (by norm_num) (by norm_num) (by norm_num)) (by decide) (y3 a) (n3 a) j s3
  have s5 := up_step 4 q _ hlo 1098907648#32 1031798784#32 4#32 (pow2_lit _ 131 _ (by decide) (by norm_num) (by norm_num) (by norm_num)) (pow2_lit _ 123 _ (by decide) (by norm_num) (by norm_num) (by norm_num)) (by decide) (y4 a) (n4 a) j s4
  have s6 := up_step 2 q _ hlo 1082130432#32 1048576000#32 2#32 (pow2_lit _ 129 _ (by decide) (by norm_num) (by norm_num) (by norm_num)) (pow2_lit _ 125 _ (by decide) (by norm_num) (by norm_num) (by norm_num)) (by decide) (y5 a) (n5 a) j s5
  have s7 := up_step 1 q _ hlo 1073741824#32 1056964608#32 1#32 (pow2_lit _ 128 _ (by decide) (by norm_num) (by norm_num) (by norm_num)) (pow2_lit _ 126 _ (by decide) (by norm_num) (by norm_num) (by norm_num)) (by decide) (y6 a) (n6 a) j s6
  have t0 : St q ((2 : ℝ) ^ (1 - 2 * (64 : ℕ) : ℤ)) 2 (y7 a j) (n7 a j) := by
    obtain ⟨v, e, h1, h2, h3, h4, h5⟩ := s7
    exact ⟨v, e, h1, h2, h3, by norm_num at h4 ⊢; exact h4, by norm_num at h5; exact h5⟩
  have t1 := dn_step 64 q 536870912#32 1602224128#32 64#32 (pow2_lit _ 64 _ (by decide) (by norm_num) (by norm_num) (by norm_num)) (pow2_lit _ 191 _ (by decide) (by norm_num) (by norm_num) (by norm_num)) (by decide) (y7 a) (n7 a) j t0
  have t2 := dn_step 32 q 805306368#32 1333788672#32 32#32 (pow2_lit _ 96 _ (by decide) (by norm_num) (by norm_num) (by norm_num)) (pow2_lit _ 159 _ (by decide) (by norm_num) (by norm_num) (by norm_num)) (by decide) (z1 a) (m1 a) j t1
  have t3 := dn_step 16 q 939524096#32 1199570944#32 16#32 (pow2_lit _ 112 _ (by decide) (by norm_num) (by norm_num) (by norm_num)) (pow2_lit _ 143 _ (by decide) (by norm_num) (by norm_num) (by norm_num)) (by decide) (z2 a) (m2 a) j t2
  have t4 := dn_step 8 q 1006632960#32 1132462080#32 8#32 (pow2_lit _ 120 _ (by decide) (by norm_num) (by norm_num) (by norm_num)) (pow2_lit _ 135 _ (by decide) (by norm_num) (by norm_num) (by norm_num)) (by decide) (z3 a) (m3 a) j t3
  have t5 := dn_step 4 q 1040187392#32 1098907648#32 4#32 (pow2_lit _ 124 _ (by decide) (by norm_num) (by norm_num) (by norm_num)) (pow2_lit _ 131 _ (by decide) (by norm_num) (by norm_num) (by norm_num)) (by decide) (z4 a) (m4 a) j t4
  have t6 := dn_step 2 q 1056964608#32 1082130432#32 2#32 (pow2_lit _ 126 _ (by decide) (by norm_num) (by norm_num) (by norm_num)) (pow2_lit _ 129 _ (by decide) (by norm_num) (by norm_num) (by norm_num)) (by decide) (z5 a) (m5 a) j t5
  have t7 := dn_step 1 q 1065353216#32 1073741824#32 1#32 (pow2_lit _ 127 _ (by decide) (by norm_num) (by norm_num) (by norm_num)) (pow2_lit _ 128 _ (by decide) (by norm_num) (by norm_num) (by norm_num)) (by decide) (z6 a) (m6 a) j t6
  obtain ⟨v, e, -, hn, hv, hl', hh'⟩ := t7
  have hp : (0 : ℝ) < (2 : ℝ) ^ e := by positivity
  refine ⟨e, hn, ?_, ?_⟩
  · have : (1 : ℝ) ≤ v := by norm_num at hl'; exact hl'
    nlinarith
  · rw [zpow_add₀ (by norm_num : (2 : ℝ) ≠ 0), zpow_one]
    nlinarith

/-- Any exponent the kernel meets, made into the scale's word. -/
theorem shl_word : ∀ n : Fin 255, IntOp.shli .vector (BitVec.ofNat 32 n.val) 23#32 = BitVec.ofNat 32 (n.val * 2 ^ 23) := by
  decide +kernel

/-- The float the kernel builds from an exponent is that power of two. -/
theorem scale_word (e : ℤ) (h0 : -127 < e) (h1 : e < 128) :
    Ideal.ofBits .f32 (IntOp.shli .vector (BitVec.ofInt 32 e + 127#32) 23#32) = (((2 : ℝ) ^ e : ℝ) : EReal) := by
  obtain ⟨n, hn⟩ : ∃ n : ℕ, e + 127 = n := ⟨(e + 127).toNat, by omega⟩
  have hw : BitVec.ofInt 32 e + 127#32 = BitVec.ofNat 32 n := by
    rw [show (127#32 : BitVec 32) = BitVec.ofInt 32 127 from by decide, ← BitVec.ofInt_add, hn, BitVec.ofInt_natCast]
  rw [hw, shl_word ⟨n, by omega⟩, pow2_word n (by omega) (by omega)]
  congr 2; omega

/-- The float the kernel builds from an exponent's opposite. -/
theorem inv_word (e : ℤ) (h0 : -128 < e) (h1 : e < 127) :
    Ideal.ofBits .f32 (IntOp.shli .vector (127#32 - BitVec.ofInt 32 e) 23#32) = (((2 : ℝ) ^ (-e) : ℝ) : EReal) := by
  obtain ⟨n, hn⟩ : ∃ n : ℕ, 127 - e = n := ⟨(127 - e).toNat, by omega⟩
  have hw : 127#32 - BitVec.ofInt 32 e = BitVec.ofNat 32 n := by
    rw [show (127#32 : BitVec 32) = BitVec.ofInt 32 127 from by decide, ← ofInt_sub32, hn, BitVec.ofInt_natCast]
  rw [hw, shl_word ⟨n, by omega⟩, pow2_word n (by omega) (by omega)]
  congr 2; omega

end Cert.KernelIdeal.Latent
-- ==== Proof.TileVal.lean ====
/-
One tile over the extended reals: at a position, the norm's factor is that of the sum of squares of its 768 latents, and row
`q` of the merged maxima is the largest magnitude of group `q`.
-/
module

public import proofs.«01_k».proof.Proof.Num
public import Idealize.ShloMosaic.Lib.Pointwise
public import Idealize.ShloMosaic.Lib.ValueIdx

@[expose] public section

set_option maxRecDepth 16384

noncomputable section

namespace Cert.KernelIdeal.Latent

open Idealize.ShloMosaic Cert.KernelIdeal.Gen

/-- `y` is the greatest element of the set `S` of reals. -/
def Mx (S : Set ℝ) (y : EReal) : Prop := ∃ M : ℝ, y = (M : EReal) ∧ IsGreatest S M

/-- The maximum of two real numbers among the extended reals. -/
theorem coe_max (a b : ℝ) : max (a : EReal) (b : EReal) = ((max a b : ℝ) : EReal) :=
  (EReal.coe_strictMono.monotone.map_max).symm

/-- The maximum of two greatest elements is that of the union. -/
theorem Mx.sup {S T : Set ℝ} {y z : EReal} (h : Mx S y) (k : Mx T z) : Mx (S ∪ T) (max y z) := by
  obtain ⟨M, rfl, hM⟩ := h
  obtain ⟨N, rfl, hN⟩ := k
  exact ⟨Max.max M N, coe_max M N, hM.union hN⟩

/-- The magnitude of a real number among the extended reals. -/
theorem coe_abs (a : ℝ) : max (a : EReal) (-(a : EReal)) = ((|a| : ℝ) : EReal) := by
  rw [← EReal.coe_neg, coe_max]; rfl

/-- A magnitude is the greatest element of its own set. -/
theorem Mx.single (a : ℝ) : Mx {|a|} (max (a : EReal) (-(a : EReal))) :=
  ⟨|a|, coe_abs a, isGreatest_singleton⟩

/-- The greatest of eight greatest elements is that of the union. -/
theorem Mx.iUnion8 (S : Fin 8 → Set ℝ) (v : Fin 8 → EReal) (y : EReal) (h : ∀ r, Mx (S r) (v r)) (hle : ∀ r, v r ≤ y) (hex : ∃ r, y = v r) :
    Mx (⋃ r, S r) y := by
  obtain ⟨r, rfl⟩ := hex
  obtain ⟨M, hM, hG⟩ := h r
  refine ⟨M, hM, Set.mem_iUnion.mpr ⟨r, hG.1⟩, fun a ha => ?_⟩
  obtain ⟨s, hs⟩ := Set.mem_iUnion.mp ha
  obtain ⟨N, hN, hN'⟩ := h s
  have := hle s
  rw [hM, hN] at this
  exact (hN'.2 hs).trans (EReal.coe_le_coe_iff.mp this)

/-- The greatest of eight values listed in any order. -/
theorem max8 (v : Fin 8 → EReal) (a0 a1 a2 a3 a4 a5 a6 a7 : Fin 8) (h : ∀ r : Fin 8, r = a0 ∨ r = a1 ∨ r = a2 ∨ r = a3 ∨ r = a4 ∨ r = a5 ∨ r = a6 ∨ r = a7) :
    (∀ r, v r ≤ max (max (max (v a0) (v a1)) (max (v a2) (v a3))) (max (max (v a4) (v a5)) (max (v a6) (v a7))))
      ∧ ∃ r, max (max (max (v a0) (v a1)) (max (v a2) (v a3))) (max (max (v a4) (v a5)) (max (v a6) (v a7))) = v r := by
  constructor
  · intro r
    rcases h r with rfl | rfl | rfl | rfl | rfl | rfl | rfl | rfl <;> simp only [le_max_iff, le_refl, true_or, or_true]
  · rcases max_choice (max (max (v a0) (v a1)) (max (v a2) (v a3))) (max (max (v a4) (v a5)) (max (v a6) (v a7))) with e | e <;> rw [e]
    · rcases max_choice (max (v a0) (v a1)) (max (v a2) (v a3)) with e | e <;> rw [e]
      · rcases max_choice (v a0) (v a1) with e | e <;> exact ⟨_, e⟩
      · rcases max_choice (v a2) (v a3) with e | e <;> exact ⟨_, e⟩
    · rcases max_choice (max (v a4) (v a5)) (max (v a6) (v a7)) with e | e <;> rw [e]
      · rcases max_choice (v a4) (v a5) with e | e <;> exact ⟨_, e⟩
      · rcases max_choice (v a6) (v a7) with e | e <;> exact ⟨_, e⟩

/-! ## Merging -/

/-- The mask of a merge step, by sublane. -/
theorem bitClear_at (m : BitVec 32) (r : Fin 8) (l : Fin 128) :
    bitClear m (ix2 r l) = BitVec.ofBool ((BitVec.ofNat 32 r.val &&& m) == 0#32) := by
  show BitVec.ofBool ((BitVec.ofNat 32 (0 * 8 + r.val) &&& m) == 0#32) = _
  rw [Nat.zero_mul, Nat.zero_add]

/-- A rotation of sublanes, at an entry. -/
theorem rot_at (s : BitVec 32) (v : FVec Ideal S8x128 .f32) (h) (r r' : Fin 8) (l : Fin 128) (hr : (r.val + 8 - s.toNat % 8) % 8 = r'.val) :
    dynamicRotate 0 s none v h (ix2 r l) = v (ix2 r' l) := by
  unfold dynamicRotate
  refine congrArg v ?_
  funext b
  fin_cases b
  · apply Fin.ext
    exact hr
  · rfl

/-- A row whose bit is clear, meeting one whose bit is set: both of the first stack. -/
theorem merge_lo (m s : BitVec 32) (a b : FVec Ideal S8x128 .f32) (r r' : Fin 8) (l : Fin 128) (hr : (r.val + 8 - s.toNat % 8) % 8 = r'.val)
    (h0 : ((BitVec.ofNat 32 r.val &&& m) == 0#32) = true) (h1 : ((BitVec.ofNat 32 r'.val &&& m) == 0#32) = false) :
    merge m s a b (ix2 r l) = max (a (ix2 r l)) (a (ix2 r' l)) := by
  show max (if bitClear m (ix2 r l) = 1 then a (ix2 r l) else b (ix2 r l)) (dynamicRotate 0 s none (select (bitClear m) b a) rotates_S8x128_d0 (ix2 r l)) = _
  rw [rot_at s _ _ r r' l hr]
  show max _ (if bitClear m (ix2 r' l) = 1 then b (ix2 r' l) else a (ix2 r' l)) = _
  rw [bitClear_at, bitClear_at, h0, h1]
  rfl

/-- A row whose bit is set, meeting one whose bit is clear: both of the second stack. -/
theorem merge_hi (m s : BitVec 32) (a b : FVec Ideal S8x128 .f32) (r r' : Fin 8) (l : Fin 128) (hr : (r.val + 8 - s.toNat % 8) % 8 = r'.val)
    (h0 : ((BitVec.ofNat 32 r.val &&& m) == 0#32) = false) (h1 : ((BitVec.ofNat 32 r'.val &&& m) == 0#32) = true) :
    merge m s a b (ix2 r l) = max (b (ix2 r l)) (b (ix2 r' l)) := by
  show max (if bitClear m (ix2 r l) = 1 then a (ix2 r l) else b (ix2 r l)) (dynamicRotate 0 s none (select (bitClear m) b a) rotates_S8x128_d0 (ix2 r l)) = _
  rw [rot_at s _ _ r r' l hr]
  show max _ (if bitClear m (ix2 r' l) = 1 then b (ix2 r' l) else a (ix2 r' l)) = _
  rw [bitClear_at, bitClear_at, h0, h1]
  rfl

variable (x g : ℕ → FVec Ideal S8x128 .f32) (l : Fin 128)

/-- Row `q` of the merged maxima is the greatest magnitude of group `q`. -/
theorem gm_row (S : ℕ → Fin 8 → Set ℝ) (h : ∀ q, q < 6 → ∀ r, Mx (S q r) (gmax x g q 15 (ix2 r l))) (q : Fin 8) (hq : q.val < 6) :
    Mx (⋃ r, S q.val r) (gm x g (ix2 q l)) := by
  unfold gm
  have hc : q = 0 ∨ q = 1 ∨ q = 2 ∨ q = 3 ∨ q = 4 ∨ q = 5 := by revert hq; revert q; decide
  rcases hc with rfl | rfl | rfl | rfl | rfl | rfl
  · rw [merge_lo 4#32 4#32 _ _ _ 4 l (by decide) (by decide) (by decide), merge_lo 2#32 6#32 _ _ _ 2 l (by decide) (by decide) (by decide),
      merge_lo 2#32 6#32 _ _ _ 6 l (by decide) (by decide) (by decide), merge_lo 1#32 7#32 _ _ _ 1 l (by decide) (by decide) (by decide),
      merge_lo 1#32 7#32 _ _ _ 3 l (by decide) (by decide) (by decide), merge_lo 1#32 7#32 _ _ _ 5 l (by decide) (by decide) (by decide),
      merge_lo 1#32 7#32 _ _ _ 7 l (by decide) (by decide) (by decide)]
    have k := max8 (fun r => gmax x g 0 15 (ix2 r l)) 0 1 2 3 4 5 6 7 (by decide)
    exact Mx.iUnion8 _ (fun r => gmax x g 0 15 (ix2 r l)) _ (h 0 (by omega)) k.1 k.2
  · rw [merge_lo 4#32 4#32 _ _ _ 5 l (by decide) (by decide) (by decide), merge_lo 2#32 6#32 _ _ _ 3 l (by decide) (by decide) (by decide),
      merge_lo 2#32 6#32 _ _ _ 7 l (by decide) (by decide) (by decide), merge_hi 1#32 7#32 _ _ _ 2 l (by decide) (by decide) (by decide),
      merge_hi 1#32 7#32 _ _ _ 4 l (by decide) (by decide) (by decide), merge_hi 1#32 7#32 _ _ _ 6 l (by decide) (by decide) (by decide),
      merge_hi 1#32 7#32 _ _ _ 0 l (by decide) (by decide) (by decide)]
    have k := max8 (fun r => gmax x g 1 15 (ix2 r l)) 1 2 3 4 5 6 7 0 (by decide)
    exact Mx.iUnion8 _ (fun r => gmax x g 1 15 (ix2 r l)) _ (h 1 (by omega)) k.1 k.2
  · rw [merge_lo 4#32 4#32 _ _ _ 6 l (by decide) (by decide) (by decide), merge_hi 2#32 6#32 _ _ _ 4 l (by decide) (by decide) (by decide),
      merge_hi 2#32 6#32 _ _ _ 0 l (by decide) (by decide) (by decide), merge_lo 1#32 7#32 _ _ _ 3 l (by decide) (by decide) (by decide),
      merge_lo 1#32 7#32 _ _ _ 5 l (by decide) (by decide) (by decide), merge_lo 1#32 7#32 _ _ _ 7 l (by decide) (by decide) (by decide),
      merge_lo 1#32 7#32 _ _ _ 1 l (by decide) (by decide) (by decide)]
    have k := max8 (fun r => gmax x g 2 15 (ix2 r l)) 2 3 4 5 6 7 0 1 (by decide)
    exact Mx.iUnion8 _ (fun r => gmax x g 2 15 (ix2 r l)) _ (h 2 (by omega)) k.1 k.2
  · rw [merge_lo 4#32 4#32 _ _ _ 7 l (by decide) (by decide) (by decide), merge_hi 2#32 6#32 _ _ _ 5 l (by decide) (by decide) (by decide),
      merge_hi 2#32 6#32 _ _ _ 1 l (by decide) (by decide) (by decide), merge_hi 1#32 7#32 _ _ _ 4 l (by decide) (by decide) (by decide),
      merge_hi 1#32 7#32 _ _ _ 6 l (by decide) (by decide) (by decide), merge_hi 1#32 7#32 _ _ _ 0 l (by decide) (by decide) (by decide),
      merge_hi 1#32 7#32 _ _ _ 2 l (by decide) (by decide) (by decide)]
    have k := max8 (fun r => gmax x g 3 15 (ix2 r l)) 3 4 5 6 7 0 1 2 (by decide)
    exact Mx.iUnion8 _ (fun r => gmax x g 3 15 (ix2 r l)) _ (h 3 (by omega)) k.1 k.2
  · rw [merge_hi 4#32 4#32 _ _ _ 0 l (by decide) (by decide) (by decide), merge_lo 2#32 6#32 _ _ _ 6 l (by decide) (by decide) (by decide),
      merge_lo 2#32 6#32 _ _ _ 2 l (by decide) (by decide) (by decide), merge_lo 1#32 7#32 _ _ _ 5 l (by decide) (by decide) (by decide),
      merge_lo 1#32 7#32 _ _ _ 7 l (by decide) (by decide) (by decide), merge_lo 1#32 7#32 _ _ _ 1 l (by decide) (by decide) (by decide),
      merge_lo 1#32 7#32 _ _ _ 3 l (by decide) (by decide) (by decide)]
    have k := max8 (fun r => gmax x g 4 15 (ix2 r l)) 4 5 6 7 0 1 2 3 (by decide)
    exact Mx.iUnion8 _ (fun r => gmax x g 4 15 (ix2 r l)) _ (h 4 (by omega)) k.1 k.2
  · rw [merge_hi 4#32 4#32 _ _ _ 1 l (by decide) (by decide) (by decide), merge_lo 2#32 6#32 _ _ _ 7 l (by decide) (by decide) (by decide),
      merge_lo 2#32 6#32 _ _ _ 3 l (by decide) (by decide) (by decide), merge_hi 1#32 7#32 _ _ _ 6 l (by decide) (by decide) (by decide),
      merge_hi 1#32 7#32 _ _ _ 0 l (by decide) (by decide) (by decide), merge_hi 1#32 7#32 _ _ _ 2 l (by decide) (by decide) (by decide),
      merge_hi 1#32 7#32 _ _ _ 4 l (by decide) (by decide) (by decide)]
    have k := max8 (fun r => gmax x g 5 15 (ix2 r l)) 5 6 7 0 1 2 3 4 (by decide)
    exact Mx.iUnion8 _ (fun r => gmax x g 5 15 (ix2 r l)) _ (h 5 (by omega)) k.1 k.2

/-! ## The tile's numbers, of real latents `X n r` and weights `G n r` -/

variable (X G : ℕ → Fin 8 → ℝ) (hx : ∀ n r, x n (ix2 r l) = ((X n r : ℝ) : EReal)) (hg : ∀ n r, g n (ix2 r l) = ((G n r : ℝ) : EReal))

include hx in
/-- The running sum of squares at a sublane and lane. -/
theorem ssq_at (n : ℕ) (r : Fin 8) : ssq x n (ix2 r l) = ((∑ i ∈ Finset.range (n + 1), X i r * X i r : ℝ) : EReal) := by
  induction n with
  | zero =>
    show x 0 (ix2 r l) * x 0 (ix2 r l) = _
    rw [hx]; simp
  | succ n ih =>
    show ssq x n (ix2 r l) + x (n + 1) (ix2 r l) * x (n + 1) (ix2 r l) = _
    rw [ih, hx, Finset.sum_range_succ _ (n + 1)]; simp

include hx hg in
/-- The running greatest magnitude at a sublane and lane. -/
theorem gmax_at (q n : ℕ) (r : Fin 8) : Mx {z | ∃ i, i < n + 1 ∧ z = |X (16 * q + i) r * G (16 * q + i) r|} (gmax x g q n (ix2 r l)) := by
  have one : ∀ i, Mx {|X (16 * q + i) r * G (16 * q + i) r|} (absf (prod x g (16 * q + i)) (ix2 r l)) := by
    intro i
    have e : absf (prod x g (16 * q + i)) (ix2 r l) = max (x (16 * q + i) (ix2 r l) * g (16 * q + i) (ix2 r l)) (-(x (16 * q + i) (ix2 r l) * g (16 * q + i) (ix2 r l))) := rfl
    rw [e, hx, hg, ← EReal.coe_mul]
    exact Mx.single _
  induction n with
  | zero =>
    have := one 0
    have e : {z | ∃ i, i < 0 + 1 ∧ z = |X (16 * q + i) r * G (16 * q + i) r|} = {|X (16 * q + 0) r * G (16 * q + 0) r|} := by
      ext z; constructor
      · rintro ⟨i, hi, rfl⟩; obtain rfl : i = 0 := by omega
        rfl
      · rintro rfl; exact ⟨0, by omega, rfl⟩
    rw [e]; exact this
  | succ n ih =>
    have := ih.sup (one (n + 1))
    have e : {z | ∃ i, i < n + 1 + 1 ∧ z = |X (16 * q + i) r * G (16 * q + i) r|}
        = {z | ∃ i, i < n + 1 ∧ z = |X (16 * q + i) r * G (16 * q + i) r|} ∪ {|X (16 * q + (n + 1)) r * G (16 * q + (n + 1)) r|} := by
      ext z; constructor
      · rintro ⟨i, hi, rfl⟩
        rcases Nat.lt_or_ge i (n + 1) with h | h
        · exact .inl ⟨i, h, rfl⟩
        · obtain rfl : i = n + 1 := by omega
          exact .inr rfl
      · rintro (⟨i, hi, rfl⟩ | rfl)
        · exact ⟨i, by omega, rfl⟩
        · exact ⟨n + 1, by omega, rfl⟩
    rw [e]; exact this

/-- A sum of real numbers among the extended reals. -/
theorem coe_sum {ι : Type} (t : Finset ι) (f : ι → ℝ) : ((∑ i ∈ t, f i : ℝ) : EReal) = ∑ i ∈ t, ((f i : ℝ) : EReal) :=
  map_sum (⟨⟨fun a : ℝ => (a : EReal), rfl⟩, EReal.coe_add⟩ : ℝ →+ EReal) f t

/-- The norm's small addend. -/
def epsR : ℝ := (2 ^ 23 + 407485 : ℕ) * (2 : ℝ) ^ (-43 : ℤ)

/-- The bits of the added constant. -/
theorem eps_bits : Ideal.ofBits .f32 0x358637BD#32 = ((epsR : ℝ) : EReal) := by
  unfold Ideal.ofBits Ideal.ieee epsR
  have h1 : ((0x358637BD#32 : BitVec 32).extractLsb' (8 + 23) 1 == 1#1) = false := by decide
  have h2 : ((0x358637BD#32 : BitVec 32).extractLsb' 23 8).toNat = 107 := by decide
  have h3 : ((0x358637BD#32 : BitVec 32).extractLsb' 0 23).toNat = 407485 := by decide
  simp only [h1, h2, h3]
  norm_num

/-- The added constant is positive. -/
theorem epsR_pos : 0 < epsR := by unfold epsR; positivity

/-- The norm's factor, of the sum of squares. -/
def rhoR (s : ℝ) : ℝ := (Real.sqrt (s * (1 / 768) + epsR))⁻¹

/-- The kernel's inverse root of a sum of squares is the real one. -/
theorem rsqrt_rho (s : ℝ) (hs : 0 ≤ s) : Ideal.rsqrt ((s : EReal) * ((1 / 768 : ℝ) : EReal) + Ideal.ofBits .f32 0x358637BD#32) = ((rhoR s : ℝ) : EReal) := by
  have := epsR_pos
  have hp : 0 < s * (1 / 768) + epsR := by positivity
  rw [eps_bits, ← EReal.coe_mul, ← EReal.coe_add, Ideal.rsqrt_coe, if_neg (by linarith), if_neg (by linarith)]
  rfl

include hx in
/-- The tile's inverse root at a lane is the real one. -/
theorem rn_at : rn x (ix2 0 l) = ((rhoR (∑ r : Fin 8, ∑ i ∈ Finset.range 96, X i r * X i r) : ℝ) : EReal) := by
  have e : rn x (ix2 0 l) = Ideal.rsqrt (multiReduction .add [0] S128 (ssq x 95) 0x00000000#32 reduces_S8x128_S128 (.inl rfl) rfl (ix1 l) * ((1 / 768 : ℝ) : EReal)
      + Ideal.ofBits .f32 0x358637BD#32) := by
    unfold rn k0_pay994
    pointwise
    rfl
  have e2 : multiReduction .add [0] S128 (ssq x 95) 0x00000000#32 reduces_S8x128_S128 (.inl rfl) rfl (ix1 l)
      = ((∑ r : Fin 8, ∑ i ∈ Finset.range 96, X i r * X i r : ℝ) : EReal) := by
    refine (Ideal.multiReduction_add_single (ssq x 95) 0x00000000#32 reduces_S8x128_S128 (.inl rfl) rfl (ix1 l)).trans ?_
    rw [coe_sum]
    refine Finset.sum_congr rfl fun r _ => ?_
    rw [← ssq_at x l X hx 95 r]
    refine congrArg (ssq x 95) ?_
    funext a; fin_cases a <;> rfl
  refine e.trans ?_
  refine (congrArg (fun z => Ideal.rsqrt (z * ((1 / 768 : ℝ) : EReal) + Ideal.ofBits .f32 0x358637BD#32)) e2).trans ?_
  refine rsqrt_rho _ ?_
  exact Finset.sum_nonneg fun _ _ => Finset.sum_nonneg fun _ _ => mul_self_nonneg _

end Cert.KernelIdeal.Latent
-- ==== Proof.Scale.lean ====
/-
The exponent of a group's scale over the extended reals: the kernel's search and the reference's logarithm find the same
integer, and the scale and its reciprocal are its powers of two.
-/
module

public import proofs.«01_k».proof.Proof.TileVal

@[expose] public section

set_option maxRecDepth 16384

noncomputable section

namespace Cert.KernelIdeal.Latent

open Idealize.ShloMosaic Cert.KernelIdeal.Gen

/-- The factor that turns a group's largest magnitude into the quotient whose exponent is sought. -/
def kq : ℝ := (2 ^ 23 + 1198373 : ℕ) * (2 : ℝ) ^ (-32 : ℤ)

/-- The bits of the factor `1/448` as the kernel rounds it. -/
theorem kq_bits : Ideal.ofBits .f32 991054117#32 = ((kq : ℝ) : EReal) := by
  unfold Ideal.ofBits Ideal.ieee kq
  have h1 : ((991054117#32 : BitVec 32).extractLsb' (8 + 23) 1 == 1#1) = false := by decide
  have h2 : ((991054117#32 : BitVec 32).extractLsb' 23 8).toNat = 118 := by decide
  have h3 : ((991054117#32 : BitVec 32).extractLsb' 0 23).toNat = 1198373 := by decide
  simp only [h1, h2, h3]
  norm_num

/-- The largest finite number of 32 bits. -/
def fmax : ℝ := (2 ^ 23 + 8388607 : ℕ) * (2 : ℝ) ^ (104 : ℤ)

/-- The bits of the greatest finite number. -/
theorem fmax_bits : Ideal.ofBits .f32 2139095039#32 = ((fmax : ℝ) : EReal) := by
  unfold Ideal.ofBits Ideal.ieee fmax
  have h1 : ((2139095039#32 : BitVec 32).extractLsb' (8 + 23) 1 == 1#1) = false := by decide
  have h2 : ((2139095039#32 : BitVec 32).extractLsb' 23 8).toNat = 254 := by decide
  have h3 : ((2139095039#32 : BitVec 32).extractLsb' 0 23).toNat = 8388607 := by decide
  simp only [h1, h2, h3]
  norm_num

/-- The bits of zero. -/
theorem zero_bits : Ideal.ofBits .f32 0#32 = ((0 : ℝ) : EReal) := by
  unfold Ideal.ofBits Ideal.ieee
  have h1 : ((0#32 : BitVec 32).extractLsb' (8 + 23) 1 == 1#1) = false := by decide
  have h2 : ((0#32 : BitVec 32).extractLsb' 23 8).toNat = 0 := by decide
  have h3 : ((0#32 : BitVec 32).extractLsb' 0 23).toNat = 0 := by decide
  simp only [h1, h2, h3]
  norm_num

/-- A lower bound of the factor. -/
theorem kq_lo : (2 : ℝ) ^ (-9 : ℤ) ≤ kq := by unfold kq; norm_num
/-- An upper bound of the factor. -/
theorem kq_hi : kq ≤ (2 : ℝ) ^ (-8 : ℤ) := by unfold kq; norm_num
/-- The factor is positive. -/
theorem kq_pos : 0 < kq := lt_of_lt_of_le (by positivity) kq_lo
/-- A lower bound of the greatest finite number. -/
theorem fmax_lo : (2 : ℝ) ^ (127 : ℤ) ≤ fmax := by unfold fmax; norm_num

/-- `e` is the scale's exponent for the largest magnitude `α`. -/
def ExpOf (α : ℝ) (e : ℤ) : Prop := (α = 0 ∧ e = 0) ∨ (0 < α ∧ (2 : ℝ) ^ (e - 1) ≤ α * kq ∧ α * kq < (2 : ℝ) ^ e)

/-- The exponent of a magnitude in range is in range. -/
theorem ExpOf.range {α : ℝ} {e : ℤ} (h : ExpOf α e) (hα : α = 0 ∨ ((2 : ℝ) ^ (-91 : ℤ) ≤ α ∧ α ≤ (2 : ℝ) ^ (70 : ℤ))) : -100 < e ∧ e < 64 := by
  rcases h with ⟨-, rfl⟩ | ⟨h0, h1, h2⟩
  · omega
  · rcases hα with h | ⟨ha, hb⟩
    · exact absurd h (ne_of_gt h0)
    · have l1 : (2 : ℝ) ^ (-100 : ℤ) ≤ α * kq := by
        have : (2 : ℝ) ^ (-100 : ℤ) = (2 : ℝ) ^ (-91 : ℤ) * (2 : ℝ) ^ (-9 : ℤ) := by rw [← zpow_add₀ (by norm_num)]; norm_num
        rw [this]; exact mul_le_mul ha kq_lo (by positivity) h0.le
      have l2 : α * kq ≤ (2 : ℝ) ^ (62 : ℤ) := by
        have : (2 : ℝ) ^ (62 : ℤ) = (2 : ℝ) ^ (70 : ℤ) * (2 : ℝ) ^ (-8 : ℤ) := by rw [← zpow_add₀ (by norm_num)]; norm_num
        rw [this]; exact mul_le_mul hb kq_hi kq_pos.le (by positivity)
      have a1 := (zpow_lt_zpow_iff_right₀ (by norm_num : (1 : ℝ) < 2)).mp (l1.trans_lt h2)
      have a2 := (zpow_le_zpow_iff_right₀ (by norm_num : (1 : ℝ) < 2)).mp (h1.trans l2)
      omega

/-- A bit is one exactly if its condition holds. -/
theorem ofBool_one (b : Bool) : (BitVec.ofBool b = 1) ↔ b = true := by cases b <;> decide

/-- The exponent word the kernel finds. -/
theorem sexp_at (a : FVec Ideal S8x128 .f32) (j : S8x128.Idx) (α : ℝ) (ha : a j = (α : EReal))
    (h : α = 0 ∨ ((2 : ℝ) ^ (-91 : ℤ) ≤ α ∧ α ≤ (2 : ℝ) ^ (70 : ℤ))) :
    ∃ e : ℤ, ExpOf α e ∧ sexp a j = BitVec.ofInt 32 e := by
  have hy : y0 a j = ((α * kq : ℝ) : EReal) := by
    show a j * Ideal.ofBits .f32 991054117#32 = _
    rw [ha, kq_bits, ← EReal.coe_mul]
  have hs : sexp a j = (if BitVec.ofBool (decide (a j = Ideal.ofBits .f32 0#32)) = 1 then 0#32
      else if BitVec.ofBool (decide (Ideal.ofBits .f32 0#32 < y0 a j)) &&& BitVec.ofBool (decide (y0 a j ≤ Ideal.ofBits .f32 2139095039#32)) = 1 then m7 a j + 1#32 else 0#32) := rfl
  rcases h with rfl | ⟨h1, h2⟩
  · refine ⟨0, .inl ⟨rfl, rfl⟩, ?_⟩
    rw [hs, ha, zero_bits, if_pos (by simp)]
    rfl
  · have h0 : 0 < α := lt_of_lt_of_le (by positivity) h1
    have hq : 0 < α * kq := mul_pos h0 kq_pos
    have hu : α * kq ≤ (2 : ℝ) ^ (62 : ℤ) := by
      have : (2 : ℝ) ^ (62 : ℤ) = (2 : ℝ) ^ (70 : ℤ) * (2 : ℝ) ^ (-8 : ℤ) := by rw [← zpow_add₀ (by norm_num)]; norm_num
      rw [this]; exact mul_le_mul h2 kq_hi kq_pos.le (by positivity)
    have hl : (2 : ℝ) ^ (-100 : ℤ) ≤ α * kq := by
      have : (2 : ℝ) ^ (-100 : ℤ) = (2 : ℝ) ^ (-91 : ℤ) * (2 : ℝ) ^ (-9 : ℤ) := by rw [← zpow_add₀ (by norm_num)]; norm_num
      rw [this]; exact mul_le_mul h1 kq_lo (by positivity) h0.le
    obtain ⟨e, h3, h4, h5⟩ := m7_at a j (α * kq) hy (le_trans (zpow_le_zpow_right₀ (by norm_num) (by norm_num)) hl)
      (lt_of_le_of_lt hu (zpow_lt_zpow_right₀ (by norm_num) (by norm_num)))
    refine ⟨e + 1, .inr ⟨h0, by rw [add_sub_cancel_right]; exact h4, h5⟩, ?_⟩
    have c1 : decide (((α : ℝ) : EReal) = ((0 : ℝ) : EReal)) = false := decide_eq_false (fun hh => (ne_of_gt h0) (EReal.coe_eq_coe_iff.mp hh))
    have c2 : decide (((0 : ℝ) : EReal) < ((α * kq : ℝ) : EReal)) = true := decide_eq_true (EReal.coe_lt_coe_iff.mpr hq)
    have c3 : decide (((α * kq : ℝ) : EReal) ≤ ((fmax : ℝ) : EReal)) = true := decide_eq_true (EReal.coe_le_coe_iff.mpr
      (hu.trans ((zpow_le_zpow_right₀ (by norm_num) (by norm_num)).trans fmax_lo)))
    rw [hs, hy, ha, zero_bits, fmax_bits, c1, c2, c3, h3, BitVec.ofInt_add]
    rfl

/-- The scale and its reciprocal. -/
theorem scale_at (a : FVec Ideal S8x128 .f32) (j : S8x128.Idx) (α : ℝ) (ha : a j = (α : EReal))
    (h : α = 0 ∨ ((2 : ℝ) ^ (-91 : ℤ) ≤ α ∧ α ≤ (2 : ℝ) ^ (70 : ℤ))) :
    ∃ e : ℤ, ExpOf α e ∧ scale a j = (((2 : ℝ) ^ e : ℝ) : EReal) ∧ invScale a j = (((2 : ℝ) ^ (-e) : ℝ) : EReal) := by
  obtain ⟨e, he, hs⟩ := sexp_at a j α ha h
  obtain ⟨r1, r2⟩ := he.range h
  refine ⟨e, he, ?_, ?_⟩
  · show Ideal.ofBits .f32 (IntOp.shli .vector (sexp a j + 127#32) 23#32) = _
    rw [hs]; exact scale_word e (by omega) (by omega)
  · show Ideal.ofBits .f32 (IntOp.shli .vector (127#32 - sexp a j) 23#32) = _
    rw [hs]; exact inv_word e (by omega) (by omega)

/-- The exponent is determined by the magnitude. -/
theorem ExpOf.unique {α : ℝ} {e e' : ℤ} (h : ExpOf α e) (h' : ExpOf α e') : e = e' := by
  rcases h with ⟨h0, rfl⟩ | ⟨h0, h1, h2⟩ <;> rcases h' with ⟨k0, rfl⟩ | ⟨k0, k1, k2⟩
  · rfl
  · exact absurd h0 (ne_of_gt k0)
  · exact absurd k0 (ne_of_gt h0)
  · have a1 := (zpow_lt_zpow_iff_right₀ (by norm_num : (1 : ℝ) < 2)).mp (h1.trans_lt k2)
    have a2 := (zpow_lt_zpow_iff_right₀ (by norm_num : (1 : ℝ) < 2)).mp (k1.trans_lt h2)
    omega

/-! ## The reference's exponent -/

/-- The bits of two. -/
theorem two_bits : Ideal.ofBits .f32 0x40000000#32 = ((2 : ℝ) : EReal) := by
  rw [pow2_lit 0x40000000#32 128 1 (by decide) (by norm_num) (by norm_num) (by norm_num)]; norm_num

/-- The bits of one. -/
theorem one_bits : Ideal.ofBits .f32 0x3F800000#32 = ((1 : ℝ) : EReal) := by
  rw [pow2_lit 0x3F800000#32 127 0 (by decide) (by norm_num) (by norm_num) (by norm_num)]; norm_num

/-- The reference's exponent of a largest magnitude. -/
def refExp (A : EReal) : EReal :=
  if BitVec.ofBool (decide (A = Ideal.ofBits .f32 0#32)) = 1 then Ideal.ofBits .f32 0#32
  else Ideal.liftRound Int.floor (Ideal.div (Ideal.log (A * Ideal.ofBits .f32 0x3B124925#32)) (Ideal.log (Ideal.ofBits .f32 0x40000000#32))) + Ideal.ofBits .f32 0x3F800000#32

/-- The reference's exponent of a real number in range is its binary exponent. -/
theorem refExp_at (α : ℝ) (e : ℤ) (h : ExpOf α e) : refExp (α : EReal) = (((e : ℝ) : ℝ) : EReal) := by
  unfold refExp
  rw [zero_bits]
  rcases h with ⟨rfl, rfl⟩ | ⟨h0, h1, h2⟩
  · rw [if_pos (by simp)]; simp
  · have c1 : decide (((α : ℝ) : EReal) = ((0 : ℝ) : EReal)) = false := decide_eq_false (fun hh => (ne_of_gt h0) (EReal.coe_eq_coe_iff.mp hh))
    have hq : 0 < α * kq := mul_pos h0 kq_pos
    have hl2 : 0 < Real.log 2 := Real.log_pos (by norm_num)
    rw [c1, if_neg (by decide), show (0x3B124925#32 : BitVec 32) = 991054117#32 from rfl, kq_bits, two_bits, one_bits, ← EReal.coe_mul,
      Ideal.log_coe, if_neg (by linarith), Ideal.log_coe, if_neg (by norm_num), Ideal.div_coe hl2.ne', ← EReal.coe_mul, Ideal.liftRound_coe, ← EReal.coe_add]
    have hf : ⌊Real.log (α * kq) * (1 / Real.log 2)⌋ = e - 1 := by
      rw [Int.floor_eq_iff, mul_one_div, le_div_iff₀ hl2, div_lt_iff₀ hl2]
      constructor
      · have := Real.log_le_log (by positivity) h1
        rw [Real.log_zpow] at this; exact_mod_cast this
      · have := Real.log_lt_log hq h2
        rw [Real.log_zpow] at this
        have k : ((e - 1 : ℤ) : ℝ) + 1 = (e : ℝ) := by push_cast; ring
        rw [k]; exact this
    rw [hf]; congr 1; push_cast; ring

/-- Two to an integer power. -/
theorem pow_at (e : ℤ) : Ideal.pow (Ideal.ofBits .f32 0x40000000#32) (((e : ℝ) : ℝ) : EReal) = (((2 : ℝ) ^ e : ℝ) : EReal) := by
  rw [two_bits, Ideal.pow_coe_coe]
  congr 1
  exact Real.rpow_intCast 2 e

end Cert.KernelIdeal.Latent
-- ==== Proof.Spec.lean ====
/-
What one group of one position comes to, of real latents `c d` and weights `γ d`: the norm's factor, the group's largest
magnitude, the scale's exponent and the clipped codes; and that these are determined.
-/
module

public import proofs.«01_k».proof.Proof.Scale
public import proofs.«01_k».proof.Proof.TileVal

@[expose] public section

set_option maxRecDepth 16384

noncomputable section

namespace Cert.KernelIdeal.Latent

open Idealize.ShloMosaic

/-- Zero, or of a magnitude between `2^-30` and `2^30`. -/
def Dom (a : ℝ) : Prop := a = 0 ∨ ((2 : ℝ) ^ (-30 : ℤ) ≤ |a| ∧ |a| ≤ (2 : ℝ) ^ (30 : ℤ))

/-- The sum of the squares of a position's latents. -/
def sqSum (c : ℕ → ℝ) : ℝ := ∑ d ∈ Finset.range 768, c d * c d

/-- The norm's factor of a position. -/
def rho (c : ℕ → ℝ) : ℝ := rhoR (sqSum c)

/-- The magnitudes of group `q`. -/
def grpSet (c γ : ℕ → ℝ) (q : ℕ) : Set ℝ := {z | ∃ j : Fin 128, z = |c (128 * q + j.val) * γ (128 * q + j.val)|}

/-- The clipped value of latent `d` under a scale of exponent `e`. -/
def codeOf (c γ : ℕ → ℝ) (e : ℤ) (d : ℕ) : EReal :=
  min (Ideal.ofBits .f32 0x43E00000#32) (max (Ideal.ofBits .f32 0xC3E00000#32) ((c d * rho c * γ d * (2 : ℝ) ^ (-e) : ℝ) : EReal))

/-- `S` is the scale of group `q` and `K` its clipped values. -/
def Res (c γ : ℕ → ℝ) (q : ℕ) (S : EReal) (K : Fin 128 → EReal) : Prop :=
  ∃ (M : ℝ) (e : ℤ), IsGreatest (grpSet c γ q) M ∧ ExpOf (M * rho c) e ∧ S = (((2 : ℝ) ^ e : ℝ) : EReal) ∧ ∀ j, K j = codeOf c γ e (128 * q + j.val)

/-- Scale and values are determined. -/
theorem Res.unique {c γ : ℕ → ℝ} {q : ℕ} {S S' : EReal} {K K' : Fin 128 → EReal} (h : Res c γ q S K) (h' : Res c γ q S' K') : S = S' ∧ ∀ j, K j = K' j := by
  obtain ⟨M, e, hM, he, hS, hK⟩ := h
  obtain ⟨M', e', hM', he', hS', hK'⟩ := h'
  obtain rfl := hM.unique hM'
  obtain rfl := he.unique he'
  exact ⟨hS.trans hS'.symm, fun j => (hK j).trans (hK' j).symm⟩

/-- A sum over channels, split by sublane and tile. -/
theorem sum_blocks (f : ℕ → ℝ) (n : ℕ) : ∑ d ∈ Finset.range (8 * n), f d = ∑ r : Fin 8, ∑ i ∈ Finset.range n, f (8 * i + r.val) := by
  induction n with
  | zero => simp
  | succ n ih =>
    rw [show 8 * (n + 1) = 8 * n + 1 + 1 + 1 + 1 + 1 + 1 + 1 + 1 by ring]
    simp only [Finset.sum_range_succ, ih, Fin.sum_univ_eight, Finset.sum_add_distrib]
    norm_num
    ring

/-- A sum of squares is not negative. -/
theorem sqSum_nonneg (c : ℕ → ℝ) : 0 ≤ sqSum c := Finset.sum_nonneg fun _ _ => mul_self_nonneg _

/-- A lower bound of the added constant. -/
theorem epsR_lo : (2 : ℝ) ^ (-20 : ℤ) ≤ epsR := by unfold epsR; norm_num
/-- An upper bound of the added constant. -/
theorem epsR_hi : epsR ≤ 1 := by unfold epsR; norm_num

/-- The inverse root is positive. -/
theorem rho_pos (c : ℕ → ℝ) : 0 < rho c := by
  have h1 := sqSum_nonneg c
  have h2 := epsR_pos
  unfold rho rhoR
  exact inv_pos.mpr (Real.sqrt_pos.mpr (by positivity))

/-- An upper bound of the inverse root. -/
theorem rho_hi (c : ℕ → ℝ) : rho c ≤ (2 : ℝ) ^ (10 : ℤ) := by
  have h1 := sqSum_nonneg c
  have h2 := epsR_lo
  have h3 : (2 : ℝ) ^ (-10 : ℤ) ≤ Real.sqrt (sqSum c * (1 / 768) + epsR) := by
    rw [Real.le_sqrt' (by positivity)]
    have : ((2 : ℝ) ^ (-10 : ℤ)) ^ 2 = (2 : ℝ) ^ (-20 : ℤ) := by norm_num
    rw [this]
    have : 0 ≤ sqSum c * (1 / 768) := by positivity
    exact h2.trans (le_add_of_nonneg_left this)
  have h4 := inv_anti₀ (by positivity) h3
  unfold rho rhoR
  refine h4.trans (le_of_eq ?_)
  rw [← zpow_neg]; rfl

/-- A number in range has a bounded magnitude. -/
theorem Dom.abs_le {a : ℝ} (h : Dom a) : |a| ≤ (2 : ℝ) ^ (30 : ℤ) := by
  rcases h with rfl | h
  · rw [abs_zero]; positivity
  · exact h.2

/-- A lower bound of the inverse root of latents in range. -/
theorem rho_lo (c : ℕ → ℝ) (h : ∀ d, d < 768 → Dom (c d)) : (2 : ℝ) ^ (-31 : ℤ) ≤ rho c := by
  have h0 : sqSum c ≤ 768 * (2 : ℝ) ^ (60 : ℤ) := by
    have : ∀ d ∈ Finset.range 768, c d * c d ≤ (2 : ℝ) ^ (60 : ℤ) := fun d hd => by
      have := (h d (Finset.mem_range.mp hd)).abs_le
      have e : c d * c d = |c d| * |c d| := (abs_mul_abs_self _).symm
      have e2 : (2 : ℝ) ^ (60 : ℤ) = (2 : ℝ) ^ (30 : ℤ) * (2 : ℝ) ^ (30 : ℤ) := by norm_num
      rw [e, e2]
      exact mul_le_mul this this (abs_nonneg _) (by positivity)
    have := Finset.sum_le_card_nsmul _ _ _ this
    rw [Finset.card_range, nsmul_eq_mul] at this
    exact_mod_cast this
  have h1 := sqSum_nonneg c
  have h2 := epsR_hi
  have h2' := epsR_pos
  have h3 : Real.sqrt (sqSum c * (1 / 768) + epsR) ≤ (2 : ℝ) ^ (31 : ℤ) := by
    rw [Real.sqrt_le_iff]
    refine ⟨by positivity, ?_⟩
    have : ((2 : ℝ) ^ (31 : ℤ)) ^ 2 = 4 * (2 : ℝ) ^ (60 : ℤ) := by norm_num
    rw [this]
    have : (1 : ℝ) ≤ (2 : ℝ) ^ (60 : ℤ) := by norm_num
    linarith
  have h4 := inv_anti₀ (Real.sqrt_pos.mpr (by positivity)) h3
  unfold rho rhoR
  refine (le_of_eq ?_).trans h4
  rw [← zpow_neg]

/-- The range of a group's largest magnitude after the norm. -/
theorem alpha_range (c γ : ℕ → ℝ) (q : ℕ) (hq : q < 6) (M : ℝ) (hM : IsGreatest (grpSet c γ q) M) (hc : ∀ d, d < 768 → Dom (c d)) (hγ : ∀ d, d < 768 → Dom (γ d)) :
    M * rho c = 0 ∨ ((2 : ℝ) ^ (-91 : ℤ) ≤ M * rho c ∧ M * rho c ≤ (2 : ℝ) ^ (70 : ℤ)) := by
  obtain ⟨⟨j, rfl⟩, -⟩ := hM
  have hd : 128 * q + j.val < 768 := by omega
  have e1 : (2 : ℝ) ^ (-91 : ℤ) = (2 : ℝ) ^ (-30 : ℤ) * (2 : ℝ) ^ (-30 : ℤ) * (2 : ℝ) ^ (-31 : ℤ) := by
    rw [← zpow_add₀ (by norm_num), ← zpow_add₀ (by norm_num)]; norm_num
  have e2 : (2 : ℝ) ^ (70 : ℤ) = (2 : ℝ) ^ (30 : ℤ) * (2 : ℝ) ^ (30 : ℤ) * (2 : ℝ) ^ (10 : ℤ) := by
    rw [← zpow_add₀ (by norm_num), ← zpow_add₀ (by norm_num)]; norm_num
  rcases hc _ hd with h | ⟨h1, h2⟩
  · left; rw [h]; simp
  rcases hγ _ hd with h | ⟨k1, k2⟩
  · left; rw [h]; simp
  right
  rw [abs_mul, e1, e2]
  have p1 := rho_lo c hc
  have p2 := rho_hi c
  have p0 := rho_pos c
  constructor
  · exact mul_le_mul (mul_le_mul h1 k1 (by positivity) (abs_nonneg _)) p1 (by positivity) (by positivity)
  · exact mul_le_mul (mul_le_mul h2 k2 (abs_nonneg _) (by positivity)) p2 p0.le (by positivity)

/-- The reciprocal of the scale times the norm's factor is below the greatest finite number. -/
theorem inv_rho_le (c : ℕ → ℝ) (e : ℤ) (he : -100 < e) : (2 : ℝ) ^ (-e) * rho c ≤ fmax := by
  have h1 : (2 : ℝ) ^ (-e) ≤ (2 : ℝ) ^ (100 : ℤ) := zpow_le_zpow_right₀ (by norm_num) (by omega)
  have h2 := mul_le_mul h1 (rho_hi c) (rho_pos c).le (by positivity)
  refine h2.trans (le_trans ?_ fmax_lo)
  rw [← zpow_add₀ (by norm_num)]
  exact zpow_le_zpow_right₀ (by norm_num) (by norm_num)

end Cert.KernelIdeal.Latent
-- ==== Proof.Codes.lean ====
/-
A code of one tile, at its row and column: the group's 128 values are stacked in order of their index.
-/
module

public import proofs.«01_k».proof.Proof.Model
public import proofs.«01_k».proof.Proof.Spec
public import Idealize.ShloMosaic.Lib.Pointwise
public import Idealize.ShloMosaic.Lib.ValueIdx

@[expose] public section

set_option maxRecDepth 16384

noncomputable section

namespace Cert.KernelIdeal.Latent

open Idealize.ShloMosaic Cert.KernelIdeal.Gen

/-- Four pieces of 8 rows, one below the other. -/
theorem stack4 {α : Type} (f : Fin 4 → S8x128.Idx → α) (h) (k : Fin 4) (i : Fin 8) (l : Fin 128) :
    concatenate S32x128 0 [⟨S8x128, f 0⟩, ⟨S8x128, f 1⟩, ⟨S8x128, f 2⟩, ⟨S8x128, f 3⟩] h (ix2 (⟨8 * k.val + i.val, by omega⟩ : Fin 32) l) = f k (ix2 i l) := by
  fin_cases k
  all_goals pointwise
  · simp only [show ¬ (16 + i.val < 8) by omega, show ¬ (16 + i.val - 8 < 8) by omega, show (16 + i.val - 8 - 8 < 8) by omega, dite_true, dite_false, if_true, if_false]
    exact congrArg (fun z => f 2 (ix2 z l)) (Fin.ext (show 16 + i.val - 8 - 8 = i.val by omega))
  · simp only [show ¬ (24 + i.val < 8) by omega, show ¬ (24 + i.val - 8 < 8) by omega, show ¬ (24 + i.val - 8 - 8 < 8) by omega, dite_true, dite_false, if_true, if_false]
    exact congrArg (fun z => f 3 (ix2 z l)) (Fin.ext (show 24 + i.val - 8 - 8 - 8 = i.val by omega))

/-- Four pieces of 32 rows, one below the other. -/
theorem stack16 {α : Type} (f : Fin 4 → S32x128.Idx → α) (h) (k : Fin 4) (i : Fin 32) (l : Fin 128) :
    concatenate S128x128 0 [⟨S32x128, f 0⟩, ⟨S32x128, f 1⟩, ⟨S32x128, f 2⟩, ⟨S32x128, f 3⟩] h (ix2 (⟨32 * k.val + i.val, by omega⟩ : Fin 128) l) = f k (ix2 i l) := by
  fin_cases k
  all_goals pointwise
  · simp only [show ¬ (64 + i.val < 32) by omega, show ¬ (64 + i.val - 32 < 32) by omega, show (64 + i.val - 32 - 32 < 32) by omega, dite_true, dite_false, if_true, if_false]
    exact congrArg (fun z => f 2 (ix2 z l)) (Fin.ext (show 64 + i.val - 32 - 32 = i.val by omega))
  · simp only [show ¬ (96 + i.val < 32) by omega, show ¬ (96 + i.val - 32 < 32) by omega, show ¬ (96 + i.val - 32 - 32 < 32) by omega, dite_true, dite_false, if_true, if_false]
    exact congrArg (fun z => f 3 (ix2 z l)) (Fin.ext (show 96 + i.val - 32 - 32 - 32 = i.val by omega))

/-- A value's clipping to the codes' range. -/
def clip448 (z : EReal) : EReal := min (Ideal.ofBits .f32 0x43E00000#32) (max (Ideal.ofBits .f32 0xC3E00000#32) z)

variable (p : ℕ → FVec Ideal S8x128 .f32) (r : FVec Ideal S8x128 .f32)

/-- An entry of 32 stacked rows of clipped codes, by the tile it comes from. -/
theorem code32_at (n : ℕ) (k : Fin 4) (i : Fin 8) (l : Fin 128) :
    code32 p r n (ix2 (⟨8 * k.val + i.val, by omega⟩ : Fin 32) l) = clip448 (p (n + k.val) (ix2 i l) * r (ix2 i l)) :=
  congrArg clip448 (stack4 (fun k => mulf (p (n + k.val)) r) _ k i l)

/-- A square transpose read at an entry. -/
theorem flip_at {α : Type} (x : S128x128.Idx → α) (h) (l j : Fin 128) : transpose S128x128 [1, 0] x h (ix2 l j) = x (ix2 j l) := by
  pointwise

/-- An entry of a group's 128 by 128 block of codes: position by lane, latent by row. -/
theorem code128_at (q : ℕ) (l j : Fin 128) : code128 p r q (ix2 l j)
    = clip448 (p (16 * q + j.val / 8) (ix2 (⟨j.val % 8, by omega⟩ : Fin 8) l) * r (ix2 (⟨j.val % 8, by omega⟩ : Fin 8) l)) := by
  unfold code128
  refine (flip_at _ _ l j).trans ?_
  have e := stack16 (fun k => code32 p r (16 * q + 4 * k.val)) (show Shape.Concatenates [S32x128, S32x128, S32x128, S32x128] S128x128 0 by decide)
    (⟨j.val / 32, by omega⟩ : Fin 4) (⟨j.val % 32, by omega⟩ : Fin 32) l
  have ej : (⟨32 * (j.val / 32) + j.val % 32, by omega⟩ : Fin 128) = j := Fin.ext (by show 32 * (j.val / 32) + j.val % 32 = j.val; omega)
  have e2 := code32_at p r (16 * q + 4 * (j.val / 32)) (⟨j.val % 32 / 8, by omega⟩ : Fin 4) (⟨j.val % 8, by omega⟩ : Fin 8) l
  have ei : (⟨8 * (j.val % 32 / 8) + j.val % 8, by omega⟩ : Fin 32) = ⟨j.val % 32, by omega⟩ := Fin.ext (by show 8 * (j.val % 32 / 8) + j.val % 8 = j.val % 32; omega)
  have en : 16 * q + 4 * (j.val / 32) + j.val % 32 / 8 = 16 * q + j.val / 8 := by omega
  have e' : concatenate S128x128 0
    [⟨S32x128, code32 p r (16 * q)⟩, ⟨S32x128, code32 p r (16 * q + 4)⟩, ⟨S32x128, code32 p r (16 * q + 8)⟩, ⟨S32x128, code32 p r (16 * q + 12)⟩]
    (show Shape.Concatenates [S32x128, S32x128, S32x128, S32x128] S128x128 0 by decide) (ix2 (⟨32 * (j.val / 32) + j.val % 32, by omega⟩ : Fin 128) l)
      = code32 p r (16 * q + 4 * (j.val / 32)) (ix2 (⟨j.val % 32, by omega⟩ : Fin 32) l) := e
  rw [ej] at e'
  rw [← ei] at e'
  refine e'.trans (e2.trans ?_)
  rw [show 16 * q + 4 * (j.val / 32) + (⟨j.val % 32 / 8, by omega⟩ : Fin 4).val = 16 * q + j.val / 8 from en]

end Cert.KernelIdeal.Latent
-- ==== Proof.TileNum.lean ====
/-
One tile's scale and codes of one group, of real latents and weights.
-/
module

public import proofs.«01_k».proof.Proof.Codes

@[expose] public section

set_option maxRecDepth 16384

noncomputable section

namespace Cert.KernelIdeal.Latent

open Idealize.ShloMosaic Cert.KernelIdeal.Gen

/-- A row repeated over eight sublanes, at an entry. -/
theorem spread_row (v : FVec Ideal S1x128 .f32) (h) (r : Fin 8) (l : Fin 128) : broadcastTo S8x128 v h (ix2 r l) = v (ix2 0 l) := by
  pointwise

/-- A group's magnitudes by sublane and tile are those by channel. -/
theorem set_blocks (c γ : ℕ → ℝ) (q : ℕ) (hq : q < 6) :
    (⋃ r : Fin 8, {z | ∃ i, i < 15 + 1 ∧ z = |c (8 * ((16 * q + i) % 96) + r.val) * γ (8 * ((16 * q + i) % 96) + r.val)|}) = grpSet c γ q := by
  ext z
  rw [Set.mem_iUnion]
  constructor
  · rintro ⟨r, i, hi, rfl⟩
    refine ⟨⟨8 * i + r.val, by omega⟩, ?_⟩
    have : 8 * ((16 * q + i) % 96) + r.val = 128 * q + (8 * i + r.val) := by omega
    rw [this]
  · rintro ⟨j, rfl⟩
    refine ⟨⟨j.val % 8, by omega⟩, j.val / 8, by omega, ?_⟩
    have : 8 * ((16 * q + j.val / 8) % 96) + j.val % 8 = 128 * q + j.val := by omega
    show _ = |c (8 * ((16 * q + j.val / 8) % 96) + j.val % 8) * γ (8 * ((16 * q + j.val / 8) % 96) + j.val % 8)|
    rw [this]

variable (x g : ℕ → FVec Ideal S8x128 .f32) (l : Fin 128) (c γ : ℕ → ℝ)
variable (hx : ∀ n (r : Fin 8), x n (ix2 r l) = ((c (8 * (n % 96) + r.val) : ℝ) : EReal)) (hg : ∀ n (r : Fin 8), g n (ix2 r l) = ((γ (8 * (n % 96) + r.val) : ℝ) : EReal))

include hx in
/-- The tile's repeated inverse root is the real one. -/
theorem rnB_at (r : Fin 8) : rnB x (ix2 r l) = ((rho c : ℝ) : EReal) := by
  unfold rnB
  rw [spread_row, rn_at x l (fun n r => c (8 * (n % 96) + r.val)) hx]
  have e : ∑ r : Fin 8, ∑ i ∈ Finset.range 96, c (8 * (i % 96) + r.val) * c (8 * (i % 96) + r.val) = sqSum c := by
    unfold sqSum
    rw [show 768 = 8 * 96 from rfl, sum_blocks (fun d => c d * c d) 96]
    refine Finset.sum_congr rfl fun r _ => Finset.sum_congr rfl fun i hi => ?_
    rw [Nat.mod_eq_of_lt (Finset.mem_range.mp hi)]
  rw [e]; rfl

include hx hg in
/-- The group's scale and its codes. -/
theorem tile_res (q : ℕ) (hq : q < 6) (hc : ∀ d, d < 768 → Dom (c d)) (hγ : ∀ d, d < 768 → Dom (γ d)) :
    Res c γ q (scale (amax x g) (ix2 (⟨q % 8, by omega⟩ : Fin 8) l)) (fun j => code128 (prod x g) (rowV q (rr x g)) q (ix2 l j)) := by
  have hm : q % 8 = q := Nat.mod_eq_of_lt (by omega)
  have h1 := gm_row x g l (fun q r => {z | ∃ i, i < 15 + 1 ∧ z = |c (8 * ((16 * q + i) % 96) + r.val) * γ (8 * ((16 * q + i) % 96) + r.val)|})
    (fun q hq r => gmax_at x g l (fun n r => c (8 * (n % 96) + r.val)) (fun n r => γ (8 * (n % 96) + r.val)) hx hg q 15 r) (⟨q % 8, by omega⟩ : Fin 8) (by show q % 8 < 6; omega)
  have h1' : Mx (grpSet c γ q) (gm x g (ix2 (⟨q % 8, by omega⟩ : Fin 8) l)) := by
    have e := set_blocks c γ q hq
    rw [← hm] at e
    rw [hm] at e
    rw [← e]
    have k := h1
    simp only [hm] at k ⊢
    exact k
  obtain ⟨M, hM, hG⟩ := h1'
  have hA : amax x g (ix2 (⟨q % 8, by omega⟩ : Fin 8) l) = ((M * rho c : ℝ) : EReal) := by
    show gm x g (ix2 (⟨q % 8, by omega⟩ : Fin 8) l) * rnB x (ix2 (⟨q % 8, by omega⟩ : Fin 8) l) = _
    rw [hM, rnB_at x l c hx, ← EReal.coe_mul]
  have hR := alpha_range c γ q hq M hG hc hγ
  obtain ⟨e, he, hs, hi⟩ := scale_at (amax x g) _ _ hA hR
  refine ⟨M, e, hG, he, hs, fun j => ?_⟩
  have hr : rr x g (ix2 (⟨q % 8, by omega⟩ : Fin 8) l) = (((2 : ℝ) ^ (-e) * rho c : ℝ) : EReal) := by
    show min (invScale (amax x g) (ix2 (⟨q % 8, by omega⟩ : Fin 8) l) * rnB x (ix2 (⟨q % 8, by omega⟩ : Fin 8) l)) (Ideal.ofBits .f32 2139095039#32) = _
    rw [hi, rnB_at x l c hx, fmax_bits, ← EReal.coe_mul]
    exact min_eq_left (EReal.coe_le_coe_iff.mpr (inv_rho_le c e (he.range hR).1))
  refine (code128_at (prod x g) (rowV q (rr x g)) q l j).trans ?_
  refine congrArg clip448 ?_
  have hd : 8 * ((16 * q + j.val / 8) % 96) + j.val % 8 = 128 * q + j.val := by omega
  show x (16 * q + j.val / 8) (ix2 (⟨j.val % 8, by omega⟩ : Fin 8) l) * g (16 * q + j.val / 8) (ix2 (⟨j.val % 8, by omega⟩ : Fin 8) l)
    * rr x g (ix2 (⟨q % 8, by omega⟩ : Fin 8) l) = _
  rw [hr, hx, hg, ← EReal.coe_mul, ← EReal.coe_mul]
  refine congrArg _ ?_
  show c (8 * ((16 * q + j.val / 8) % 96) + j.val % 8) * γ (8 * ((16 * q + j.val / 8) % 96) + j.val % 8) * _ = _
  rw [hd]; ring

end Cert.KernelIdeal.Latent
-- ==== Proof.HostIn.lean ====
/-
What the kernel's blocks hold of the arguments: entry `(rb, t, r, l)` of the latents' block of batch entry `b` is latent
`8 rb + r` of position `128 t + l`, and the weights' block is the weights.
-/
module

public import proofs.«01_k».proof.Proof.Arrays
public import proofs.«01_k».proof.Proof.TileNum

@[expose] public section

set_option maxRecDepth 16384

noncomputable section

namespace Cert.KernelIdeal.Gen

open Idealize.ShloMosaic Idealize.ShloMosaic.TcCoe Idealize.ShloMosaic.StableHlo
open Idealize.ShloMosaic.Pipeline (Dat RDat Cfg Window)

section layout

variable {F : FTy → Type} [FloatOps F] [Named F]

/-- The latents as the kernel is given them. -/
def laid (a0 : FVec F S20x2048x832 .bf16) : FVec F S20x104x16x8x128 .bf16 :=
  transpose S20x104x16x8x128 [0, 1, 3, 2, 4] (shapeCast S20x104x8x16x128 (transpose S20x832x2048 [0, 2, 1] a0 transposes_S20x2048x832_S20x832x2048_0_2_1) shapeCasts_S20x832x2048_S20x104x8x16x128)
    transposes_S20x104x8x16x128_S20x104x16x8x128_0_1_3_2_4

/-- An entry of the latents in the kernel's layout is the latent of that position and channel. -/
theorem laid_at (a0 : FVec F S20x2048x832 .bf16) (b : Fin 20) (rb : Fin 104) (t : Fin 16) (r : Fin 8) (l : Fin 128) :
    laid a0 (ix5 b rb t r l) = a0 (ix3 b (⟨128 * t.val + l.val, by omega⟩ : Fin 2048) (⟨8 * rb.val + r.val, by omega⟩ : Fin 832)) := by
  unfold laid
  pointwise
  have e1 : t.val * 128 + l.val = 128 * t.val + l.val := by omega
  have e2 : rb.val * 8 + r.val = 8 * rb.val + r.val := by omega
  simp only [e1, e2]

end layout

variable {F : FTy → Type} [FloatOps F] [Named F]
variable (m : (ℓ : Loc nD τ sig) → Buf (Elt F) ℓ) (ρ : Dev nD → PrngReg)

/-- The kernel's first array holds the latents in the kernel's layout. -/
theorem V_main_v2 (c : Dev nD) : V m c main_v2 = laid (m ((c : Thread nD τ).loc main_arg0)) := by
  show StableHlo.after hostOps0 (fun b => m (c, b)) (Proc.devRef .tc main_v2) = _
  simp only [hostOps0]
  after_results_simp <;> rfl

set_option maxHeartbeats 1000000 in
/-- The latents' block of a point is its batch entry. -/
theorem emb0 (hO : Ok m) (t : Fin (cfgM m hO).N) (y : S1x104x16x8x128.Idx) :
    (((cfgM m hO).win 0).blk t).view.emb y = ix5 (⟨t.val, lt_of_lt_of_eq t.isLt N_0⟩ : Fin 20) (y 1) (y 2) (y 3) (y 4) := by
  have e0 : ∀ a, ((((cfgM m hO).win 0).rect t).emb y a).val = ((cfgM m hO).win 0).index t a * ((cfgM m hO).win 0).size a + (y a).val :=
    fun a => ((cfgM m hO).win 0).rect_emb_val t y a
  have h0 : (y 0).val < 1 := (y 0).isLt
  have hN : t.val < 20 := lt_of_lt_of_eq t.isLt (show (cfgM m hO).N = 20 from N_0)
  have hc := coord_val m hO t
  have i0 : ((cfgM m hO).win 0).index t (0 : Fin 5) = t.val := by
    refine Eq.trans (show _ = (BitVec.ofNat 32 (grid0.coords t 0).val).toNat from rfl) ?_
    rw [hc, BitVec.toNat_ofNat]; omega
  refine Eq.trans (show _ = (((cfgM m hO).win 0).rect t).emb y from rfl) ?_
  funext a
  apply Fin.ext
  refine (e0 a).trans ?_
  match a with
  | ⟨0, _⟩ =>
    refine Eq.trans (congrArg (fun z => z * 1 + (y 0).val) i0) ?_
    show t.val * 1 + (y 0).val = t.val
    omega
  | ⟨1, _⟩ => exact Nat.zero_add _
  | ⟨2, _⟩ => exact Nat.zero_add _
  | ⟨3, _⟩ => exact Nat.zero_add _
  | ⟨4, _⟩ => exact Nat.zero_add _

set_option maxHeartbeats 1000000 in
/-- An entry of the latents' block of a point is a latent of the argument. -/
theorem blk0_at (hO : Ok m) (c : Dev nD) (b : Fin 20) (rb : Fin 104) (t : Fin 16) (r : Fin 8) (l : Fin 128) :
    blk0 m hO c (pt m hO b) (ix5 0 rb t r l)
      = m ((c : Thread nD τ).loc main_arg0) (ix3 b (⟨128 * t.val + l.val, by omega⟩ : Fin 2048) (⟨8 * rb.val + r.val, by omega⟩ : Fin 832)) := by
  refine Eq.trans (show _ = V m c main_v2 ((((cfgM m hO).win 0).blk (pt m hO b)).view.emb (ix5 0 rb t r l)) from rfl) ?_
  refine (congrArg (V m c main_v2) (emb0 m hO (pt m hO b) (ix5 0 rb t r l))).trans ?_
  refine (congrFun (V_main_v2 m c) _).trans ?_
  exact laid_at (m ((c : Thread nD τ).loc main_arg0)) b rb t r l

set_option maxHeartbeats 1000000 in
/-- The weights' block is the whole array. -/
theorem emb1 (hO : Ok m) (t : Fin (cfgM m hO).N) (y : S768.Idx) : (((cfgM m hO).win 1).blk t).view.emb y = y := by
  have e0 : ∀ a, ((((cfgM m hO).win 1).rect t).emb y a).val = ((cfgM m hO).win 1).index t a * ((cfgM m hO).win 1).size a + (y a).val :=
    fun a => ((cfgM m hO).win 1).rect_emb_val t y a
  refine Eq.trans (show _ = (((cfgM m hO).win 1).rect t).emb y from rfl) ?_
  funext a
  apply Fin.ext
  refine (e0 a).trans ?_
  match a with
  | ⟨0, _⟩ => exact Nat.zero_add _

set_option maxHeartbeats 1000000 in
/-- The repeated weights hold a weight in every lane of its row. -/
theorem wgt_at (hO : Ok m) (c : Dev nD) (d : Fin 768) (l : Fin 128) : wgt m hO c (ix2 d l) = m ((c : Thread nD τ).loc main_arg1) (ix1 d) := by
  refine Eq.trans (show _ = V m c main_arg1 ((((cfgM m hO).win 1).blk (tZero m hO)).view.emb (ix1 d)) from rfl) ?_
  refine (congrArg (V m c main_arg1) (emb1 m hO (tZero m hO) (ix1 d))).trans ?_
  exact congrFun (V_main_arg1 m c) _

end Cert.KernelIdeal.Gen
-- ==== Proof.RefDefs.lean ====
/-
The reference's two results, written as named arrays of the arguments.
-/
module

public import proofs.«01_k».proof.Proof.Scale
public import proofs.«01_k».proof.Proof.Gen.ReferenceIdeal

@[expose] public section

set_option maxRecDepth 16384

noncomputable section

namespace Cert.ReferenceIdeal.Ref

open Idealize.ShloMosaic Cert.ReferenceIdeal Cert.ReferenceIdeal.Facts₀ Cert.ReferenceIdeal.Facts

variable {F : FTy → Type} [FloatOps F]
variable (a0 : FVec F S20x2048x832 .bf16) (a1 : FVec F S768 .f32)

/-- The latents at 32 bits. -/
def lat : FVec F S20x2048x768 .f32 := extf .f32 (extractStridedSlice S20x2048x768 ![0, 0, 0] a0 slices_S20x2048x832_S20x2048x768_0_0_0) bitsLt_bf16_f32

/-- The sum of squares at each position. -/
def ssq : FVec F S20x2048 .f32 := Host.reduceAdd (mulf (lat a0) (lat a0)) (constant S_ .f32 0x00000000#32) reducesTo_S20x2048x768_S20x2048_d2 h_S_

/-- The norm's factor at each position. -/
def rinv : FVec F S20x2048x1 .f32 := Host.rsqrt (addf (Host.divf (broadcastInDim S20x2048x1 ![0, 1] bcast_S20x2048_S20x2048x1_0_1 (ssq a0))
  (broadcastInDim S20x2048x1 ![] bcast_S_S20x2048x1 (constant S_ .f32 0x44400000#32))) (broadcastInDim S20x2048x1 ![] bcast_S_S20x2048x1 (constant S_ .f32 0x358637BD#32)))

/-- The normalized, weighted latents. -/
def nrm : FVec F S20x2048x768 .f32 := mulf (mulf (lat a0) (broadcastInDim S20x2048x768 ![0, 1, 2] bcast_S20x2048x1_S20x2048x768_0_1_2 (rinv a0)))
  (broadcastInDim S20x2048x768 ![0, 1, 2] bcast_S1x1x768_S20x2048x768_0_1_2 (broadcastInDim S1x1x768 ![2] bcast_S768_S1x1x768_2 a1))

/-- The same in groups of 128. -/
def grp : FVec F S20x2048x6x128 .f32 := shapeCast _ (nrm a0 a1) shapeCasts_S20x2048x768_S20x2048x6x128

/-- The largest magnitude of each group. -/
def amax : FVec F S20x2048x6 .f32 := Host.reduce FloatOps.maximumf (Host.absf (grp a0 a1)) (constant S_ .f32 0xFF800000#32) reducesTo_S20x2048x6x128_S20x2048x6_d3 h_S_

/-- The exponent of each group's scale. -/
def expo : FVec F S20x2048x6 .f32 := select (cmpf .oeq (amax a0 a1) (broadcastInDim S20x2048x6 ![] bcast_S_S20x2048x6 (constant S_ .f32 0x00000000#32)))
  (broadcastInDim S20x2048x6 ![] bcast_S_S20x2048x6 (id (constant S_ .f32 0x00000000#32)))
  (addf (Host.floor (Host.divf (Host.log (mulf (amax a0 a1) (broadcastInDim S20x2048x6 ![] bcast_S_S20x2048x6 (constant S_ .f32 0x3B124925#32))))
    (broadcastInDim S20x2048x6 ![] bcast_S_S20x2048x6 (Host.log (constant S_ .f32 0x40000000#32))))) (broadcastInDim S20x2048x6 ![] bcast_S_S20x2048x6 (constant S_ .f32 0x3F800000#32)))

/-- The scales, group by group. -/
def scales : FVec F S6x20x2048 .f32 := transpose S6x20x2048 [2, 0, 1] (Host.powf (broadcastInDim S20x2048x6 ![] bcast_S_S20x2048x6 (constant S_ .f32 0x40000000#32)) (expo a0 a1))
  transposes_S20x2048x6_S6x20x2048_2_0_1

/-- The scaled and clipped latents, in groups of 128. -/
def clip : FVec F S20x2048x6x128 .f32 := minimumf (broadcastInDim S20x2048x6x128 ![] bcast_S_S20x2048x6x128 (id (constant S_ .f32 0x43E00000#32)))
  (maximumf (broadcastInDim S20x2048x6x128 ![] bcast_S_S20x2048x6x128 (id (constant S_ .f32 0xC3E00000#32)))
    (mulf (grp a0 a1) (broadcastInDim S20x2048x6x128 ![0, 1, 2, 3] bcast_S20x2048x6x1_S20x2048x6x128_0_1_2_3
      (broadcastInDim S20x2048x6x1 ![0, 1, 2] bcast_S20x2048x6_S20x2048x6x1_0_1_2
        (Host.powf (broadcastInDim S20x2048x6 ![] bcast_S_S20x2048x6 (constant S_ .f32 0x40000000#32)) (Host.negf (expo a0 a1)))))))

/-- The same with the groups side by side. -/
def flat : FVec F S20x2048x768 .f32 := shapeCast _ (clip a0 a1) shapeCasts_S20x2048x6x128_S20x2048x768

end Cert.ReferenceIdeal.Ref
-- ==== Proof.RefVal.lean ====
/-
The reference's arrays, entry by entry, over the extended reals.
-/
module

public import proofs.«01_k».proof.Proof.RefDefs

@[expose] public section

set_option maxRecDepth 16384

noncomputable section

namespace Cert.ReferenceIdeal.Ref

open Idealize.ShloMosaic Cert.ReferenceIdeal Cert.ReferenceIdeal.Facts₀ Cert.ReferenceIdeal.Facts Cert.KernelIdeal.Latent

variable (a0 : FVec Ideal S20x2048x832 .bf16) (a1 : FVec Ideal S768 .f32)

/-- A latent at an entry. -/
theorem lat_idx (b : Fin 20) (s : Fin 2048) (d : Fin 768) : lat a0 (ix3 b s d) = a0 (ix3 b s (⟨d.val, by omega⟩ : Fin 832)) := by
  unfold lat
  pointwise <;> rfl

/-- The sum of squares at a position. -/
theorem ssq_idx (b : Fin 20) (s : Fin 2048) : ssq a0 (ix2 b s) = Ideal.ofBits .f32 0#32 + ∑ d : Fin 768, lat a0 (ix3 b s d) * lat a0 (ix3 b s d) := by
  unfold ssq
  pointwise <;> rfl

/-- The inverse root at a position. -/
theorem rinv_idx (b : Fin 20) (s : Fin 2048) : rinv a0 (ix3 b s 0) = Ideal.rsqrt (Ideal.div (ssq a0 (ix2 b s)) (Ideal.ofBits .f32 0x44400000#32) + Ideal.ofBits .f32 0x358637BD#32) := by
  unfold rinv
  pointwise <;> rfl

/-- The normalized value at an entry. -/
theorem nrm_idx (b : Fin 20) (s : Fin 2048) (d : Fin 768) : nrm a0 a1 (ix3 b s d) = lat a0 (ix3 b s d) * rinv a0 (ix3 b s 0) * a1 (ix1 d) := by
  unfold nrm
  pointwise <;> rfl

/-- The normalized value by group and lane. -/
theorem grp_idx (b : Fin 20) (s : Fin 2048) (q : Fin 6) (j : Fin 128) : grp a0 a1 (ix4 b s q j) = nrm a0 a1 (ix3 b s (⟨128 * q.val + j.val, by omega⟩ : Fin 768)) := by
  unfold grp
  pointwise
  have e1 : (q.val * 128 + j.val) = 128 * q.val + j.val := by omega
  simp only [e1]

/-- The greatest magnitude of a group. -/
theorem amax_idx (b : Fin 20) (s : Fin 2048) (q : Fin 6) : amax a0 a1 (ix3 b s q)
    = (Finset.univ : Finset (Fin 128)).fold max (Ideal.ofBits .f32 0xFF800000#32) fun j => max (grp a0 a1 (ix4 b s q j)) (-(grp a0 a1 (ix4 b s q j))) := by
  unfold amax
  refine (Host.reduce_eq_fold (FloatOps.maximumf : Ideal .f32 → Ideal .f32 → Ideal .f32) _ _ _ _ _).trans ?_
  pointwise <;> rfl

/-- A scalar spread over the positions of the groups. -/
theorem bc3 (w : BitVec 32) (i : S20x2048x6.Idx) : (broadcastInDim S20x2048x6 ![] bcast_S_S20x2048x6 (constant S_ .f32 w) : FVec Ideal S20x2048x6 .f32) i = Ideal.ofBits .f32 w := rfl

/-- A broadcast constant at an entry of the grouped shape. -/
theorem bc4 (w : BitVec 32) (i : S20x2048x6x128.Idx) : (broadcastInDim S20x2048x6x128 ![] bcast_S_S20x2048x6x128 (constant S_ .f32 w) : FVec Ideal S20x2048x6x128 .f32) i = Ideal.ofBits .f32 w := rfl

/-- The power of two at an entry. -/
theorem pow_idx (A : FVec Ideal S20x2048x6 .f32) (i : S20x2048x6.Idx) :
    (Host.powf (broadcastInDim S20x2048x6 ![] bcast_S_S20x2048x6 (constant S_ .f32 0x40000000#32)) A) i = Ideal.pow (Ideal.ofBits .f32 0x40000000#32) (A i) :=
  (Host.powf_apply _ _ i).trans (congrArg (fun z => Ideal.pow z (A i)) (bc3 0x40000000#32 i))

/-- The exponent's operations at an entry. -/
theorem expo_ops (A Z Y K L N : FVec Ideal S20x2048x6 .f32) (i : S20x2048x6.Idx) :
    select (cmpf .oeq A Z) Y (addf (Host.floor (Host.divf (Host.log (mulf A K)) L)) N) i
      = if BitVec.ofBool (decide (A i = Z i)) = 1 then Y i else Ideal.liftRound Int.floor (Ideal.div (Ideal.log (A i * K i)) (L i)) + N i := rfl

/-- The broadcast logarithm of two at an entry. -/
theorem bcLog (i : S20x2048x6.Idx) : (broadcastInDim S20x2048x6 ![] bcast_S_S20x2048x6 (Host.log (constant S_ .f32 0x40000000#32)) : FVec Ideal S20x2048x6 .f32) i
    = Ideal.log (Ideal.ofBits .f32 0x40000000#32) := rfl

/-- The reference's exponent at an entry. -/
theorem expo_idx (b : Fin 20) (s : Fin 2048) (q : Fin 6) : expo a0 a1 (ix3 b s q) = refExp (amax a0 a1 (ix3 b s q)) := by
  unfold expo refExp
  rw [expo_ops, bcLog, id, bc3, bc3, bc3]

/-- The reference's scale at an entry. -/
theorem scales_idx (q : Fin 6) (b : Fin 20) (s : Fin 2048) : scales a0 a1 (ix3 q b s) = Ideal.pow (Ideal.ofBits .f32 0x40000000#32) (expo a0 a1 (ix3 b s q)) := by
  unfold scales
  generalize expo a0 a1 = A
  refine Eq.trans ?_ (pow_idx A (ix3 b s q))
  generalize Host.powf (broadcastInDim S20x2048x6 ![] bcast_S_S20x2048x6 (constant S_ .f32 0x40000000#32)) A = B
  pointwise

/-- The clip's operations at an entry. -/
theorem clip_ops (K L G H : FVec Ideal S20x2048x6x128 .f32) (i : S20x2048x6x128.Idx) :
    minimumf K (maximumf L (mulf G H)) i = min (K i) (max (L i) (G i * H i)) := rfl

/-- A group's value repeated along its lanes. -/
theorem bc43 (B : FVec Ideal S20x2048x6 .f32) (b : Fin 20) (s : Fin 2048) (q : Fin 6) (j : Fin 128) :
    (broadcastInDim S20x2048x6x128 ![0, 1, 2, 3] bcast_S20x2048x6x1_S20x2048x6x128_0_1_2_3
      (broadcastInDim S20x2048x6x1 ![0, 1, 2] bcast_S20x2048x6_S20x2048x6x1_0_1_2 B)) (ix4 b s q j) = B (ix3 b s q) := by
  pointwise

/-- A negation at an entry. -/
theorem negf_idx (A : FVec Ideal S20x2048x6 .f32) (i : S20x2048x6.Idx) : Host.negf A i = -(A i) := rfl

/-- The reference's clipped value by group and lane. -/
theorem clip_idx (b : Fin 20) (s : Fin 2048) (q : Fin 6) (j : Fin 128) : clip a0 a1 (ix4 b s q j)
    = min (Ideal.ofBits .f32 0x43E00000#32) (max (Ideal.ofBits .f32 0xC3E00000#32)
      (grp a0 a1 (ix4 b s q j) * Ideal.pow (Ideal.ofBits .f32 0x40000000#32) (-(expo a0 a1 (ix3 b s q))))) := by
  unfold clip
  rw [clip_ops, bc43, pow_idx, negf_idx, id, id, bc4, bc4]

/-- The reference's clipped value by channel. -/
theorem flat_idx (b : Fin 20) (s : Fin 2048) (d : Fin 768) : flat a0 a1 (ix3 b s d)
    = clip a0 a1 (ix4 b s (⟨d.val / 128, by omega⟩ : Fin 6) (⟨d.val % 128, by omega⟩ : Fin 128)) := by
  unfold flat
  pointwise

end Cert.ReferenceIdeal.Ref
-- ==== Proof.RefNum.lean ====
/-
The reference's scale and clipped values of one group at one position, of real latents and weights.
-/
module

public import proofs.«01_k».proof.Proof.RefVal
public import proofs.«01_k».proof.Proof.Spec

@[expose] public section

set_option maxRecDepth 16384

noncomputable section

namespace Cert.ReferenceIdeal.Ref

open Idealize.ShloMosaic Cert.ReferenceIdeal Cert.KernelIdeal.Latent

/-- The bits of the mean's divisor are 768. -/
theorem width_bits : Ideal.ofBits .f32 0x44400000#32 = ((768 : ℝ) : EReal) := by
  unfold Ideal.ofBits Ideal.ieee
  have h1 : ((0x44400000#32 : BitVec 32).extractLsb' (8 + 23) 1 == 1#1) = false := by decide
  have h2 : ((0x44400000#32 : BitVec 32).extractLsb' 23 8).toNat = 136 := by decide
  have h3 : ((0x44400000#32 : BitVec 32).extractLsb' 0 23).toNat = 4194304 := by decide
  simp only [h1, h2, h3]
  norm_num

/-- The bits of negative infinity are the bottom element. -/
theorem bot_bits : Ideal.ofBits .f32 0xFF800000#32 = (⊥ : EReal) := by
  unfold Ideal.ofBits Ideal.ieee
  have h1 : ((0xFF800000#32 : BitVec 32).extractLsb' (8 + 23) 1 == 1#1) = true := by decide
  have h2 : ((0xFF800000#32 : BitVec 32).extractLsb' 23 8).toNat = 255 := by decide
  have h3 : ((0xFF800000#32 : BitVec 32).extractLsb' 0 23).toNat = 0 := by decide
  simp only [h1, h2, h3]
  norm_num

/-- The maximum of finitely many reals, taken from the least element. -/
theorem fold_max {n : ℕ} (h : 0 < n) (f : Fin n → EReal) (u : Fin n → ℝ) (hf : ∀ j, f j = ((u j : ℝ) : EReal)) :
    ∃ j, (Finset.univ : Finset (Fin n)).fold max (⊥ : EReal) f = ((u j : ℝ) : EReal) ∧ ∀ k, u k ≤ u j := by
  haveI : Nonempty (Fin n) := ⟨⟨0, h⟩⟩
  obtain ⟨j, hj⟩ := Finite.exists_max u
  refine ⟨j, le_antisymm ?_ ?_, hj⟩
  · rw [Finset.fold_max_le]
    exact ⟨bot_le, fun k _ => by rw [hf]; exact EReal.coe_le_coe_iff.mpr (hj k)⟩
  · rw [Finset.le_fold_max]
    exact .inr ⟨j, Finset.mem_univ _, (hf j).ge⟩

variable (a0 : FVec Ideal S20x2048x832 .bf16) (a1 : FVec Ideal S768 .f32) (b : Fin 20) (s : Fin 2048) (c γ : ℕ → ℝ)
variable (hx : ∀ d : Fin 768, a0 (ix3 b s (⟨d.val, Nat.lt_of_lt_of_le d.isLt (Nat.le.intro (k := 64) rfl)⟩ : Fin 832)) = ((c d.val : ℝ) : EReal)) (hg : ∀ d : Fin 768, a1 (ix1 d) = ((γ d.val : ℝ) : EReal))

include hx in
/-- The reference's inverse root at a position is the real one. -/
theorem rinv_at : rinv a0 (ix3 b s 0) = ((rho c : ℝ) : EReal) := by
  have e : ssq a0 (ix2 b s) = ((sqSum c : ℝ) : EReal) := by
    rw [ssq_idx, zero_bits]
    have : ∀ d : Fin 768, lat a0 (ix3 b s d) * lat a0 (ix3 b s d) = ((c d.val * c d.val : ℝ) : EReal) := fun d => by
      rw [lat_idx, hx, ← EReal.coe_mul]
    rw [Finset.sum_congr rfl fun d _ => this d, ← coe_sum, ← EReal.coe_add, zero_add]
    unfold sqSum
    rw [Finset.sum_range]
  rw [rinv_idx, e, width_bits, Ideal.div_coe (by norm_num)]
  exact rsqrt_rho _ (sqSum_nonneg c)

include hx hg in
/-- The reference's normalized value at a position, group and lane is the real one. -/
theorem grp_at (q : Fin 6) (j : Fin 128) : grp a0 a1 (ix4 b s q j)
    = ((c (128 * q.val + j.val) * rho c * γ (128 * q.val + j.val) : ℝ) : EReal) := by
  rw [grp_idx, nrm_idx, lat_idx, rinv_at a0 b s c hx, hx, hg, ← EReal.coe_mul, ← EReal.coe_mul]

include hx hg in
/-- The reference's scale and clipped values. -/
theorem ref_res (q : Fin 6) (hc : ∀ d, d < 768 → Dom (c d)) (hγ : ∀ d, d < 768 → Dom (γ d)) (he : ∀ α : ℝ, (α = 0 ∨ ((2 : ℝ) ^ (-91 : ℤ) ≤ α ∧ α ≤ (2 : ℝ) ^ (70 : ℤ))) → ∃ e, ExpOf α e) :
    Res c γ q.val (scales a0 a1 (ix3 q b s)) (fun j => clip a0 a1 (ix4 b s q j)) := by
  have h0 := amax_idx a0 a1 b s q
  rw [bot_bits] at h0
  obtain ⟨j, hj, hm⟩ := fold_max (by omega) (fun j => max (grp a0 a1 (ix4 b s q j)) (-(grp a0 a1 (ix4 b s q j))))
    (fun j : Fin 128 => |c (128 * q.val + j.val) * γ (128 * q.val + j.val)| * rho c) (fun j => by
      rw [grp_at a0 a1 b s c γ hx hg, coe_abs]
      refine congrArg _ ?_
      rw [mul_right_comm, abs_mul, abs_of_pos (rho_pos c)])
  have hG : IsGreatest (grpSet c γ q.val) |c (128 * q.val + j.val) * γ (128 * q.val + j.val)| := by
    refine ⟨⟨j, rfl⟩, ?_⟩
    rintro z ⟨k, rfl⟩
    exact le_of_mul_le_mul_right (hm k) (rho_pos c)
  have hR := alpha_range c γ q.val q.isLt _ hG hc hγ
  obtain ⟨e, hE⟩ := he _ hR
  have hx' : expo a0 a1 (ix3 b s q) = (((e : ℝ) : ℝ) : EReal) := by
    rw [expo_idx, h0, hj]; exact refExp_at _ e hE
  refine ⟨_, e, hG, hE, ?_, fun k => ?_⟩
  · rw [scales_idx, hx']; exact pow_at e
  · show clip a0 a1 (ix4 b s q k) = _
    rw [clip_idx, hx', grp_at a0 a1 b s c γ hx hg]
    have hp := pow_at (-e)
    rw [show (-(((e : ℝ) : ℝ) : EReal)) = ((((-e : ℤ) : ℝ) : ℝ) : EReal) by rw [← EReal.coe_neg]; push_cast; rfl, hp, ← EReal.coe_mul]
    rfl

end Cert.ReferenceIdeal.Ref
-- ==== Proof.RefOut.lean ====
/-
The reference's two results after a run are the arrays of its arguments named in the module of definitions.
-/
module

public import proofs.«01_k».proof.Proof.RefDefs
public import proofs.«01_k».proof.Proof.Gen.ReferenceIdeal.Run
public import Idealize.ShloMosaic.Lib.Pipeline.ValueKit.Geometry
public import Idealize.ShloMosaic.Lib.Pipeline.ValueKit.Basic

@[expose] public section

set_option maxRecDepth 16384

noncomputable section

namespace Cert.ReferenceIdeal.Ref

open Idealize.ShloMosaic Idealize.ShloMosaic.TcCoe Idealize.ShloMosaic.StableHlo Idealize.ShloMosaic.ValueKit
open Cert.ReferenceIdeal Cert.ReferenceIdeal.Gen
open Idealize.ShloMosaic.Pipeline (Dat Cfg Window)
open Idealize.SL Idealize.SL.Sem

section any

variable {F : FTy → Type} [FloatOps F]
variable (m : (ℓ : Loc nD τ sig) → Buf (Elt F) ℓ)

set_option maxHeartbeats 2000000 in
/-- The array the conversion reads. -/
theorem V_flat (c : Dev nD) : V m c main_v39 = flat (m ((c : Thread nD τ).loc main_arg0)) (m ((c : Thread nD τ).loc main_arg1)) := by
  show Gen.V0 m c (Proc.devRef .tc main_v39) = _
  simp only [Gen.V0, Gen.hostOps0, Gen.hostOps0_1, Gen.hostOps0_2, Gen.hostOps0_3, Gen.hostOps0_4, TRef.binary, TRef.ternary, TRef.unary, TRef.toBuf, TRef.ofBuf, cast_eq, List.flatten_cons, List.flatten_nil, List.append_nil, List.cons_append, List.nil_append]
  after_results_simp <;> rfl

/-- What the conversion leaves is its payload. -/
theorem out_eq (x0 : Vec F S20x2048x768 .f32) : out0_1 x0 = k0_pay1 x0 := by
  unfold out0_1
  rw [View.canon_cons_unit_lit _ _ _ (by decide), View.ld_unit_lit _ _ (by decide)]

/-- The conversion's one point. -/
def t0 : Fin cfg0.N := ⟨0, by decide⟩

/-- The reference's cast has one grid point. -/
theorem t0_eq (t : Fin cfg0.N) : t = t0 := by
  have h : t.val < 1 := t.isLt
  exact Fin.ext (by show t.val = 0; omega)

/-- The cast's output window is the whole array. -/
theorem whole1 : (cfg0.win 1).WholeAt t0 := by
  refine ⟨flush0_1 _, fun t _ => t0_eq t, fun a => ?_⟩
  match a with
  | ⟨0, _⟩ => exact ⟨rfl, rfl⟩
  | ⟨1, _⟩ => exact ⟨rfl, rfl⟩
  | ⟨2, _⟩ => exact ⟨rfl, rfl⟩

set_option maxHeartbeats 1000000 in
/-- The cast's input block is the whole array. -/
theorem emb0 (y : S20x2048x768.Idx) : ((cfg0.win 0).blk t0).view.emb y = y := by
  have e0 : ∀ a, (((cfg0.win 0).rect t0).emb y a).val = (cfg0.win 0).index t0 a * (cfg0.win 0).size a + (y a).val :=
    fun a => (cfg0.win 0).rect_emb_val t0 y a
  refine Eq.trans (show _ = ((cfg0.win 0).rect t0).emb y from rfl) ?_
  funext a
  apply Fin.ext
  refine (e0 a).trans ?_
  match a with
  | ⟨0, _⟩ => exact Nat.zero_add _
  | ⟨1, _⟩ => exact Nat.zero_add _
  | ⟨2, _⟩ => exact Nat.zero_add _

set_option maxHeartbeats 1000000 in
/-- The cast's input block holds the clipped values. -/
theorem blk_eq (c : Dev nD) (y : S20x2048x768.Idx) : iblk m c 0 t0 y = flat (m ((c : Thread nD τ).loc main_arg0)) (m ((c : Thread nD τ).loc main_arg1)) y := by
  refine Eq.trans (show _ = V m c main_v39 (((cfg0.win 0).blk t0).view.emb y) from rfl) ?_
  refine (congrArg (V m c main_v39) (emb0 y)).trans ?_
  exact congrFun (V_flat m c) y

set_option maxHeartbeats 1000000 in
/-- The first result, entry by entry: the conversion's payload. -/
theorem codes_out (c : Dev nD) (y : S20x2048x768.Idx) : Value.reg_main_v40 m c y = k0_pay1 (iblk m c 0 t0) y := by
  refine Eq.trans (show _ = (dats m 0 c).arrAt 1 cfg0.N ((cfg0.win 1).arr.view.emb y) from rfl) ?_
  refine ((dats m 0 c).arrAt_emb_eq_after_last 1 t0 whole1 y).trans ?_
  refine Eq.trans (show _ = (dats m 0 c).after 1 t0 y from rfl) ?_
  refine (congrFun (after0_1 m c t0) y).trans ?_
  exact congrFun (out_eq (iblk m c 0 t0)) y

end any

/-- The cast stores its input unchanged over the extended reals. -/
theorem pay_id (x0 : Vec Ideal S20x2048x768 .f32) (b : Fin 20) (s : Fin 2048) (d : Fin 768) : k0_pay1 x0 (ix3 b s d) = x0 (ix3 b s d) := by
  unfold k0_pay1
  pointwise <;> rfl

/-- The first result, entry by entry. -/
theorem v40_at (m : (ℓ : Loc nD τ sig) → Buf (Elt Ideal) ℓ) (c : Dev nD) (b : Fin 20) (s : Fin 2048) (d : Fin 768) :
    Eq (α := EReal) (Value.reg_main_v40 m c (ix3 b s d)) (flat (F := Ideal) (m ((c : Thread nD τ).loc main_arg0)) (m ((c : Thread nD τ).loc main_arg1)) (ix3 b s d)) :=
  (codes_out m c (ix3 b s d)).trans ((pay_id (iblk m c 0 t0) b s d).trans (blk_eq m c (ix3 b s d)))

end Cert.ReferenceIdeal.Ref
-- ==== Proof.PreDec.lean ====
/-
What the precondition says, entry by entry: every latent and every weight is a real number, zero or of a magnitude between
`2^-30` and `2^30`.
-/
module

public import proofs.«01_k».proof.Pre_bounded
public import proofs.«01_k».proof.Proof.Spec
public import Idealize.ShloMosaic.Lib.ReduceAll
public import Idealize.ShloMosaic.Lib.Pointwise
public import Idealize.ShloMosaic.Lib.ValueIdx

@[expose] public section

set_option maxRecDepth 16384

noncomputable section

namespace Cert.Pre_bounded.Dec

open Idealize.ShloMosaic Cert.Pre_bounded Cert.Pre_bounded.Facts Cert.KernelIdeal.Latent

/-- The lower bound's bits are `2^-30`. -/
theorem lo_bits : Ideal.ofBits .f32 0x30800000#32 = (((2 : ℝ) ^ (-30 : ℤ) : ℝ) : EReal) := by
  unfold Ideal.ofBits Ideal.ieee
  have h1 : ((0x30800000#32 : BitVec 32).extractLsb' (8 + 23) 1 == 1#1) = false := by decide
  have h2 : ((0x30800000#32 : BitVec 32).extractLsb' 23 8).toNat = 97 := by decide
  have h3 : ((0x30800000#32 : BitVec 32).extractLsb' 0 23).toNat = 0 := by decide
  simp only [h1, h2, h3]
  norm_num

/-- The upper bound's bits are `2^30`. -/
theorem hi_bits : Ideal.ofBits .f32 0x4E800000#32 = (((2 : ℝ) ^ (30 : ℤ) : ℝ) : EReal) := by
  unfold Ideal.ofBits Ideal.ieee
  have h1 : ((0x4E800000#32 : BitVec 32).extractLsb' (8 + 23) 1 == 1#1) = false := by decide
  have h2 : ((0x4E800000#32 : BitVec 32).extractLsb' 23 8).toNat = 157 := by decide
  have h3 : ((0x4E800000#32 : BitVec 32).extractLsb' 0 23).toNat = 0 := by decide
  simp only [h1, h2, h3]
  norm_num

/-- A bit that says "first, or second and third" read as a proposition. -/
theorem bool_split (a b c : Bool) (h : BitVec.ofBool a ||| (BitVec.ofBool b &&& BitVec.ofBool c) = 1#1) : a = true ∨ (b = true ∧ c = true) := by
  revert h; cases a <;> cases b <;> cases c <;> decide

/-- A number whose magnitude is 0 or within the bounds is a real number, 0 or within the bounds. -/
theorem dom_of (x : EReal) (h : max x (-x) = ((0 : ℝ) : EReal) ∨ ((((2 : ℝ) ^ (-30 : ℤ) : ℝ) : EReal) ≤ max x (-x) ∧ max x (-x) ≤ (((2 : ℝ) ^ (30 : ℤ) : ℝ) : EReal))) :
    ∃ r : ℝ, x = (r : EReal) ∧ Dom r := by
  induction x using EReal.rec with
  | bot =>
    exfalso
    rw [EReal.neg_bot, max_eq_right bot_le] at h
    rcases h with h | ⟨-, h⟩
    · exact EReal.coe_ne_top _ h.symm
    · exact EReal.coe_ne_top _ (top_le_iff.mp h)
  | top =>
    exfalso
    rw [max_eq_left le_top] at h
    rcases h with h | ⟨-, h⟩
    · exact EReal.coe_ne_top _ h.symm
    · exact EReal.coe_ne_top _ (top_le_iff.mp h)
  | coe r =>
    refine ⟨r, rfl, ?_⟩
    rw [coe_abs] at h
    rcases h with h | ⟨h1, h2⟩
    · exact .inl (abs_eq_zero.mp (EReal.coe_eq_coe_iff.mp h))
    · exact .inr ⟨EReal.coe_le_coe_iff.mp h1, EReal.coe_le_coe_iff.mp h2⟩

/-- The condition at one entry puts it in range. -/
theorem elt_dom {S : Shape} (x z lo hi : FVec Ideal S .f32) (i : S.Idx) (hz : z i = Ideal.ofBits .f32 0#32) (hlo : lo i = Ideal.ofBits .f32 0x30800000#32)
    (hhi : hi i = Ideal.ofBits .f32 0x4E800000#32)
    (h : ori (cmpf .oeq (Host.absf x) z) (andi (cmpf .ole lo (Host.absf x)) (cmpf .ole (Host.absf x) hi)) i = 1#1) : ∃ r : ℝ, x i = (r : EReal) ∧ Dom r := by
  have h' := bool_split (decide (max (x i) (-(x i)) = z i)) (decide (lo i ≤ max (x i) (-(x i)))) (decide (max (x i) (-(x i)) ≤ hi i)) h
  rw [decide_eq_true_iff, decide_eq_true_iff, decide_eq_true_iff, hz, hlo, hhi, zero_bits, lo_bits, hi_bits] at h'
  exact dom_of _ h'

/-- A conjunction of two bits that holds, split. -/
theorem and_split (A B : IVec S_ 1) (h : andi A B = fun _ => 1#1) : A ix0 = 1#1 ∧ B ix0 = 1#1 := by
  have h' : A ix0 &&& B ix0 = 1#1 := congrFun h ix0
  generalize A ix0 = a at *
  generalize B ix0 = b at *
  revert h'; revert a b; decide

instance : Subsingleton S_.Idx := ⟨fun a b => funext fun k => k.elim0⟩

variable [Cert.Pre_bounded.Facts]

/-- A broadcast constant is the constant at every entry (3 axes). -/
theorem zlo3 (w : BitVec 32) (i : S20x2048x768.Idx) : (broadcastInDim S20x2048x768 ![] bcast_S_S20x2048x768 (constant S_ .f32 w) : FVec Ideal S20x2048x768 .f32) i = Ideal.ofBits .f32 w := rfl

/-- A broadcast constant is the constant at every entry (1 axes). -/
theorem zlo1 (w : BitVec 32) (i : S768.Idx) : (broadcastInDim S768 ![] bcast_S_S768 (constant S_ .f32 w) : FVec Ideal S768 .f32) i = Ideal.ofBits .f32 w := rfl

/-- The condition over a whole array puts every entry in range. -/
theorem all_dom {S : Shape} {axes : List (Fin S.rank)} (x z lo hi : FVec Ideal S .f32) (hz : ∀ i, z i = Ideal.ofBits .f32 0#32) (hlo : ∀ i, lo i = Ideal.ofBits .f32 0x30800000#32)
    (hhi : ∀ i, hi i = Ideal.ofBits .f32 0x4E800000#32) (v : IVec S_ 1) (hr : S.ReducesTo axes S_) (hu : 0 < S_.numel)
    (h : Host.reduce IntOp.andi (ori (cmpf .oeq (Host.absf x) z) (andi (cmpf .ole lo (Host.absf x)) (cmpf .ole (Host.absf x) hi))) v hr hu ix0 = 1#1) (i : S.Idx) :
    ∃ r : ℝ, x i = (r : EReal) ∧ Dom r :=
  elt_dom x z lo hi i (hz i) (hlo i) (hhi i) (Host.reduce_andi_all _ _ _ _ _ h i)

/-- The precondition's two halves. -/
theorem decode (a0 : FVec Ideal S20x2048x832 .bf16) (a1 : FVec Ideal S768 .f32) (a2 : IVec S20 32) (h : fn a0 a1 a2 = fun _ => 1#1) :
    (∀ i : S20x2048x768.Idx, ∃ r : ℝ, (extf .f32 (extractStridedSlice S20x2048x768 ![0, 0, 0] a0 slices_S20x2048x832_S20x2048x768_0_0_0) bitsLt_bf16_f32 : FVec Ideal S20x2048x768 .f32) i = (r : EReal) ∧ Dom r)
      ∧ ∀ i : S768.Idx, ∃ r : ℝ, a1 i = (r : EReal) ∧ Dom r := by
  obtain ⟨hA, hB⟩ := and_split _ _ h
  exact ⟨all_dom _ _ _ _ (zlo3 _) (zlo3 _) (zlo3 _) _ _ _ hA, all_dom _ _ _ _ (zlo1 _) (zlo1 _) (zlo1 _) _ _ _ hB⟩

/-- The latents are the first 768 channels. -/
theorem slice_idx (a0 : FVec Ideal S20x2048x832 .bf16) (b : Fin 20) (s : Fin 2048) (d : Fin 768) :
    (extf .f32 (extractStridedSlice S20x2048x768 ![0, 0, 0] a0 slices_S20x2048x832_S20x2048x768_0_0_0) bitsLt_bf16_f32 : FVec Ideal S20x2048x768 .f32) (ix3 b s d)
      = a0 (ix3 b s (⟨d.val, by omega⟩ : Fin 832)) := by
  pointwise <;> rfl

/-- The arguments as real numbers. -/
theorem reals (a0 : FVec Ideal S20x2048x832 .bf16) (a1 : FVec Ideal S768 .f32) (a2 : IVec S20 32) (h : fn a0 a1 a2 = fun _ => 1#1) :
    (∀ (b : Fin 20) (s : Fin 2048), ∃ c : ℕ → ℝ, (∀ d : Fin 768, a0 (ix3 b s (⟨d.val, by omega⟩ : Fin 832)) = ((c d.val : ℝ) : EReal)) ∧ ∀ d, d < 768 → Dom (c d))
      ∧ ∃ γ : ℕ → ℝ, (∀ d : Fin 768, a1 (ix1 d) = ((γ d.val : ℝ) : EReal)) ∧ ∀ d, d < 768 → Dom (γ d) := by
  obtain ⟨h0, h1⟩ := decode a0 a1 a2 h
  have ext : ∀ f : Fin 768 → EReal, (∀ d, ∃ r : ℝ, f d = (r : EReal) ∧ Dom r) → ∃ c : ℕ → ℝ, (∀ d : Fin 768, f d = ((c d.val : ℝ) : EReal)) ∧ ∀ d, d < 768 → Dom (c d) := by
    intro f hf
    choose r hr hD using hf
    refine ⟨fun d => if hd : d < 768 then r ⟨d, hd⟩ else 0, fun d => ?_, fun d hd => ?_⟩
    · simp only [d.isLt, dite_true]; exact hr d
    · simp only [hd, dite_true]; exact hD _
  refine ⟨fun b s => ext (fun d => a0 (ix3 b s (⟨d.val, by omega⟩ : Fin 832))) fun d => ?_, ext (fun d => a1 (ix1 d)) fun d => h1 (ix1 d)⟩
  have := h0 (ix3 b s d)
  rw [slice_idx] at this
  exact this

end Cert.Pre_bounded.Dec
-- ==== Proof.Final.lean ====
/-
Kernel and reference compute the same codes and scales over the extended reals, of arguments whose entries are zero or of a
magnitude between `2^-30` and `2^30`.
-/
module

public import proofs.«01_k».proof.Defs
public import proofs.«01_k».proof.Proof.HostIn
public import proofs.«01_k».proof.Proof.RefNum
public import proofs.«01_k».proof.Proof.RefOut
public import proofs.«01_k».proof.Proof.PreDec
public import proofs.«01_k».proof.Proof.Gen.Pre_bounded

@[expose] public section

set_option maxRecDepth 16384

noncomputable section

namespace Cert.Agree

open Idealize.ShloMosaic Idealize.ShloMosaic.TcCoe Idealize.SL.Sem
open Cert.KernelIdeal Cert.KernelIdeal.Gen Cert.KernelIdeal.Latent
open Idealize.ShloMosaic.Pipeline (RDat)

/-- Every real number in range has an exponent. -/
theorem exists_exp (α : ℝ) (h : α = 0 ∨ ((2 : ℝ) ^ (-91 : ℤ) ≤ α ∧ α ≤ (2 : ℝ) ^ (70 : ℤ))) : ∃ e, ExpOf α e := by
  obtain ⟨e, he, -⟩ := scale_at (fun _ => ((α : ℝ) : EReal)) (ix2 0 0) α rfl h
  exact ⟨e, he⟩

variable (m : (ℓ : Loc nD τ sig) → Buf (Elt Ideal) ℓ) (hO : Ok m) (c : Dev nD)

/-- The latents and the weights of a device. -/
abbrev A0 : FVec Ideal S20x2048x832 .bf16 := m ((c : Thread nD τ).loc main_arg0)
/-- The weights of a device. -/
abbrev A1 : FVec Ideal S768 .f32 := m ((c : Thread nD τ).loc main_arg1)

/-- The tile's latents at a position are the argument's. -/
theorem xt_at (b : Fin 20) (s : Fin 2048) (n : ℕ) (r : Fin 8) :
    Eq (α := EReal) (xt (F := Ideal) (blk0 m hO c (pt m hO b)) (s.val / 128) n (ix2 r (⟨s.val % 128, by omega⟩ : Fin 128)))
      (A0 m c (ix3 b s (⟨8 * (n % 96) + r.val, by omega⟩ : Fin 832))) := by
  have h := blk0_at m hO c b (⟨n % 96, by omega⟩ : Fin 104) (⟨s.val / 128 % 16, by omega⟩ : Fin 16) r (⟨s.val % 128, by omega⟩ : Fin 128)
  have e : (⟨128 * (s.val / 128 % 16) + s.val % 128, by omega⟩ : Fin 2048) = s := Fin.ext (by show 128 * (s.val / 128 % 16) + s.val % 128 = s.val; omega)
  refine Eq.trans h ?_
  exact congrArg (fun z => A0 m c (ix3 b z (⟨8 * (n % 96) + r.val, by omega⟩ : Fin 832))) e

/-- The tile's weights are the argument's. -/
theorem gt_at (n : ℕ) (r : Fin 8) (l : Fin 128) :
    Eq (α := EReal) (gt (F := Ideal) (wgt m hO c) n (ix2 r l)) (A1 m c (ix1 (⟨8 * (n % 96) + r.val, by omega⟩ : Fin 768))) :=
  wgt_at m hO c (⟨8 * (n % 96) + r.val, by omega⟩ : Fin 768) l

/-- One group at one position. -/
theorem group (hpre : Cert.Pre_bounded.fn (F := Ideal) (A0 m c) (A1 m c) (m ((c : Thread nD τ).loc main_arg2)) = fun _ => 1#1)
    (b : Fin 20) (s : Fin 2048) (q : Fin 6) :
    Eq (α := EReal) (scaleAt (F := Ideal) (blk0 m hO c (pt m hO b)) (wgt m hO c) q.val s.val) (Cert.ReferenceIdeal.Ref.scales (F := Ideal) (A0 m c) (A1 m c) (ix3 q b s))
      ∧ ∀ j : Fin 128, Eq (α := EReal)
        (code128 (F := Ideal) (prod (xt (blk0 m hO c (pt m hO b)) (s.val / 128)) (gt (wgt m hO c))) (rowV q.val (rr (xt (blk0 m hO c (pt m hO b)) (s.val / 128)) (gt (wgt m hO c)))) q.val
          (ix2 (⟨s.val % 128, by omega⟩ : Fin 128) j))
        (Cert.ReferenceIdeal.Ref.clip (F := Ideal) (A0 m c) (A1 m c) (ix4 b s q j)) := by
  obtain ⟨hA, γ, hγ, hγD⟩ := Cert.Pre_bounded.Dec.reals _ _ _ hpre
  obtain ⟨x, hx, hxD⟩ := hA b s
  have hk := tile_res (xt (F := Ideal) (blk0 m hO c (pt m hO b)) (s.val / 128)) (gt (F := Ideal) (wgt m hO c)) (⟨s.val % 128, by omega⟩ : Fin 128) x γ
    (fun n r => (xt_at m hO c b s n r).trans (hx (⟨8 * (n % 96) + r.val, by omega⟩ : Fin 768)))
    (fun n r => (gt_at m hO c n r _).trans (hγ (⟨8 * (n % 96) + r.val, by omega⟩ : Fin 768))) q.val q.isLt hxD hγD
  have hr := Cert.ReferenceIdeal.Ref.ref_res (A0 m c) (A1 m c) b s x γ hx hγ q hxD hγD exists_exp
  exact hk.unique hr

/-- Every index of a three-axis array is given by its three coordinates. -/
theorem ix3_eta {n0 n1 n2 : ℕ} (i : (⟨3, ![n0, n1, n2]⟩ : Shape).Idx) : ∃ (a : Fin n0) (b : Fin n1) (d : Fin n2), i = ix3 a b d :=
  ⟨i 0, i 1, i 2, funext fun a => by
    match a with
    | ⟨0, _⟩ => rfl
    | ⟨1, _⟩ => rfl
    | ⟨2, _⟩ => rfl⟩

variable (r : PUnit × MemSt nD τ sig (Elt Ideal))
    (h : RDat.FramePost ((Pipeline.pin pcfgs fun _ => adm m hO) 0) (fun c => rdat m hO c) (V m) r)

include h in
/-- The scales' array. -/
theorem scales_agree (hpre : Cert.Pre_bounded.fn (F := Ideal) (A0 m c) (A1 m c) (m ((c : Thread nD τ).loc main_arg2)) = fun _ => 1#1) (i : S6x20x2048.Idx) :
    Eq (α := EReal) (r.2.mem ((c : Thread nD τ).loc main_v3_2) i) (Cert.ReferenceIdeal.Ref.scales (F := Ideal) (A0 m c) (A1 m c) i) := by
  obtain ⟨q, b, s, rfl⟩ := ix3_eta i
  exact (scales_array m hO r h c q b s).trans (group m hO c hpre b s q).1

include h in
/-- The codes' array. -/
theorem codes_agree (hpre : Cert.Pre_bounded.fn (F := Ideal) (A0 m c) (A1 m c) (m ((c : Thread nD τ).loc main_arg2)) = fun _ => 1#1) (i : S20x2048x768.Idx) :
    Eq (α := EReal) (r.2.mem ((c : Thread nD τ).loc main_v3_1) i) (Cert.ReferenceIdeal.Ref.flat (F := Ideal) (A0 m c) (A1 m c) i) := by
  obtain ⟨b, s, d, rfl⟩ := ix3_eta i
  refine (codes_array m hO r h c b s d).trans ?_
  refine Eq.trans ((group m hO c hpre b s (⟨d.val / 128, by omega⟩ : Fin 6)).2 (⟨d.val % 128, by omega⟩ : Fin 128)) ?_
  exact (Cert.ReferenceIdeal.Ref.flat_idx (A0 m c) (A1 m c) b s d).symm

end Cert.Agree

namespace Cert.Agree

open Idealize.ShloMosaic Idealize.ShloMosaic.TcCoe Idealize.SL.Sem

set_option maxHeartbeats 1000000 in
/-- Of the same arguments, within the precondition, kernel and reference end with the same codes and scales. -/
theorem algebraic : Cert.algebraic_KernelIdeal_ReferenceIdeal_pre_bounded
    (hKernelIdeal := Cert.KernelIdeal.Gen.facts) (hReferenceIdeal := Cert.ReferenceIdeal.Gen.facts) (hPre_bounded := Cert.Pre_bounded.Gen.facts) := by
  intro m g m' g' hpre hargs
  refine ⟨fun c => Cert.ReferenceIdeal.Ref.flat (F := Ideal) (A0 m c) (A1 m c), fun c => Cert.ReferenceIdeal.Ref.scales (F := Ideal) (A0 m c) (A1 m c), ?_, ?_⟩
  · refine (θ_run _ _ _).mono (fun r h c => ?_) (Cert.KernelIdeal.Gen.run_main m g trivial)
    refine ⟨funext fun i => codes_agree m trivial c r h (hpre c) i, funext fun i => scales_agree m trivial c r h (hpre c) i, ?_, ?_, ?_⟩
    · exact ((h c).2 Cert.KernelIdeal.main_arg0 (by decide : Cert.KernelIdeal.main_arg0 ∈ Pipeline.restRefs Cert.KernelIdeal.sig Cert.KernelIdeal.spec0)).trans (Cert.KernelIdeal.Gen.V_main_arg0 m c)
    · exact (Pipeline.RDat.FramePost.arr_in h c 1 rfl).trans ((Cert.KernelIdeal.Gen.A_eq m trivial c 1).trans (Cert.KernelIdeal.Gen.V_main_arg1 m c))
    · exact ((h c).2 Cert.KernelIdeal.main_arg2 (by decide : Cert.KernelIdeal.main_arg2 ∈ Pipeline.restRefs Cert.KernelIdeal.sig Cert.KernelIdeal.spec0)).trans (Cert.KernelIdeal.Gen.V_main_arg2 m c)
  · refine (θ_run _ _ _).mono (fun r h c => ?_) (Cert.ReferenceIdeal.Value.run m' g')
    obtain ⟨h40, h41, h0, h1, h2⟩ := h c
    have e0 := (hargs c).1
    have e1 := (hargs c).2.1
    refine ⟨?_, ?_, h0, h1, h2⟩
    · refine h40.trans (funext fun i => ?_)
      obtain ⟨b, s, d, rfl⟩ := ix3_eta (n0 := 20) (n1 := 2048) (n2 := 768) i
      refine (Cert.ReferenceIdeal.Ref.v40_at m' c b s d).trans ?_
      exact congrFun (congrArg₂ (Cert.ReferenceIdeal.Ref.flat (F := Ideal)) e0 e1) _
    · refine h41.trans (Eq.trans (show _ = Cert.ReferenceIdeal.Ref.scales (F := Ideal) (m' ((c : Thread Cert.ReferenceIdeal.nD Cert.ReferenceIdeal.τ).loc Cert.ReferenceIdeal.main_arg0))
        (m' ((c : Thread Cert.ReferenceIdeal.nD Cert.ReferenceIdeal.τ).loc Cert.ReferenceIdeal.main_arg1)) from rfl) ?_)
      exact congrArg₂ (Cert.ReferenceIdeal.Ref.scales (F := Ideal)) e0 e1

end Cert.Agree
-- ==== Proof.lean ====
/- The claims of this certificate, put together. -/
module

public import proofs.«01_k».proof.Defs
public import proofs.«01_k».proof.Proof.KernelFrame
public import proofs.«01_k».proof.Proof.Frame
public import proofs.«01_k».proof.Proof.Gen.ReferenceIdeal.Frame
public import proofs.«01_k».proof.Proof.Gen.ReferenceIdeal.Run
public import proofs.«01_k».proof.Proof.Gen.Pre_bounded
public import proofs.«01_k».proof.Proof.Final
public import Idealize.ShloMosaic.Adequacy
public import Idealize.ShloMosaic.Init
public import Idealize.ShloMosaic.Lib.Bf16Pair

@[expose] public section

noncomputable section

namespace Cert.Proof

open Idealize.ShloMosaic Idealize.SL.Sem Cert.Kernel

/-- The idealization's rules hold where they were used. -/
theorem preserves : Cert.preserves_Kernel_KernelIdeal :=
  ⟨IdealRules.named_const.statement Cert.KernelIdeal.κ "log2_base" .f32 0x41549A78#32 _ rfl,
    IdealRules.named_const.statement Cert.KernelIdeal.κ "inv_n" .f32 0x3AAAAAAB#32 _ rfl,
    IdealRules.bf16_pair.statement _ _ (by decide), IdealRules.bf16_pair.statement _ _ (by decide), IdealRules.bf16_pair.packStatement _⟩

/-- Every claim. -/
theorem claim : Cert.Claim :=
  ⟨Cert.Kernel.Gen.facts, Cert.KernelIdeal.Gen.facts, Cert.ReferenceIdeal.Gen.facts, Cert.Pre_bounded.Gen.facts,
    fun m ρ _ => Cert.Kernel.Gen.frame m ρ trivial, fun m ρ _ => Cert.KernelIdeal.Gen.frame m ρ trivial, fun m ρ _ => Cert.KernelIdeal.Gen.frame m ρ trivial,
    fun m ρ _ => Cert.ReferenceIdeal.Gen.frame m ρ, fun m ρ _ => Cert.ReferenceIdeal.Gen.frame m ρ, preserves, Cert.Agree.algebraic⟩

end Cert.Proof

end
